-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_PostSsd (m : (ℓ : Loc Cert.PostSsd.nD Cert.PostSsd.τ Cert.PostSsd.sig) → Buf (Elt Bits) ℓ) : Prop :=
  True

def Pre_PostSsdIdeal (m : (ℓ : Loc Cert.PostSsdIdeal.nD Cert.PostSsdIdeal.τ Cert.PostSsdIdeal.sig) → Buf (Elt Ideal) ℓ) : Prop :=
  True

def Pre_LayerEndIdeal (m : (ℓ : Loc Cert.LayerEndIdeal.nD Cert.LayerEndIdeal.τ Cert.LayerEndIdeal.sig) → Buf (Elt Ideal) ℓ) : Prop :=
  True

def Pre_PostMla (m : (ℓ : Loc Cert.PostMla.nD Cert.PostMla.τ Cert.PostMla.sig) → Buf (Elt Bits) ℓ) : Prop :=
  True

def Pre_PostMlaIdeal (m : (ℓ : Loc Cert.PostMlaIdeal.nD Cert.PostMlaIdeal.τ Cert.PostMlaIdeal.sig) → Buf (Elt Ideal) ℓ) : Prop :=
  True

def Pre_LayerMidIdeal (m : (ℓ : Loc Cert.LayerMidIdeal.nD Cert.LayerMidIdeal.τ Cert.LayerMidIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdProjIdeal (m : (ℓ : Loc Cert.SsdProjIdeal.nD Cert.SsdProjIdeal.τ Cert.SsdProjIdeal.sig) → Buf (Elt Ideal) ℓ) : Prop :=
  True

def Pre_MlaProj (m : (ℓ : Loc Cert.MlaProj.nD Cert.MlaProj.τ Cert.MlaProj.sig) → Buf (Elt Bits) ℓ) : Prop :=
  True

def Pre_MlaProjIdeal (m : (ℓ : Loc Cert.MlaProjIdeal.nD Cert.MlaProjIdeal.τ Cert.MlaProjIdeal.sig) → Buf (Elt Ideal) ℓ) : Prop :=
  True

def Pre_LatentQkvIdeal (m : (ℓ : Loc Cert.LatentQkvIdeal.nD Cert.LatentQkvIdeal.τ Cert.LatentQkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_PostSsd [hPostSsd : Cert.PostSsd.Facts] : Prop :=
  ∀ (m : (ℓ : Loc Cert.PostSsd.nD Cert.PostSsd.τ Cert.PostSsd.sig) → Buf (Elt Bits) ℓ) (g : Dev Cert.PostSsd.nD → PrngReg), Pre_PostSsd m →
    θ_run (Cert.PostSsd.defs (F := Bits)) (onTc (τ := Cert.PostSsd.τ) (Cert.PostSsd.main (F := Bits))) ⟨m, fun _ => 0, g⟩ (fun r => (∀ c : Dev Cert.PostSsd.nD,
      r.2.mem ((c.tc : Thread Cert.PostSsd.nD Cert.PostSsd.τ).loc Cert.PostSsd.main_arg0) = m ((c.tc : Thread Cert.PostSsd.nD Cert.PostSsd.τ).loc Cert.PostSsd.main_arg0)
      ∧ r.2.mem ((c.tc : Thread Cert.PostSsd.nD Cert.PostSsd.τ).loc Cert.PostSsd.main_arg1) = m ((c.tc : Thread Cert.PostSsd.nD Cert.PostSsd.τ).loc Cert.PostSsd.main_arg1)
      ∧ r.2.mem ((c.tc : Thread Cert.PostSsd.nD Cert.PostSsd.τ).loc Cert.PostSsd.main_arg2) = m ((c.tc : Thread Cert.PostSsd.nD Cert.PostSsd.τ).loc Cert.PostSsd.main_arg2)
      ∧ r.2.mem ((c.tc : Thread Cert.PostSsd.nD Cert.PostSsd.τ).loc Cert.PostSsd.main_arg3) = m ((c.tc : Thread Cert.PostSsd.nD Cert.PostSsd.τ).loc Cert.PostSsd.main_arg3)
      ∧ r.2.mem ((c.tc : Thread Cert.PostSsd.nD Cert.PostSsd.τ).loc Cert.PostSsd.main_arg4) = m ((c.tc : Thread Cert.PostSsd.nD Cert.PostSsd.τ).loc Cert.PostSsd.main_arg4)
      ∧ r.2.mem ((c.tc : Thread Cert.PostSsd.nD Cert.PostSsd.τ).loc Cert.PostSsd.main_arg5) = m ((c.tc : Thread Cert.PostSsd.nD Cert.PostSsd.τ).loc Cert.PostSsd.main_arg5)
      ∧ r.2.mem ((c.tc : Thread Cert.PostSsd.nD Cert.PostSsd.τ).loc Cert.PostSsd.main_arg6) = m ((c.tc : Thread Cert.PostSsd.nD Cert.PostSsd.τ).loc Cert.PostSsd.main_arg6)
      ∧ r.2.mem ((c.tc : Thread Cert.PostSsd.nD Cert.PostSsd.τ).loc Cert.PostSsd.main_arg7) = m ((c.tc : Thread Cert.PostSsd.nD Cert.PostSsd.τ).loc Cert.PostSsd.main_arg7)
      ∧ r.2.mem ((c.tc : Thread Cert.PostSsd.nD Cert.PostSsd.τ).loc Cert.PostSsd.main_arg8) = m ((c.tc : Thread Cert.PostSsd.nD Cert.PostSsd.τ).loc Cert.PostSsd.main_arg8)
      ∧ r.2.mem ((c.tc : Thread Cert.PostSsd.nD Cert.PostSsd.τ).loc Cert.PostSsd.main_arg9) = m ((c.tc : Thread Cert.PostSsd.nD Cert.PostSsd.τ).loc Cert.PostSsd.main_arg9)
      ∧ r.2.mem ((c.tc : Thread Cert.PostSsd.nD Cert.PostSsd.τ).loc Cert.PostSsd.main_arg10) = m ((c.tc : Thread Cert.PostSsd.nD Cert.PostSsd.τ).loc Cert.PostSsd.main_arg10))
      ∧ r.2.sem = fun _ => 0)

def quiescent_PostSsdIdeal [hPostSsdIdeal : Cert.PostSsdIdeal.Facts] : Prop :=
  ∀ (m : (ℓ : Loc Cert.PostSsdIdeal.nD Cert.PostSsdIdeal.τ Cert.PostSsdIdeal.sig) → Buf (Elt Ideal) ℓ) (g : Dev Cert.PostSsdIdeal.nD → PrngReg), Pre_PostSsdIdeal m →
    θ_run (Cert.PostSsdIdeal.defs (F := Ideal)) (onTc (τ := Cert.PostSsdIdeal.τ) (Cert.PostSsdIdeal.main (F := Ideal))) ⟨m, fun _ => 0, g⟩ (fun r => (∀ c : Dev Cert.PostSsdIdeal.nD,
      r.2.mem ((c.tc : Thread Cert.PostSsdIdeal.nD Cert.PostSsdIdeal.τ).loc Cert.PostSsdIdeal.main_arg0) = m ((c.tc : Thread Cert.PostSsdIdeal.nD Cert.PostSsdIdeal.τ).loc Cert.PostSsdIdeal.main_arg0)
      ∧ r.2.mem ((c.tc : Thread Cert.PostSsdIdeal.nD Cert.PostSsdIdeal.τ).loc Cert.PostSsdIdeal.main_arg1) = m ((c.tc : Thread Cert.PostSsdIdeal.nD Cert.PostSsdIdeal.τ).loc Cert.PostSsdIdeal.main_arg1)
      ∧ r.2.mem ((c.tc : Thread Cert.PostSsdIdeal.nD Cert.PostSsdIdeal.τ).loc Cert.PostSsdIdeal.main_arg2) = m ((c.tc : Thread Cert.PostSsdIdeal.nD Cert.PostSsdIdeal.τ).loc Cert.PostSsdIdeal.main_arg2)
      ∧ r.2.mem ((c.tc : Thread Cert.PostSsdIdeal.nD Cert.PostSsdIdeal.τ).loc Cert.PostSsdIdeal.main_arg3) = m ((c.tc : Thread Cert.PostSsdIdeal.nD Cert.PostSsdIdeal.τ).loc Cert.PostSsdIdeal.main_arg3)
      ∧ r.2.mem ((c.tc : Thread Cert.PostSsdIdeal.nD Cert.PostSsdIdeal.τ).loc Cert.PostSsdIdeal.main_arg4) = m ((c.tc : Thread Cert.PostSsdIdeal.nD Cert.PostSsdIdeal.τ).loc Cert.PostSsdIdeal.main_arg4)
      ∧ r.2.mem ((c.tc : Thread Cert.PostSsdIdeal.nD Cert.PostSsdIdeal.τ).loc Cert.PostSsdIdeal.main_arg5) = m ((c.tc : Thread Cert.PostSsdIdeal.nD Cert.PostSsdIdeal.τ).loc Cert.PostSsdIdeal.main_arg5)
      ∧ r.2.mem ((c.tc : Thread Cert.PostSsdIdeal.nD Cert.PostSsdIdeal.τ).loc Cert.PostSsdIdeal.main_arg6) = m ((c.tc : Thread Cert.PostSsdIdeal.nD Cert.PostSsdIdeal.τ).loc Cert.PostSsdIdeal.main_arg6)
      ∧ r.2.mem ((c.tc : Thread Cert.PostSsdIdeal.nD Cert.PostSsdIdeal.τ).loc Cert.PostSsdIdeal.main_arg7) = m ((c.tc : Thread Cert.PostSsdIdeal.nD Cert.PostSsdIdeal.τ).loc Cert.PostSsdIdeal.main_arg7)
      ∧ r.2.mem ((c.tc : Thread Cert.PostSsdIdeal.nD Cert.PostSsdIdeal.τ).loc Cert.PostSsdIdeal.main_arg8) = m ((c.tc : Thread Cert.PostSsdIdeal.nD Cert.PostSsdIdeal.τ).loc Cert.PostSsdIdeal.main_arg8)
      ∧ r.2.mem ((c.tc : Thread Cert.PostSsdIdeal.nD Cert.PostSsdIdeal.τ).loc Cert.PostSsdIdeal.main_arg9) = m ((c.tc : Thread Cert.PostSsdIdeal.nD Cert.PostSsdIdeal.τ).loc Cert.PostSsdIdeal.main_arg9)
      ∧ r.2.mem ((c.tc : Thread Cert.PostSsdIdeal.nD Cert.PostSsdIdeal.τ).loc Cert.PostSsdIdeal.main_arg10) = m ((c.tc : Thread Cert.PostSsdIdeal.nD Cert.PostSsdIdeal.τ).loc Cert.PostSsdIdeal.main_arg10))
      ∧ r.2.sem = fun _ => 0)

def quiescent_LayerEndIdeal [hLayerEndIdeal : Cert.LayerEndIdeal.Facts] : Prop :=
  ∀ (m : (ℓ : Loc Cert.LayerEndIdeal.nD Cert.LayerEndIdeal.τ Cert.LayerEndIdeal.sig) → Buf (Elt Ideal) ℓ) (g : Dev Cert.LayerEndIdeal.nD → PrngReg), Pre_LayerEndIdeal m →
    θ_run (Cert.LayerEndIdeal.defs (F := Ideal)) (onTc (τ := Cert.LayerEndIdeal.τ) (Cert.LayerEndIdeal.main (F := Ideal))) ⟨m, fun _ => 0, g⟩ (fun r => (∀ c : Dev Cert.LayerEndIdeal.nD,
      r.2.mem ((c.tc : Thread Cert.LayerEndIdeal.nD Cert.LayerEndIdeal.τ).loc Cert.LayerEndIdeal.main_arg0) = m ((c.tc : Thread Cert.LayerEndIdeal.nD Cert.LayerEndIdeal.τ).loc Cert.LayerEndIdeal.main_arg0)
      ∧ r.2.mem ((c.tc : Thread Cert.LayerEndIdeal.nD Cert.LayerEndIdeal.τ).loc Cert.LayerEndIdeal.main_arg1) = m ((c.tc : Thread Cert.LayerEndIdeal.nD Cert.LayerEndIdeal.τ).loc Cert.LayerEndIdeal.main_arg1)
      ∧ r.2.mem ((c.tc : Thread Cert.LayerEndIdeal.nD Cert.LayerEndIdeal.τ).loc Cert.LayerEndIdeal.main_arg2) = m ((c.tc : Thread Cert.LayerEndIdeal.nD Cert.LayerEndIdeal.τ).loc Cert.LayerEndIdeal.main_arg2)
      ∧ r.2.mem ((c.tc : Thread Cert.LayerEndIdeal.nD Cert.LayerEndIdeal.τ).loc Cert.LayerEndIdeal.main_arg3) = m ((c.tc : Thread Cert.LayerEndIdeal.nD Cert.LayerEndIdeal.τ).loc Cert.LayerEndIdeal.main_arg3)
      ∧ r.2.mem ((c.tc : Thread Cert.LayerEndIdeal.nD Cert.LayerEndIdeal.τ).loc Cert.LayerEndIdeal.main_arg4) = m ((c.tc : Thread Cert.LayerEndIdeal.nD Cert.LayerEndIdeal.τ).loc Cert.LayerEndIdeal.main_arg4)
      ∧ r.2.mem ((c.tc : Thread Cert.LayerEndIdeal.nD Cert.LayerEndIdeal.τ).loc Cert.LayerEndIdeal.main_arg5) = m ((c.tc : Thread Cert.LayerEndIdeal.nD Cert.LayerEndIdeal.τ).loc Cert.LayerEndIdeal.main_arg5)
      ∧ r.2.mem ((c.tc : Thread Cert.LayerEndIdeal.nD Cert.LayerEndIdeal.τ).loc Cert.LayerEndIdeal.main_arg6) = m ((c.tc : Thread Cert.LayerEndIdeal.nD Cert.LayerEndIdeal.τ).loc Cert.LayerEndIdeal.main_arg6)
      ∧ r.2.mem ((c.tc : Thread Cert.LayerEndIdeal.nD Cert.LayerEndIdeal.τ).loc Cert.LayerEndIdeal.main_arg7) = m ((c.tc : Thread Cert.LayerEndIdeal.nD Cert.LayerEndIdeal.τ).loc Cert.LayerEndIdeal.main_arg7)
      ∧ r.2.mem ((c.tc : Thread Cert.LayerEndIdeal.nD Cert.LayerEndIdeal.τ).loc Cert.LayerEndIdeal.main_arg8) = m ((c.tc : Thread Cert.LayerEndIdeal.nD Cert.LayerEndIdeal.τ).loc Cert.LayerEndIdeal.main_arg8)
      ∧ r.2.mem ((c.tc : Thread Cert.LayerEndIdeal.nD Cert.LayerEndIdeal.τ).loc Cert.LayerEndIdeal.main_arg9) = m ((c.tc : Thread Cert.LayerEndIdeal.nD Cert.LayerEndIdeal.τ).loc Cert.LayerEndIdeal.main_arg9)
      ∧ r.2.mem ((c.tc : Thread Cert.LayerEndIdeal.nD Cert.LayerEndIdeal.τ).loc Cert.LayerEndIdeal.main_arg10) = m ((c.tc : Thread Cert.LayerEndIdeal.nD Cert.LayerEndIdeal.τ).loc Cert.LayerEndIdeal.main_arg10))
      ∧ r.2.sem = fun _ => 0)

def quiescent_PostMla [hPostMla : Cert.PostMla.Facts] : Prop :=
  ∀ (m : (ℓ : Loc Cert.PostMla.nD Cert.PostMla.τ Cert.PostMla.sig) → Buf (Elt Bits) ℓ) (g : Dev Cert.PostMla.nD → PrngReg), Pre_PostMla m →
    θ_run (Cert.PostMla.defs (F := Bits)) (onTc (τ := Cert.PostMla.τ) (Cert.PostMla.main (F := Bits))) ⟨m, fun _ => 0, g⟩ (fun r => (∀ c : Dev Cert.PostMla.nD,
      r.2.mem ((c.tc : Thread Cert.PostMla.nD Cert.PostMla.τ).loc Cert.PostMla.main_arg0) = m ((c.tc : Thread Cert.PostMla.nD Cert.PostMla.τ).loc Cert.PostMla.main_arg0)
      ∧ r.2.mem ((c.tc : Thread Cert.PostMla.nD Cert.PostMla.τ).loc Cert.PostMla.main_arg1) = m ((c.tc : Thread Cert.PostMla.nD Cert.PostMla.τ).loc Cert.PostMla.main_arg1)
      ∧ r.2.mem ((c.tc : Thread Cert.PostMla.nD Cert.PostMla.τ).loc Cert.PostMla.main_arg2) = m ((c.tc : Thread Cert.PostMla.nD Cert.PostMla.τ).loc Cert.PostMla.main_arg2)
      ∧ r.2.mem ((c.tc : Thread Cert.PostMla.nD Cert.PostMla.τ).loc Cert.PostMla.main_arg3) = m ((c.tc : Thread Cert.PostMla.nD Cert.PostMla.τ).loc Cert.PostMla.main_arg3)
      ∧ r.2.mem ((c.tc : Thread Cert.PostMla.nD Cert.PostMla.τ).loc Cert.PostMla.main_arg4) = m ((c.tc : Thread Cert.PostMla.nD Cert.PostMla.τ).loc Cert.PostMla.main_arg4)
      ∧ r.2.mem ((c.tc : Thread Cert.PostMla.nD Cert.PostMla.τ).loc Cert.PostMla.main_arg5) = m ((c.tc : Thread Cert.PostMla.nD Cert.PostMla.τ).loc Cert.PostMla.main_arg5)
      ∧ r.2.mem ((c.tc : Thread Cert.PostMla.nD Cert.PostMla.τ).loc Cert.PostMla.main_arg6) = m ((c.tc : Thread Cert.PostMla.nD Cert.PostMla.τ).loc Cert.PostMla.main_arg6)
      ∧ r.2.mem ((c.tc : Thread Cert.PostMla.nD Cert.PostMla.τ).loc Cert.PostMla.main_arg7) = m ((c.tc : Thread Cert.PostMla.nD Cert.PostMla.τ).loc Cert.PostMla.main_arg7))
      ∧ r.2.sem = fun _ => 0)

def quiescent_PostMlaIdeal [hPostMlaIdeal : Cert.PostMlaIdeal.Facts] : Prop :=
  ∀ (m : (ℓ : Loc Cert.PostMlaIdeal.nD Cert.PostMlaIdeal.τ Cert.PostMlaIdeal.sig) → Buf (Elt Ideal) ℓ) (g : Dev Cert.PostMlaIdeal.nD → PrngReg), Pre_PostMlaIdeal m →
    θ_run (Cert.PostMlaIdeal.defs (F := Ideal)) (onTc (τ := Cert.PostMlaIdeal.τ) (Cert.PostMlaIdeal.main (F := Ideal))) ⟨m, fun _ => 0, g⟩ (fun r => (∀ c : Dev Cert.PostMlaIdeal.nD,
      r.2.mem ((c.tc : Thread Cert.PostMlaIdeal.nD Cert.PostMlaIdeal.τ).loc Cert.PostMlaIdeal.main_arg0) = m ((c.tc : Thread Cert.PostMlaIdeal.nD Cert.PostMlaIdeal.τ).loc Cert.PostMlaIdeal.main_arg0)
      ∧ r.2.mem ((c.tc : Thread Cert.PostMlaIdeal.nD Cert.PostMlaIdeal.τ).loc Cert.PostMlaIdeal.main_arg1) = m ((c.tc : Thread Cert.PostMlaIdeal.nD Cert.PostMlaIdeal.τ).loc Cert.PostMlaIdeal.main_arg1)
      ∧ r.2.mem ((c.tc : Thread Cert.PostMlaIdeal.nD Cert.PostMlaIdeal.τ).loc Cert.PostMlaIdeal.main_arg2) = m ((c.tc : Thread Cert.PostMlaIdeal.nD Cert.PostMlaIdeal.τ).loc Cert.PostMlaIdeal.main_arg2)
      ∧ r.2.mem ((c.tc : Thread Cert.PostMlaIdeal.nD Cert.PostMlaIdeal.τ).loc Cert.PostMlaIdeal.main_arg3) = m ((c.tc : Thread Cert.PostMlaIdeal.nD Cert.PostMlaIdeal.τ).loc Cert.PostMlaIdeal.main_arg3)
      ∧ r.2.mem ((c.tc : Thread Cert.PostMlaIdeal.nD Cert.PostMlaIdeal.τ).loc Cert.PostMlaIdeal.main_arg4) = m ((c.tc : Thread Cert.PostMlaIdeal.nD Cert.PostMlaIdeal.τ).loc Cert.PostMlaIdeal.main_arg4)
      ∧ r.2.mem ((c.tc : Thread Cert.PostMlaIdeal.nD Cert.PostMlaIdeal.τ).loc Cert.PostMlaIdeal.main_arg5) = m ((c.tc : Thread Cert.PostMlaIdeal.nD Cert.PostMlaIdeal.τ).loc Cert.PostMlaIdeal.main_arg5)
      ∧ r.2.mem ((c.tc : Thread Cert.PostMlaIdeal.nD Cert.PostMlaIdeal.τ).loc Cert.PostMlaIdeal.main_arg6) = m ((c.tc : Thread Cert.PostMlaIdeal.nD Cert.PostMlaIdeal.τ).loc Cert.PostMlaIdeal.main_arg6)
      ∧ r.2.mem ((c.tc : Thread Cert.PostMlaIdeal.nD Cert.PostMlaIdeal.τ).loc Cert.PostMlaIdeal.main_arg7) = m ((c.tc : Thread Cert.PostMlaIdeal.nD Cert.PostMlaIdeal.τ).loc Cert.PostMlaIdeal.main_arg7))
      ∧ r.2.sem = fun _ => 0)

def quiescent_LayerMidIdeal [hLayerMidIdeal : Cert.LayerMidIdeal.Facts] : Prop :=
  ∀ (m : (ℓ : Loc Cert.LayerMidIdeal.nD Cert.LayerMidIdeal.τ Cert.LayerMidIdeal.sig) → Buf (Elt Ideal) ℓ) (g : Dev Cert.LayerMidIdeal.nD → PrngReg), Pre_LayerMidIdeal m →
    θ_run (Cert.LayerMidIdeal.defs (F := Ideal)) (onTc (τ := Cert.LayerMidIdeal.τ) (Cert.LayerMidIdeal.main (F := Ideal))) ⟨m, fun _ => 0, g⟩ (fun r => (∀ c : Dev Cert.LayerMidIdeal.nD,
      r.2.mem ((c.tc : Thread Cert.LayerMidIdeal.nD Cert.LayerMidIdeal.τ).loc Cert.LayerMidIdeal.main_arg0) = m ((c.tc : Thread Cert.LayerMidIdeal.nD Cert.LayerMidIdeal.τ).loc Cert.LayerMidIdeal.main_arg0)
      ∧ r.2.mem ((c.tc : Thread Cert.LayerMidIdeal.nD Cert.LayerMidIdeal.τ).loc Cert.LayerMidIdeal.main_arg1) = m ((c.tc : Thread Cert.LayerMidIdeal.nD Cert.LayerMidIdeal.τ).loc Cert.LayerMidIdeal.main_arg1)
      ∧ r.2.mem ((c.tc : Thread Cert.LayerMidIdeal.nD Cert.LayerMidIdeal.τ).loc Cert.LayerMidIdeal.main_arg2) = m ((c.tc : Thread Cert.LayerMidIdeal.nD Cert.LayerMidIdeal.τ).loc Cert.LayerMidIdeal.main_arg2)
      ∧ r.2.mem ((c.tc : Thread Cert.LayerMidIdeal.nD Cert.LayerMidIdeal.τ).loc Cert.LayerMidIdeal.main_arg3) = m ((c.tc : Thread Cert.LayerMidIdeal.nD Cert.LayerMidIdeal.τ).loc Cert.LayerMidIdeal.main_arg3)
      ∧ r.2.mem ((c.tc : Thread Cert.LayerMidIdeal.nD Cert.LayerMidIdeal.τ).loc Cert.LayerMidIdeal.main_arg4) = m ((c.tc : Thread Cert.LayerMidIdeal.nD Cert.LayerMidIdeal.τ).loc Cert.LayerMidIdeal.main_arg4)
      ∧ r.2.mem ((c.tc : Thread Cert.LayerMidIdeal.nD Cert.LayerMidIdeal.τ).loc Cert.LayerMidIdeal.main_arg5) = m ((c.tc : Thread Cert.LayerMidIdeal.nD Cert.LayerMidIdeal.τ).loc Cert.LayerMidIdeal.main_arg5)
      ∧ r.2.mem ((c.tc : Thread Cert.LayerMidIdeal.nD Cert.LayerMidIdeal.τ).loc Cert.LayerMidIdeal.main_arg6) = m ((c.tc : Thread Cert.LayerMidIdeal.nD Cert.LayerMidIdeal.τ).loc Cert.LayerMidIdeal.main_arg6)
      ∧ r.2.mem ((c.tc : Thread Cert.LayerMidIdeal.nD Cert.LayerMidIdeal.τ).loc Cert.LayerMidIdeal.main_arg7) = m ((c.tc : Thread Cert.LayerMidIdeal.nD Cert.LayerMidIdeal.τ).loc Cert.LayerMidIdeal.main_arg7))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3)
      ∧ r.2.mem ((c.tc : Thread Cert.SsdIn.nD Cert.SsdIn.τ).loc Cert.SsdIn.main_arg4) = m ((c.tc : Thread Cert.SsdIn.nD Cert.SsdIn.τ).loc Cert.SsdIn.main_arg4))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4))
      ∧ r.2.sem = fun _ => 0)

def quiescent_SsdProjIdeal [hSsdProjIdeal : Cert.SsdProjIdeal.Facts] : Prop :=
  ∀ (m : (ℓ : Loc Cert.SsdProjIdeal.nD Cert.SsdProjIdeal.τ Cert.SsdProjIdeal.sig) → Buf (Elt Ideal) ℓ) (g : Dev Cert.SsdProjIdeal.nD → PrngReg), Pre_SsdProjIdeal m →
    θ_run (Cert.SsdProjIdeal.defs (F := Ideal)) (onTc (τ := Cert.SsdProjIdeal.τ) (Cert.SsdProjIdeal.main (F := Ideal))) ⟨m, fun _ => 0, g⟩ (fun r => (∀ c : Dev Cert.SsdProjIdeal.nD,
      r.2.mem ((c.tc : Thread Cert.SsdProjIdeal.nD Cert.SsdProjIdeal.τ).loc Cert.SsdProjIdeal.main_arg0) = m ((c.tc : Thread Cert.SsdProjIdeal.nD Cert.SsdProjIdeal.τ).loc Cert.SsdProjIdeal.main_arg0)
      ∧ r.2.mem ((c.tc : Thread Cert.SsdProjIdeal.nD Cert.SsdProjIdeal.τ).loc Cert.SsdProjIdeal.main_arg1) = m ((c.tc : Thread Cert.SsdProjIdeal.nD Cert.SsdProjIdeal.τ).loc Cert.SsdProjIdeal.main_arg1)
      ∧ r.2.mem ((c.tc : Thread Cert.SsdProjIdeal.nD Cert.SsdProjIdeal.τ).loc Cert.SsdProjIdeal.main_arg2) = m ((c.tc : Thread Cert.SsdProjIdeal.nD Cert.SsdProjIdeal.τ).loc Cert.SsdProjIdeal.main_arg2)
      ∧ r.2.mem ((c.tc : Thread Cert.SsdProjIdeal.nD Cert.SsdProjIdeal.τ).loc Cert.SsdProjIdeal.main_arg3) = m ((c.tc : Thread Cert.SsdProjIdeal.nD Cert.SsdProjIdeal.τ).loc Cert.SsdProjIdeal.main_arg3)
      ∧ r.2.mem ((c.tc : Thread Cert.SsdProjIdeal.nD Cert.SsdProjIdeal.τ).loc Cert.SsdProjIdeal.main_arg4) = m ((c.tc : Thread Cert.SsdProjIdeal.nD Cert.SsdProjIdeal.τ).loc Cert.SsdProjIdeal.main_arg4))
      ∧ r.2.sem = fun _ => 0)

def quiescent_MlaProj [hMlaProj : Cert.MlaProj.Facts] : Prop :=
  ∀ (m : (ℓ : Loc Cert.MlaProj.nD Cert.MlaProj.τ Cert.MlaProj.sig) → Buf (Elt Bits) ℓ) (g : Dev Cert.MlaProj.nD → PrngReg), Pre_MlaProj m →
    θ_run (Cert.MlaProj.defs (F := Bits)) (onTc (τ := Cert.MlaProj.τ) (Cert.MlaProj.main (F := Bits))) ⟨m, fun _ => 0, g⟩ (fun r => (∀ c : Dev Cert.MlaProj.nD,
      r.2.mem ((c.tc : Thread Cert.MlaProj.nD Cert.MlaProj.τ).loc Cert.MlaProj.main_arg0) = m ((c.tc : Thread Cert.MlaProj.nD Cert.MlaProj.τ).loc Cert.MlaProj.main_arg0)
      ∧ r.2.mem ((c.tc : Thread Cert.MlaProj.nD Cert.MlaProj.τ).loc Cert.MlaProj.main_arg1) = m ((c.tc : Thread Cert.MlaProj.nD Cert.MlaProj.τ).loc Cert.MlaProj.main_arg1)
      ∧ r.2.mem ((c.tc : Thread Cert.MlaProj.nD Cert.MlaProj.τ).loc Cert.MlaProj.main_arg2) = m ((c.tc : Thread Cert.MlaProj.nD Cert.MlaProj.τ).loc Cert.MlaProj.main_arg2)
      ∧ r.2.mem ((c.tc : Thread Cert.MlaProj.nD Cert.MlaProj.τ).loc Cert.MlaProj.main_arg3) = m ((c.tc : Thread Cert.MlaProj.nD Cert.MlaProj.τ).loc Cert.MlaProj.main_arg3)
      ∧ r.2.mem ((c.tc : Thread Cert.MlaProj.nD Cert.MlaProj.τ).loc Cert.MlaProj.main_arg4) = m ((c.tc : Thread Cert.MlaProj.nD Cert.MlaProj.τ).loc Cert.MlaProj.main_arg4)
      ∧ r.2.mem ((c.tc : Thread Cert.MlaProj.nD Cert.MlaProj.τ).loc Cert.MlaProj.main_arg5) = m ((c.tc : Thread Cert.MlaProj.nD Cert.MlaProj.τ).loc Cert.MlaProj.main_arg5)
      ∧ r.2.mem ((c.tc : Thread Cert.MlaProj.nD Cert.MlaProj.τ).loc Cert.MlaProj.main_arg6) = m ((c.tc : Thread Cert.MlaProj.nD Cert.MlaProj.τ).loc Cert.MlaProj.main_arg6)
      ∧ r.2.mem ((c.tc : Thread Cert.MlaProj.nD Cert.MlaProj.τ).loc Cert.MlaProj.main_arg7) = m ((c.tc : Thread Cert.MlaProj.nD Cert.MlaProj.τ).loc Cert.MlaProj.main_arg7)
      ∧ r.2.mem ((c.tc : Thread Cert.MlaProj.nD Cert.MlaProj.τ).loc Cert.MlaProj.main_arg8) = m ((c.tc : Thread Cert.MlaProj.nD Cert.MlaProj.τ).loc Cert.MlaProj.main_arg8)
      ∧ r.2.mem ((c.tc : Thread Cert.MlaProj.nD Cert.MlaProj.τ).loc Cert.MlaProj.main_arg9) = m ((c.tc : Thread Cert.MlaProj.nD Cert.MlaProj.τ).loc Cert.MlaProj.main_arg9))
      ∧ r.2.sem = fun _ => 0)

def quiescent_MlaProjIdeal [hMlaProjIdeal : Cert.MlaProjIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg), Pre_MlaProjIdeal m →
    θ_run (Cert.MlaProjIdeal.defs (F := Ideal)) (onTc (τ := Cert.MlaProjIdeal.τ) (Cert.MlaProjIdeal.main (F := Ideal))) ⟨m, fun _ => 0, g⟩ (fun r => (∀ c : Dev Cert.MlaProjIdeal.nD,
      r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
      ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
      ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
      ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
      ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
      ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
      ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
      ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
      ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
      ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9))
      ∧ r.2.sem = fun _ => 0)

def quiescent_LatentQkvIdeal [hLatentQkvIdeal : Cert.LatentQkvIdeal.Facts] : Prop :=
  ∀ (m : (ℓ : Loc Cert.LatentQkvIdeal.nD Cert.LatentQkvIdeal.τ Cert.LatentQkvIdeal.sig) → Buf (Elt Ideal) ℓ) (g : Dev Cert.LatentQkvIdeal.nD → PrngReg), Pre_LatentQkvIdeal m →
    θ_run (Cert.LatentQkvIdeal.defs (F := Ideal)) (onTc (τ := Cert.LatentQkvIdeal.τ) (Cert.LatentQkvIdeal.main (F := Ideal))) ⟨m, fun _ => 0, g⟩ (fun r => (∀ c : Dev Cert.LatentQkvIdeal.nD,
      r.2.mem ((c.tc : Thread Cert.LatentQkvIdeal.nD Cert.LatentQkvIdeal.τ).loc Cert.LatentQkvIdeal.main_arg0) = m ((c.tc : Thread Cert.LatentQkvIdeal.nD Cert.LatentQkvIdeal.τ).loc Cert.LatentQkvIdeal.main_arg0)
      ∧ r.2.mem ((c.tc : Thread Cert.LatentQkvIdeal.nD Cert.LatentQkvIdeal.τ).loc Cert.LatentQkvIdeal.main_arg1) = m ((c.tc : Thread Cert.LatentQkvIdeal.nD Cert.LatentQkvIdeal.τ).loc Cert.LatentQkvIdeal.main_arg1)
      ∧ r.2.mem ((c.tc : Thread Cert.LatentQkvIdeal.nD Cert.LatentQkvIdeal.τ).loc Cert.LatentQkvIdeal.main_arg2) = m ((c.tc : Thread Cert.LatentQkvIdeal.nD Cert.LatentQkvIdeal.τ).loc Cert.LatentQkvIdeal.main_arg2)
      ∧ r.2.mem ((c.tc : Thread Cert.LatentQkvIdeal.nD Cert.LatentQkvIdeal.τ).loc Cert.LatentQkvIdeal.main_arg3) = m ((c.tc : Thread Cert.LatentQkvIdeal.nD Cert.LatentQkvIdeal.τ).loc Cert.LatentQkvIdeal.main_arg3)
      ∧ r.2.mem ((c.tc : Thread Cert.LatentQkvIdeal.nD Cert.LatentQkvIdeal.τ).loc Cert.LatentQkvIdeal.main_arg4) = m ((c.tc : Thread Cert.LatentQkvIdeal.nD Cert.LatentQkvIdeal.τ).loc Cert.LatentQkvIdeal.main_arg4)
      ∧ r.2.mem ((c.tc : Thread Cert.LatentQkvIdeal.nD Cert.LatentQkvIdeal.τ).loc Cert.LatentQkvIdeal.main_arg5) = m ((c.tc : Thread Cert.LatentQkvIdeal.nD Cert.LatentQkvIdeal.τ).loc Cert.LatentQkvIdeal.main_arg5)
      ∧ r.2.mem ((c.tc : Thread Cert.LatentQkvIdeal.nD Cert.LatentQkvIdeal.τ).loc Cert.LatentQkvIdeal.main_arg6) = m ((c.tc : Thread Cert.LatentQkvIdeal.nD Cert.LatentQkvIdeal.τ).loc Cert.LatentQkvIdeal.main_arg6)
      ∧ r.2.mem ((c.tc : Thread Cert.LatentQkvIdeal.nD Cert.LatentQkvIdeal.τ).loc Cert.LatentQkvIdeal.main_arg7) = m ((c.tc : Thread Cert.LatentQkvIdeal.nD Cert.LatentQkvIdeal.τ).loc Cert.LatentQkvIdeal.main_arg7)
      ∧ r.2.mem ((c.tc : Thread Cert.LatentQkvIdeal.nD Cert.LatentQkvIdeal.τ).loc Cert.LatentQkvIdeal.main_arg8) = m ((c.tc : Thread Cert.LatentQkvIdeal.nD Cert.LatentQkvIdeal.τ).loc Cert.LatentQkvIdeal.main_arg8)
      ∧ r.2.mem ((c.tc : Thread Cert.LatentQkvIdeal.nD Cert.LatentQkvIdeal.τ).loc Cert.LatentQkvIdeal.main_arg9) = m ((c.tc : Thread Cert.LatentQkvIdeal.nD Cert.LatentQkvIdeal.τ).loc Cert.LatentQkvIdeal.main_arg9))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_PostSsd_PostSsdIdeal : Prop :=
  True

def algebraic_PostSsdIdeal_LayerEndIdeal [hPostSsdIdeal : Cert.PostSsdIdeal.Facts] [hLayerEndIdeal : Cert.LayerEndIdeal.Facts] : Prop :=
  ∀ (m : (ℓ : Loc Cert.PostSsdIdeal.nD Cert.PostSsdIdeal.τ Cert.PostSsdIdeal.sig) → Buf (Elt Ideal) ℓ) (g : Dev Cert.PostSsdIdeal.nD → PrngReg)
    (m' : (ℓ : Loc Cert.LayerEndIdeal.nD Cert.LayerEndIdeal.τ Cert.LayerEndIdeal.sig) → Buf (Elt Ideal) ℓ) (g' : Dev Cert.LayerEndIdeal.nD → PrngReg), Pre_PostSsdIdeal m →
    (∀ c : Dev Cert.PostSsdIdeal.nD,
      m' ((c.tc : Thread Cert.LayerEndIdeal.nD Cert.LayerEndIdeal.τ).loc Cert.LayerEndIdeal.main_arg0) = m ((c.tc : Thread Cert.PostSsdIdeal.nD Cert.PostSsdIdeal.τ).loc Cert.PostSsdIdeal.main_arg0)
      ∧ m' ((c.tc : Thread Cert.LayerEndIdeal.nD Cert.LayerEndIdeal.τ).loc Cert.LayerEndIdeal.main_arg1) = m ((c.tc : Thread Cert.PostSsdIdeal.nD Cert.PostSsdIdeal.τ).loc Cert.PostSsdIdeal.main_arg1)
      ∧ m' ((c.tc : Thread Cert.LayerEndIdeal.nD Cert.LayerEndIdeal.τ).loc Cert.LayerEndIdeal.main_arg2) = m ((c.tc : Thread Cert.PostSsdIdeal.nD Cert.PostSsdIdeal.τ).loc Cert.PostSsdIdeal.main_arg2)
      ∧ m' ((c.tc : Thread Cert.LayerEndIdeal.nD Cert.LayerEndIdeal.τ).loc Cert.LayerEndIdeal.main_arg3) = m ((c.tc : Thread Cert.PostSsdIdeal.nD Cert.PostSsdIdeal.τ).loc Cert.PostSsdIdeal.main_arg3)
      ∧ m' ((c.tc : Thread Cert.LayerEndIdeal.nD Cert.LayerEndIdeal.τ).loc Cert.LayerEndIdeal.main_arg4) = m ((c.tc : Thread Cert.PostSsdIdeal.nD Cert.PostSsdIdeal.τ).loc Cert.PostSsdIdeal.main_arg4)
      ∧ m' ((c.tc : Thread Cert.LayerEndIdeal.nD Cert.LayerEndIdeal.τ).loc Cert.LayerEndIdeal.main_arg5) = m ((c.tc : Thread Cert.PostSsdIdeal.nD Cert.PostSsdIdeal.τ).loc Cert.PostSsdIdeal.main_arg5)
      ∧ m' ((c.tc : Thread Cert.LayerEndIdeal.nD Cert.LayerEndIdeal.τ).loc Cert.LayerEndIdeal.main_arg6) = m ((c.tc : Thread Cert.PostSsdIdeal.nD Cert.PostSsdIdeal.τ).loc Cert.PostSsdIdeal.main_arg6)
      ∧ m' ((c.tc : Thread Cert.LayerEndIdeal.nD Cert.LayerEndIdeal.τ).loc Cert.LayerEndIdeal.main_arg7) = m ((c.tc : Thread Cert.PostSsdIdeal.nD Cert.PostSsdIdeal.τ).loc Cert.PostSsdIdeal.main_arg7)
      ∧ m' ((c.tc : Thread Cert.LayerEndIdeal.nD Cert.LayerEndIdeal.τ).loc Cert.LayerEndIdeal.main_arg8) = m ((c.tc : Thread Cert.PostSsdIdeal.nD Cert.PostSsdIdeal.τ).loc Cert.PostSsdIdeal.main_arg8)
      ∧ m' ((c.tc : Thread Cert.LayerEndIdeal.nD Cert.LayerEndIdeal.τ).loc Cert.LayerEndIdeal.main_arg9) = m ((c.tc : Thread Cert.PostSsdIdeal.nD Cert.PostSsdIdeal.τ).loc Cert.PostSsdIdeal.main_arg9)
      ∧ m' ((c.tc : Thread Cert.LayerEndIdeal.nD Cert.LayerEndIdeal.τ).loc Cert.LayerEndIdeal.main_arg10) = m ((c.tc : Thread Cert.PostSsdIdeal.nD Cert.PostSsdIdeal.τ).loc Cert.PostSsdIdeal.main_arg10)) →
    ∃ (v0 : (c : Dev Cert.PostSsdIdeal.nD) → Buf (Elt Ideal) ((c.tc : Thread Cert.PostSsdIdeal.nD Cert.PostSsdIdeal.τ).loc Cert.PostSsdIdeal.main_v11)),
      θ_run (Cert.PostSsdIdeal.defs (F := Ideal)) (onTc (τ := Cert.PostSsdIdeal.τ) (Cert.PostSsdIdeal.main (F := Ideal))) ⟨m, fun _ => 0, g⟩ (fun r => ∀ c : Dev Cert.PostSsdIdeal.nD,
          r.2.mem ((c.tc : Thread Cert.PostSsdIdeal.nD Cert.PostSsdIdeal.τ).loc Cert.PostSsdIdeal.main_v11) = v0 c
          ∧ r.2.mem ((c.tc : Thread Cert.PostSsdIdeal.nD Cert.PostSsdIdeal.τ).loc Cert.PostSsdIdeal.main_arg0) = m ((c.tc : Thread Cert.PostSsdIdeal.nD Cert.PostSsdIdeal.τ).loc Cert.PostSsdIdeal.main_arg0)
          ∧ r.2.mem ((c.tc : Thread Cert.PostSsdIdeal.nD Cert.PostSsdIdeal.τ).loc Cert.PostSsdIdeal.main_arg1) = m ((c.tc : Thread Cert.PostSsdIdeal.nD Cert.PostSsdIdeal.τ).loc Cert.PostSsdIdeal.main_arg1)
          ∧ r.2.mem ((c.tc : Thread Cert.PostSsdIdeal.nD Cert.PostSsdIdeal.τ).loc Cert.PostSsdIdeal.main_arg2) = m ((c.tc : Thread Cert.PostSsdIdeal.nD Cert.PostSsdIdeal.τ).loc Cert.PostSsdIdeal.main_arg2)
          ∧ r.2.mem ((c.tc : Thread Cert.PostSsdIdeal.nD Cert.PostSsdIdeal.τ).loc Cert.PostSsdIdeal.main_arg3) = m ((c.tc : Thread Cert.PostSsdIdeal.nD Cert.PostSsdIdeal.τ).loc Cert.PostSsdIdeal.main_arg3)
          ∧ r.2.mem ((c.tc : Thread Cert.PostSsdIdeal.nD Cert.PostSsdIdeal.τ).loc Cert.PostSsdIdeal.main_arg4) = m ((c.tc : Thread Cert.PostSsdIdeal.nD Cert.PostSsdIdeal.τ).loc Cert.PostSsdIdeal.main_arg4)
          ∧ r.2.mem ((c.tc : Thread Cert.PostSsdIdeal.nD Cert.PostSsdIdeal.τ).loc Cert.PostSsdIdeal.main_arg5) = m ((c.tc : Thread Cert.PostSsdIdeal.nD Cert.PostSsdIdeal.τ).loc Cert.PostSsdIdeal.main_arg5)
          ∧ r.2.mem ((c.tc : Thread Cert.PostSsdIdeal.nD Cert.PostSsdIdeal.τ).loc Cert.PostSsdIdeal.main_arg6) = m ((c.tc : Thread Cert.PostSsdIdeal.nD Cert.PostSsdIdeal.τ).loc Cert.PostSsdIdeal.main_arg6)
          ∧ r.2.mem ((c.tc : Thread Cert.PostSsdIdeal.nD Cert.PostSsdIdeal.τ).loc Cert.PostSsdIdeal.main_arg7) = m ((c.tc : Thread Cert.PostSsdIdeal.nD Cert.PostSsdIdeal.τ).loc Cert.PostSsdIdeal.main_arg7)
          ∧ r.2.mem ((c.tc : Thread Cert.PostSsdIdeal.nD Cert.PostSsdIdeal.τ).loc Cert.PostSsdIdeal.main_arg8) = m ((c.tc : Thread Cert.PostSsdIdeal.nD Cert.PostSsdIdeal.τ).loc Cert.PostSsdIdeal.main_arg8)
          ∧ r.2.mem ((c.tc : Thread Cert.PostSsdIdeal.nD Cert.PostSsdIdeal.τ).loc Cert.PostSsdIdeal.main_arg9) = m ((c.tc : Thread Cert.PostSsdIdeal.nD Cert.PostSsdIdeal.τ).loc Cert.PostSsdIdeal.main_arg9)
          ∧ r.2.mem ((c.tc : Thread Cert.PostSsdIdeal.nD Cert.PostSsdIdeal.τ).loc Cert.PostSsdIdeal.main_arg10) = m ((c.tc : Thread Cert.PostSsdIdeal.nD Cert.PostSsdIdeal.τ).loc Cert.PostSsdIdeal.main_arg10))
      ∧ θ_run (Cert.LayerEndIdeal.defs (F := Ideal)) (onTc (τ := Cert.LayerEndIdeal.τ) (Cert.LayerEndIdeal.main (F := Ideal))) ⟨m', fun _ => 0, g'⟩ (fun r => ∀ c : Dev Cert.LayerEndIdeal.nD,
          r.2.mem ((c.tc : Thread Cert.LayerEndIdeal.nD Cert.LayerEndIdeal.τ).loc Cert.LayerEndIdeal.main_v76) = v0 c
          ∧ r.2.mem ((c.tc : Thread Cert.LayerEndIdeal.nD Cert.LayerEndIdeal.τ).loc Cert.LayerEndIdeal.main_arg0) = m' ((c.tc : Thread Cert.LayerEndIdeal.nD Cert.LayerEndIdeal.τ).loc Cert.LayerEndIdeal.main_arg0)
          ∧ r.2.mem ((c.tc : Thread Cert.LayerEndIdeal.nD Cert.LayerEndIdeal.τ).loc Cert.LayerEndIdeal.main_arg1) = m' ((c.tc : Thread Cert.LayerEndIdeal.nD Cert.LayerEndIdeal.τ).loc Cert.LayerEndIdeal.main_arg1)
          ∧ r.2.mem ((c.tc : Thread Cert.LayerEndIdeal.nD Cert.LayerEndIdeal.τ).loc Cert.LayerEndIdeal.main_arg2) = m' ((c.tc : Thread Cert.LayerEndIdeal.nD Cert.LayerEndIdeal.τ).loc Cert.LayerEndIdeal.main_arg2)
          ∧ r.2.mem ((c.tc : Thread Cert.LayerEndIdeal.nD Cert.LayerEndIdeal.τ).loc Cert.LayerEndIdeal.main_arg3) = m' ((c.tc : Thread Cert.LayerEndIdeal.nD Cert.LayerEndIdeal.τ).loc Cert.LayerEndIdeal.main_arg3)
          ∧ r.2.mem ((c.tc : Thread Cert.LayerEndIdeal.nD Cert.LayerEndIdeal.τ).loc Cert.LayerEndIdeal.main_arg4) = m' ((c.tc : Thread Cert.LayerEndIdeal.nD Cert.LayerEndIdeal.τ).loc Cert.LayerEndIdeal.main_arg4)
          ∧ r.2.mem ((c.tc : Thread Cert.LayerEndIdeal.nD Cert.LayerEndIdeal.τ).loc Cert.LayerEndIdeal.main_arg5) = m' ((c.tc : Thread Cert.LayerEndIdeal.nD Cert.LayerEndIdeal.τ).loc Cert.LayerEndIdeal.main_arg5)
          ∧ r.2.mem ((c.tc : Thread Cert.LayerEndIdeal.nD Cert.LayerEndIdeal.τ).loc Cert.LayerEndIdeal.main_arg6) = m' ((c.tc : Thread Cert.LayerEndIdeal.nD Cert.LayerEndIdeal.τ).loc Cert.LayerEndIdeal.main_arg6)
          ∧ r.2.mem ((c.tc : Thread Cert.LayerEndIdeal.nD Cert.LayerEndIdeal.τ).loc Cert.LayerEndIdeal.main_arg7) = m' ((c.tc : Thread Cert.LayerEndIdeal.nD Cert.LayerEndIdeal.τ).loc Cert.LayerEndIdeal.main_arg7)
          ∧ r.2.mem ((c.tc : Thread Cert.LayerEndIdeal.nD Cert.LayerEndIdeal.τ).loc Cert.LayerEndIdeal.main_arg8) = m' ((c.tc : Thread Cert.LayerEndIdeal.nD Cert.LayerEndIdeal.τ).loc Cert.LayerEndIdeal.main_arg8)
          ∧ r.2.mem ((c.tc : Thread Cert.LayerEndIdeal.nD Cert.LayerEndIdeal.τ).loc Cert.LayerEndIdeal.main_arg9) = m' ((c.tc : Thread Cert.LayerEndIdeal.nD Cert.LayerEndIdeal.τ).loc Cert.LayerEndIdeal.main_arg9)
          ∧ r.2.mem ((c.tc : Thread Cert.LayerEndIdeal.nD Cert.LayerEndIdeal.τ).loc Cert.LayerEndIdeal.main_arg10) = m' ((c.tc : Thread Cert.LayerEndIdeal.nD Cert.LayerEndIdeal.τ).loc Cert.LayerEndIdeal.main_arg10))

def preserves_PostMla_PostMlaIdeal : Prop :=
  True

def algebraic_PostMlaIdeal_LayerMidIdeal [hPostMlaIdeal : Cert.PostMlaIdeal.Facts] [hLayerMidIdeal : Cert.LayerMidIdeal.Facts] : Prop :=
  ∀ (m : (ℓ : Loc Cert.PostMlaIdeal.nD Cert.PostMlaIdeal.τ Cert.PostMlaIdeal.sig) → Buf (Elt Ideal) ℓ) (g : Dev Cert.PostMlaIdeal.nD → PrngReg)
    (m' : (ℓ : Loc Cert.LayerMidIdeal.nD Cert.LayerMidIdeal.τ Cert.LayerMidIdeal.sig) → Buf (Elt Ideal) ℓ) (g' : Dev Cert.LayerMidIdeal.nD → PrngReg), Pre_PostMlaIdeal m →
    (∀ c : Dev Cert.PostMlaIdeal.nD,
      m' ((c.tc : Thread Cert.LayerMidIdeal.nD Cert.LayerMidIdeal.τ).loc Cert.LayerMidIdeal.main_arg0) = m ((c.tc : Thread Cert.PostMlaIdeal.nD Cert.PostMlaIdeal.τ).loc Cert.PostMlaIdeal.main_arg0)
      ∧ m' ((c.tc : Thread Cert.LayerMidIdeal.nD Cert.LayerMidIdeal.τ).loc Cert.LayerMidIdeal.main_arg1) = m ((c.tc : Thread Cert.PostMlaIdeal.nD Cert.PostMlaIdeal.τ).loc Cert.PostMlaIdeal.main_arg1)
      ∧ m' ((c.tc : Thread Cert.LayerMidIdeal.nD Cert.LayerMidIdeal.τ).loc Cert.LayerMidIdeal.main_arg2) = m ((c.tc : Thread Cert.PostMlaIdeal.nD Cert.PostMlaIdeal.τ).loc Cert.PostMlaIdeal.main_arg2)
      ∧ m' ((c.tc : Thread Cert.LayerMidIdeal.nD Cert.LayerMidIdeal.τ).loc Cert.LayerMidIdeal.main_arg3) = m ((c.tc : Thread Cert.PostMlaIdeal.nD Cert.PostMlaIdeal.τ).loc Cert.PostMlaIdeal.main_arg3)
      ∧ m' ((c.tc : Thread Cert.LayerMidIdeal.nD Cert.LayerMidIdeal.τ).loc Cert.LayerMidIdeal.main_arg4) = m ((c.tc : Thread Cert.PostMlaIdeal.nD Cert.PostMlaIdeal.τ).loc Cert.PostMlaIdeal.main_arg4)
      ∧ m' ((c.tc : Thread Cert.LayerMidIdeal.nD Cert.LayerMidIdeal.τ).loc Cert.LayerMidIdeal.main_arg5) = m ((c.tc : Thread Cert.PostMlaIdeal.nD Cert.PostMlaIdeal.τ).loc Cert.PostMlaIdeal.main_arg5)
      ∧ m' ((c.tc : Thread Cert.LayerMidIdeal.nD Cert.LayerMidIdeal.τ).loc Cert.LayerMidIdeal.main_arg6) = m ((c.tc : Thread Cert.PostMlaIdeal.nD Cert.PostMlaIdeal.τ).loc Cert.PostMlaIdeal.main_arg6)
      ∧ m' ((c.tc : Thread Cert.LayerMidIdeal.nD Cert.LayerMidIdeal.τ).loc Cert.LayerMidIdeal.main_arg7) = m ((c.tc : Thread Cert.PostMlaIdeal.nD Cert.PostMlaIdeal.τ).loc Cert.PostMlaIdeal.main_arg7)) →
    ∃ (v0 : (c : Dev Cert.PostMlaIdeal.nD) → Buf (Elt Ideal) ((c.tc : Thread Cert.PostMlaIdeal.nD Cert.PostMlaIdeal.τ).loc Cert.PostMlaIdeal.main_v8)),
      θ_run (Cert.PostMlaIdeal.defs (F := Ideal)) (onTc (τ := Cert.PostMlaIdeal.τ) (Cert.PostMlaIdeal.main (F := Ideal))) ⟨m, fun _ => 0, g⟩ (fun r => ∀ c : Dev Cert.PostMlaIdeal.nD,
          r.2.mem ((c.tc : Thread Cert.PostMlaIdeal.nD Cert.PostMlaIdeal.τ).loc Cert.PostMlaIdeal.main_v8) = v0 c
          ∧ r.2.mem ((c.tc : Thread Cert.PostMlaIdeal.nD Cert.PostMlaIdeal.τ).loc Cert.PostMlaIdeal.main_arg0) = m ((c.tc : Thread Cert.PostMlaIdeal.nD Cert.PostMlaIdeal.τ).loc Cert.PostMlaIdeal.main_arg0)
          ∧ r.2.mem ((c.tc : Thread Cert.PostMlaIdeal.nD Cert.PostMlaIdeal.τ).loc Cert.PostMlaIdeal.main_arg1) = m ((c.tc : Thread Cert.PostMlaIdeal.nD Cert.PostMlaIdeal.τ).loc Cert.PostMlaIdeal.main_arg1)
          ∧ r.2.mem ((c.tc : Thread Cert.PostMlaIdeal.nD Cert.PostMlaIdeal.τ).loc Cert.PostMlaIdeal.main_arg2) = m ((c.tc : Thread Cert.PostMlaIdeal.nD Cert.PostMlaIdeal.τ).loc Cert.PostMlaIdeal.main_arg2)
          ∧ r.2.mem ((c.tc : Thread Cert.PostMlaIdeal.nD Cert.PostMlaIdeal.τ).loc Cert.PostMlaIdeal.main_arg3) = m ((c.tc : Thread Cert.PostMlaIdeal.nD Cert.PostMlaIdeal.τ).loc Cert.PostMlaIdeal.main_arg3)
          ∧ r.2.mem ((c.tc : Thread Cert.PostMlaIdeal.nD Cert.PostMlaIdeal.τ).loc Cert.PostMlaIdeal.main_arg4) = m ((c.tc : Thread Cert.PostMlaIdeal.nD Cert.PostMlaIdeal.τ).loc Cert.PostMlaIdeal.main_arg4)
          ∧ r.2.mem ((c.tc : Thread Cert.PostMlaIdeal.nD Cert.PostMlaIdeal.τ).loc Cert.PostMlaIdeal.main_arg5) = m ((c.tc : Thread Cert.PostMlaIdeal.nD Cert.PostMlaIdeal.τ).loc Cert.PostMlaIdeal.main_arg5)
          ∧ r.2.mem ((c.tc : Thread Cert.PostMlaIdeal.nD Cert.PostMlaIdeal.τ).loc Cert.PostMlaIdeal.main_arg6) = m ((c.tc : Thread Cert.PostMlaIdeal.nD Cert.PostMlaIdeal.τ).loc Cert.PostMlaIdeal.main_arg6)
          ∧ r.2.mem ((c.tc : Thread Cert.PostMlaIdeal.nD Cert.PostMlaIdeal.τ).loc Cert.PostMlaIdeal.main_arg7) = m ((c.tc : Thread Cert.PostMlaIdeal.nD Cert.PostMlaIdeal.τ).loc Cert.PostMlaIdeal.main_arg7))
      ∧ θ_run (Cert.LayerMidIdeal.defs (F := Ideal)) (onTc (τ := Cert.LayerMidIdeal.τ) (Cert.LayerMidIdeal.main (F := Ideal))) ⟨m', fun _ => 0, g'⟩ (fun r => ∀ c : Dev Cert.LayerMidIdeal.nD,
          r.2.mem ((c.tc : Thread Cert.LayerMidIdeal.nD Cert.LayerMidIdeal.τ).loc Cert.LayerMidIdeal.main_v46) = v0 c
          ∧ r.2.mem ((c.tc : Thread Cert.LayerMidIdeal.nD Cert.LayerMidIdeal.τ).loc Cert.LayerMidIdeal.main_arg0) = m' ((c.tc : Thread Cert.LayerMidIdeal.nD Cert.LayerMidIdeal.τ).loc Cert.LayerMidIdeal.main_arg0)
          ∧ r.2.mem ((c.tc : Thread Cert.LayerMidIdeal.nD Cert.LayerMidIdeal.τ).loc Cert.LayerMidIdeal.main_arg1) = m' ((c.tc : Thread Cert.LayerMidIdeal.nD Cert.LayerMidIdeal.τ).loc Cert.LayerMidIdeal.main_arg1)
          ∧ r.2.mem ((c.tc : Thread Cert.LayerMidIdeal.nD Cert.LayerMidIdeal.τ).loc Cert.LayerMidIdeal.main_arg2) = m' ((c.tc : Thread Cert.LayerMidIdeal.nD Cert.LayerMidIdeal.τ).loc Cert.LayerMidIdeal.main_arg2)
          ∧ r.2.mem ((c.tc : Thread Cert.LayerMidIdeal.nD Cert.LayerMidIdeal.τ).loc Cert.LayerMidIdeal.main_arg3) = m' ((c.tc : Thread Cert.LayerMidIdeal.nD Cert.LayerMidIdeal.τ).loc Cert.LayerMidIdeal.main_arg3)
          ∧ r.2.mem ((c.tc : Thread Cert.LayerMidIdeal.nD Cert.LayerMidIdeal.τ).loc Cert.LayerMidIdeal.main_arg4) = m' ((c.tc : Thread Cert.LayerMidIdeal.nD Cert.LayerMidIdeal.τ).loc Cert.LayerMidIdeal.main_arg4)
          ∧ r.2.mem ((c.tc : Thread Cert.LayerMidIdeal.nD Cert.LayerMidIdeal.τ).loc Cert.LayerMidIdeal.main_arg5) = m' ((c.tc : Thread Cert.LayerMidIdeal.nD Cert.LayerMidIdeal.τ).loc Cert.LayerMidIdeal.main_arg5)
          ∧ r.2.mem ((c.tc : Thread Cert.LayerMidIdeal.nD Cert.LayerMidIdeal.τ).loc Cert.LayerMidIdeal.main_arg6) = m' ((c.tc : Thread Cert.LayerMidIdeal.nD Cert.LayerMidIdeal.τ).loc Cert.LayerMidIdeal.main_arg6)
          ∧ r.2.mem ((c.tc : Thread Cert.LayerMidIdeal.nD Cert.LayerMidIdeal.τ).loc Cert.LayerMidIdeal.main_arg7) = m' ((c.tc : Thread Cert.LayerMidIdeal.nD Cert.LayerMidIdeal.τ).loc Cert.LayerMidIdeal.main_arg7))

def preserves_SsdIn_SsdInIdeal : Prop :=
  True

def algebraic_SsdInIdeal_SsdProjIdeal [hSsdInIdeal : Cert.SsdInIdeal.Facts] [hSsdProjIdeal : Cert.SsdProjIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdProjIdeal.nD Cert.SsdProjIdeal.τ Cert.SsdProjIdeal.sig) → Buf (Elt Ideal) ℓ) (g' : Dev Cert.SsdProjIdeal.nD → PrngReg), Pre_SsdInIdeal m →
    (∀ c : Dev Cert.SsdInIdeal.nD,
      m' ((c.tc : Thread Cert.SsdProjIdeal.nD Cert.SsdProjIdeal.τ).loc Cert.SsdProjIdeal.main_arg0) = m ((c.tc : Thread Cert.SsdInIdeal.nD Cert.SsdInIdeal.τ).loc Cert.SsdInIdeal.main_arg0)
      ∧ m' ((c.tc : Thread Cert.SsdProjIdeal.nD Cert.SsdProjIdeal.τ).loc Cert.SsdProjIdeal.main_arg1) = m ((c.tc : Thread Cert.SsdInIdeal.nD Cert.SsdInIdeal.τ).loc Cert.SsdInIdeal.main_arg1)
      ∧ m' ((c.tc : Thread Cert.SsdProjIdeal.nD Cert.SsdProjIdeal.τ).loc Cert.SsdProjIdeal.main_arg2) = m ((c.tc : Thread Cert.SsdInIdeal.nD Cert.SsdInIdeal.τ).loc Cert.SsdInIdeal.main_arg2)
      ∧ m' ((c.tc : Thread Cert.SsdProjIdeal.nD Cert.SsdProjIdeal.τ).loc Cert.SsdProjIdeal.main_arg3) = m ((c.tc : Thread Cert.SsdInIdeal.nD Cert.SsdInIdeal.τ).loc Cert.SsdInIdeal.main_arg3)
      ∧ m' ((c.tc : Thread Cert.SsdProjIdeal.nD Cert.SsdProjIdeal.τ).loc Cert.SsdProjIdeal.main_arg4) = m ((c.tc : Thread Cert.SsdInIdeal.nD Cert.SsdInIdeal.τ).loc Cert.SsdInIdeal.main_arg4)) →
    ∃ (v0 : (c : Dev Cert.SsdInIdeal.nD) → Buf (Elt Ideal) ((c.tc : Thread Cert.SsdInIdeal.nD Cert.SsdInIdeal.τ).loc Cert.SsdInIdeal.main_v17_0)) (v1 : (c : Dev Cert.SsdInIdeal.nD) → Buf (Elt Ideal) ((c.tc : Thread Cert.SsdInIdeal.nD Cert.SsdInIdeal.τ).loc Cert.SsdInIdeal.main_v17_1)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v17_0) = v0 c
          ∧ r.2.mem ((c.tc : Thread Cert.SsdInIdeal.nD Cert.SsdInIdeal.τ).loc Cert.SsdInIdeal.main_v17_1) = v1 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
          ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4))
      ∧ θ_run (Cert.SsdProjIdeal.defs (F := Ideal)) (onTc (τ := Cert.SsdProjIdeal.τ) (Cert.SsdProjIdeal.main (F := Ideal))) ⟨m', fun _ => 0, g'⟩ (fun r => ∀ c : Dev Cert.SsdProjIdeal.nD,
          r.2.mem ((c.tc : Thread Cert.SsdProjIdeal.nD Cert.SsdProjIdeal.τ).loc Cert.SsdProjIdeal.main_v32) = v0 c
          ∧ r.2.mem ((c.tc : Thread Cert.SsdProjIdeal.nD Cert.SsdProjIdeal.τ).loc Cert.SsdProjIdeal.main_v33) = v1 c
          ∧ r.2.mem ((c.tc : Thread Cert.SsdProjIdeal.nD Cert.SsdProjIdeal.τ).loc Cert.SsdProjIdeal.main_arg0) = m' ((c.tc : Thread Cert.SsdProjIdeal.nD Cert.SsdProjIdeal.τ).loc Cert.SsdProjIdeal.main_arg0)
          ∧ r.2.mem ((c.tc : Thread Cert.SsdProjIdeal.nD Cert.SsdProjIdeal.τ).loc Cert.SsdProjIdeal.main_arg1) = m' ((c.tc : Thread Cert.SsdProjIdeal.nD Cert.SsdProjIdeal.τ).loc Cert.SsdProjIdeal.main_arg1)
          ∧ r.2.mem ((c.tc : Thread Cert.SsdProjIdeal.nD Cert.SsdProjIdeal.τ).loc Cert.SsdProjIdeal.main_arg2) = m' ((c.tc : Thread Cert.SsdProjIdeal.nD Cert.SsdProjIdeal.τ).loc Cert.SsdProjIdeal.main_arg2)
          ∧ r.2.mem ((c.tc : Thread Cert.SsdProjIdeal.nD Cert.SsdProjIdeal.τ).loc Cert.SsdProjIdeal.main_arg3) = m' ((c.tc : Thread Cert.SsdProjIdeal.nD Cert.SsdProjIdeal.τ).loc Cert.SsdProjIdeal.main_arg3)
          ∧ r.2.mem ((c.tc : Thread Cert.SsdProjIdeal.nD Cert.SsdProjIdeal.τ).loc Cert.SsdProjIdeal.main_arg4) = m' ((c.tc : Thread Cert.SsdProjIdeal.nD Cert.SsdProjIdeal.τ).loc Cert.SsdProjIdeal.main_arg4))

def preserves_MlaProj_MlaProjIdeal : Prop :=
  True

def algebraic_MlaProjIdeal_LatentQkvIdeal [hMlaProjIdeal : Cert.MlaProjIdeal.Facts] [hLatentQkvIdeal : Cert.LatentQkvIdeal.Facts] : Prop :=
  ∀ (m : (ℓ : Loc Cert.MlaProjIdeal.nD Cert.MlaProjIdeal.τ Cert.MlaProjIdeal.sig) → Buf (Elt Ideal) ℓ) (g : Dev Cert.MlaProjIdeal.nD → PrngReg)
    (m' : (ℓ : Loc Cert.LatentQkvIdeal.nD Cert.LatentQkvIdeal.τ Cert.LatentQkvIdeal.sig) → Buf (Elt Ideal) ℓ) (g' : Dev Cert.LatentQkvIdeal.nD → PrngReg), Pre_MlaProjIdeal m →
    (∀ c : Dev Cert.MlaProjIdeal.nD,
      m' ((c.tc : Thread Cert.LatentQkvIdeal.nD Cert.LatentQkvIdeal.τ).loc Cert.LatentQkvIdeal.main_arg0) = m ((c.tc : Thread Cert.MlaProjIdeal.nD Cert.MlaProjIdeal.τ).loc Cert.MlaProjIdeal.main_arg0)
      ∧ m' ((c.tc : Thread Cert.LatentQkvIdeal.nD Cert.LatentQkvIdeal.τ).loc Cert.LatentQkvIdeal.main_arg1) = m ((c.tc : Thread Cert.MlaProjIdeal.nD Cert.MlaProjIdeal.τ).loc Cert.MlaProjIdeal.main_arg1)
      ∧ m' ((c.tc : Thread Cert.LatentQkvIdeal.nD Cert.LatentQkvIdeal.τ).loc Cert.LatentQkvIdeal.main_arg2) = m ((c.tc : Thread Cert.MlaProjIdeal.nD Cert.MlaProjIdeal.τ).loc Cert.MlaProjIdeal.main_arg2)
      ∧ m' ((c.tc : Thread Cert.LatentQkvIdeal.nD Cert.LatentQkvIdeal.τ).loc Cert.LatentQkvIdeal.main_arg3) = m ((c.tc : Thread Cert.MlaProjIdeal.nD Cert.MlaProjIdeal.τ).loc Cert.MlaProjIdeal.main_arg3)
      ∧ m' ((c.tc : Thread Cert.LatentQkvIdeal.nD Cert.LatentQkvIdeal.τ).loc Cert.LatentQkvIdeal.main_arg4) = m ((c.tc : Thread Cert.MlaProjIdeal.nD Cert.MlaProjIdeal.τ).loc Cert.MlaProjIdeal.main_arg4)
      ∧ m' ((c.tc : Thread Cert.LatentQkvIdeal.nD Cert.LatentQkvIdeal.τ).loc Cert.LatentQkvIdeal.main_arg5) = m ((c.tc : Thread Cert.MlaProjIdeal.nD Cert.MlaProjIdeal.τ).loc Cert.MlaProjIdeal.main_arg5)
      ∧ m' ((c.tc : Thread Cert.LatentQkvIdeal.nD Cert.LatentQkvIdeal.τ).loc Cert.LatentQkvIdeal.main_arg6) = m ((c.tc : Thread Cert.MlaProjIdeal.nD Cert.MlaProjIdeal.τ).loc Cert.MlaProjIdeal.main_arg6)
      ∧ m' ((c.tc : Thread Cert.LatentQkvIdeal.nD Cert.LatentQkvIdeal.τ).loc Cert.LatentQkvIdeal.main_arg7) = m ((c.tc : Thread Cert.MlaProjIdeal.nD Cert.MlaProjIdeal.τ).loc Cert.MlaProjIdeal.main_arg7)
      ∧ m' ((c.tc : Thread Cert.LatentQkvIdeal.nD Cert.LatentQkvIdeal.τ).loc Cert.LatentQkvIdeal.main_arg8) = m ((c.tc : Thread Cert.MlaProjIdeal.nD Cert.MlaProjIdeal.τ).loc Cert.MlaProjIdeal.main_arg8)
      ∧ m' ((c.tc : Thread Cert.LatentQkvIdeal.nD Cert.LatentQkvIdeal.τ).loc Cert.LatentQkvIdeal.main_arg9) = m ((c.tc : Thread Cert.MlaProjIdeal.nD Cert.MlaProjIdeal.τ).loc Cert.MlaProjIdeal.main_arg9)) →
    ∃ (v0 : (c : Dev Cert.MlaProjIdeal.nD) → Buf (Elt Ideal) ((c.tc : Thread Cert.MlaProjIdeal.nD Cert.MlaProjIdeal.τ).loc Cert.MlaProjIdeal.main_v56_0)) (v1 : (c : Dev Cert.MlaProjIdeal.nD) → Buf (Elt Ideal) ((c.tc : Thread Cert.MlaProjIdeal.nD Cert.MlaProjIdeal.τ).loc Cert.MlaProjIdeal.main_v56_1)) (v2 : (c : Dev Cert.MlaProjIdeal.nD) → Buf (Elt Ideal) ((c.tc : Thread Cert.MlaProjIdeal.nD Cert.MlaProjIdeal.τ).loc Cert.MlaProjIdeal.main_v56_2)),
      θ_run (Cert.MlaProjIdeal.defs (F := Ideal)) (onTc (τ := Cert.MlaProjIdeal.τ) (Cert.MlaProjIdeal.main (F := Ideal))) ⟨m, fun _ => 0, g⟩ (fun r => ∀ c : Dev Cert.MlaProjIdeal.nD,
          r.2.mem ((c.tc : Thread Cert.MlaProjIdeal.nD Cert.MlaProjIdeal.τ).loc Cert.MlaProjIdeal.main_v56_0) = v0 c
          ∧ r.2.mem ((c.tc : Thread Cert.MlaProjIdeal.nD Cert.MlaProjIdeal.τ).loc Cert.MlaProjIdeal.main_v56_1) = v1 c
          ∧ r.2.mem ((c.tc : Thread Cert.MlaProjIdeal.nD Cert.MlaProjIdeal.τ).loc Cert.MlaProjIdeal.main_v56_2) = v2 c
          ∧ r.2.mem ((c.tc : Thread Cert.MlaProjIdeal.nD Cert.MlaProjIdeal.τ).loc Cert.MlaProjIdeal.main_arg0) = m ((c.tc : Thread Cert.MlaProjIdeal.nD Cert.MlaProjIdeal.τ).loc Cert.MlaProjIdeal.main_arg0)
          ∧ r.2.mem ((c.tc : Thread Cert.MlaProjIdeal.nD Cert.MlaProjIdeal.τ).loc Cert.MlaProjIdeal.main_arg1) = m ((c.tc : Thread Cert.MlaProjIdeal.nD Cert.MlaProjIdeal.τ).loc Cert.MlaProjIdeal.main_arg1)
          ∧ r.2.mem ((c.tc : Thread Cert.MlaProjIdeal.nD Cert.MlaProjIdeal.τ).loc Cert.MlaProjIdeal.main_arg2) = m ((c.tc : Thread Cert.MlaProjIdeal.nD Cert.MlaProjIdeal.τ).loc Cert.MlaProjIdeal.main_arg2)
          ∧ r.2.mem ((c.tc : Thread Cert.MlaProjIdeal.nD Cert.MlaProjIdeal.τ).loc Cert.MlaProjIdeal.main_arg3) = m ((c.tc : Thread Cert.MlaProjIdeal.nD Cert.MlaProjIdeal.τ).loc Cert.MlaProjIdeal.main_arg3)
          ∧ r.2.mem ((c.tc : Thread Cert.MlaProjIdeal.nD Cert.MlaProjIdeal.τ).loc Cert.MlaProjIdeal.main_arg4) = m ((c.tc : Thread Cert.MlaProjIdeal.nD Cert.MlaProjIdeal.τ).loc Cert.MlaProjIdeal.main_arg4)
          ∧ r.2.mem ((c.tc : Thread Cert.MlaProjIdeal.nD Cert.MlaProjIdeal.τ).loc Cert.MlaProjIdeal.main_arg5) = m ((c.tc : Thread Cert.MlaProjIdeal.nD Cert.MlaProjIdeal.τ).loc Cert.MlaProjIdeal.main_arg5)
          ∧ r.2.mem ((c.tc : Thread Cert.MlaProjIdeal.nD Cert.MlaProjIdeal.τ).loc Cert.MlaProjIdeal.main_arg6) = m ((c.tc : Thread Cert.MlaProjIdeal.nD Cert.MlaProjIdeal.τ).loc Cert.MlaProjIdeal.main_arg6)
          ∧ r.2.mem ((c.tc : Thread Cert.MlaProjIdeal.nD Cert.MlaProjIdeal.τ).loc Cert.MlaProjIdeal.main_arg7) = m ((c.tc : Thread Cert.MlaProjIdeal.nD Cert.MlaProjIdeal.τ).loc Cert.MlaProjIdeal.main_arg7)
          ∧ r.2.mem ((c.tc : Thread Cert.MlaProjIdeal.nD Cert.MlaProjIdeal.τ).loc Cert.MlaProjIdeal.main_arg8) = m ((c.tc : Thread Cert.MlaProjIdeal.nD Cert.MlaProjIdeal.τ).loc Cert.MlaProjIdeal.main_arg8)
          ∧ r.2.mem ((c.tc : Thread Cert.MlaProjIdeal.nD Cert.MlaProjIdeal.τ).loc Cert.MlaProjIdeal.main_arg9) = m ((c.tc : Thread Cert.MlaProjIdeal.nD Cert.MlaProjIdeal.τ).loc Cert.MlaProjIdeal.main_arg9))
      ∧ θ_run (Cert.LatentQkvIdeal.defs (F := Ideal)) (onTc (τ := Cert.LatentQkvIdeal.τ) (Cert.LatentQkvIdeal.main (F := Ideal))) ⟨m', fun _ => 0, g'⟩ (fun r => ∀ c : Dev Cert.LatentQkvIdeal.nD,
          r.2.mem ((c.tc : Thread Cert.LatentQkvIdeal.nD Cert.LatentQkvIdeal.τ).loc Cert.LatentQkvIdeal.main_v137) = v0 c
          ∧ r.2.mem ((c.tc : Thread Cert.LatentQkvIdeal.nD Cert.LatentQkvIdeal.τ).loc Cert.LatentQkvIdeal.main_v138) = v1 c
          ∧ r.2.mem ((c.tc : Thread Cert.LatentQkvIdeal.nD Cert.LatentQkvIdeal.τ).loc Cert.LatentQkvIdeal.main_v140) = v2 c
          ∧ r.2.mem ((c.tc : Thread Cert.LatentQkvIdeal.nD Cert.LatentQkvIdeal.τ).loc Cert.LatentQkvIdeal.main_arg0) = m' ((c.tc : Thread Cert.LatentQkvIdeal.nD Cert.LatentQkvIdeal.τ).loc Cert.LatentQkvIdeal.main_arg0)
          ∧ r.2.mem ((c.tc : Thread Cert.LatentQkvIdeal.nD Cert.LatentQkvIdeal.τ).loc Cert.LatentQkvIdeal.main_arg1) = m' ((c.tc : Thread Cert.LatentQkvIdeal.nD Cert.LatentQkvIdeal.τ).loc Cert.LatentQkvIdeal.main_arg1)
          ∧ r.2.mem ((c.tc : Thread Cert.LatentQkvIdeal.nD Cert.LatentQkvIdeal.τ).loc Cert.LatentQkvIdeal.main_arg2) = m' ((c.tc : Thread Cert.LatentQkvIdeal.nD Cert.LatentQkvIdeal.τ).loc Cert.LatentQkvIdeal.main_arg2)
          ∧ r.2.mem ((c.tc : Thread Cert.LatentQkvIdeal.nD Cert.LatentQkvIdeal.τ).loc Cert.LatentQkvIdeal.main_arg3) = m' ((c.tc : Thread Cert.LatentQkvIdeal.nD Cert.LatentQkvIdeal.τ).loc Cert.LatentQkvIdeal.main_arg3)
          ∧ r.2.mem ((c.tc : Thread Cert.LatentQkvIdeal.nD Cert.LatentQkvIdeal.τ).loc Cert.LatentQkvIdeal.main_arg4) = m' ((c.tc : Thread Cert.LatentQkvIdeal.nD Cert.LatentQkvIdeal.τ).loc Cert.LatentQkvIdeal.main_arg4)
          ∧ r.2.mem ((c.tc : Thread Cert.LatentQkvIdeal.nD Cert.LatentQkvIdeal.τ).loc Cert.LatentQkvIdeal.main_arg5) = m' ((c.tc : Thread Cert.LatentQkvIdeal.nD Cert.LatentQkvIdeal.τ).loc Cert.LatentQkvIdeal.main_arg5)
          ∧ r.2.mem ((c.tc : Thread Cert.LatentQkvIdeal.nD Cert.LatentQkvIdeal.τ).loc Cert.LatentQkvIdeal.main_arg6) = m' ((c.tc : Thread Cert.LatentQkvIdeal.nD Cert.LatentQkvIdeal.τ).loc Cert.LatentQkvIdeal.main_arg6)
          ∧ r.2.mem ((c.tc : Thread Cert.LatentQkvIdeal.nD Cert.LatentQkvIdeal.τ).loc Cert.LatentQkvIdeal.main_arg7) = m' ((c.tc : Thread Cert.LatentQkvIdeal.nD Cert.LatentQkvIdeal.τ).loc Cert.LatentQkvIdeal.main_arg7)
          ∧ r.2.mem ((c.tc : Thread Cert.LatentQkvIdeal.nD Cert.LatentQkvIdeal.τ).loc Cert.LatentQkvIdeal.main_arg8) = m' ((c.tc : Thread Cert.LatentQkvIdeal.nD Cert.LatentQkvIdeal.τ).loc Cert.LatentQkvIdeal.main_arg8)
          ∧ r.2.mem ((c.tc : Thread Cert.LatentQkvIdeal.nD Cert.LatentQkvIdeal.τ).loc Cert.LatentQkvIdeal.main_arg9) = m' ((c.tc : Thread Cert.LatentQkvIdeal.nD Cert.LatentQkvIdeal.τ).loc Cert.LatentQkvIdeal.main_arg9))

def Claim : Prop :=
  ∃ (hKernel : Cert.Kernel.Facts) (hKernelIdeal : Cert.KernelIdeal.Facts) (hReferenceIdeal : Cert.ReferenceIdeal.Facts) (hPostSsd : Cert.PostSsd.Facts) (hPostSsdIdeal : Cert.PostSsdIdeal.Facts) (hLayerEndIdeal : Cert.LayerEndIdeal.Facts) (hPostMla : Cert.PostMla.Facts) (hPostMlaIdeal : Cert.PostMlaIdeal.Facts) (hLayerMidIdeal : Cert.LayerMidIdeal.Facts) (hSsdIn : Cert.SsdIn.Facts) (hSsdInIdeal : Cert.SsdInIdeal.Facts) (hSsdProjIdeal : Cert.SsdProjIdeal.Facts) (hMlaProj : Cert.MlaProj.Facts) (hMlaProjIdeal : Cert.MlaProjIdeal.Facts) (hLatentQkvIdeal : Cert.LatentQkvIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_PostSsd (hPostSsd := hPostSsd)
    ∧ quiescent_PostSsdIdeal (hPostSsdIdeal := hPostSsdIdeal)
    ∧ quiescent_LayerEndIdeal (hLayerEndIdeal := hLayerEndIdeal)
    ∧ quiescent_PostMla (hPostMla := hPostMla)
    ∧ quiescent_PostMlaIdeal (hPostMlaIdeal := hPostMlaIdeal)
    ∧ quiescent_LayerMidIdeal (hLayerMidIdeal := hLayerMidIdeal)
    ∧ quiescent_SsdIn (hSsdIn := hSsdIn)
    ∧ quiescent_SsdInIdeal (hSsdInIdeal := hSsdInIdeal)
    ∧ quiescent_SsdProjIdeal (hSsdProjIdeal := hSsdProjIdeal)
    ∧ quiescent_MlaProj (hMlaProj := hMlaProj)
    ∧ quiescent_MlaProjIdeal (hMlaProjIdeal := hMlaProjIdeal)
    ∧ quiescent_LatentQkvIdeal (hLatentQkvIdeal := hLatentQkvIdeal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_PostSsd_PostSsdIdeal
    ∧ algebraic_PostSsdIdeal_LayerEndIdeal (hPostSsdIdeal := hPostSsdIdeal) (hLayerEndIdeal := hLayerEndIdeal)
    ∧ preserves_PostMla_PostMlaIdeal
    ∧ algebraic_PostMlaIdeal_LayerMidIdeal (hPostMlaIdeal := hPostMlaIdeal) (hLayerMidIdeal := hLayerMidIdeal)
    ∧ preserves_SsdIn_SsdInIdeal
    ∧ algebraic_SsdInIdeal_SsdProjIdeal (hSsdInIdeal := hSsdInIdeal) (hSsdProjIdeal := hSsdProjIdeal)
    ∧ preserves_MlaProj_MlaProjIdeal
    ∧ algebraic_MlaProjIdeal_LatentQkvIdeal (hMlaProjIdeal := hMlaProjIdeal) (hLatentQkvIdeal := hLatentQkvIdeal)
-- ==== Pre_scores_finite.lean ====
abbrev S4x16x4096x128 : Shape := ⟨4, ![4, 16, 4096, 128]⟩
abbrev S4x16x256x128 : Shape := ⟨4, ![4, 16, 256, 128]⟩
abbrev S4x256x1024 : Shape := ⟨3, ![4, 256, 1024]⟩
abbrev S4x4096x1024 : Shape := ⟨3, ![4, 4096, 1024]⟩
abbrev S_ : Shape := ⟨0, ![]⟩

class Facts : Prop where
  bcast_S_S4x16x4096x128 : S_.BroadcastsInDim S4x16x4096x128 (![] : Fin 0 → Fin S4x16x4096x128.rank)
  bcast_S_S4x16x256x128 : S_.BroadcastsInDim S4x16x256x128 (![] : Fin 0 → Fin S4x16x256x128.rank)

variable [Facts]

def fn {F : FTy → Type} [FloatOps F] (main_arg0 : FVec F S4x16x4096x128 .f32) (main_arg1 : FVec F S4x16x256x128 .bf16) (main_arg2 : FVec F S4x256x1024 .bf16) (main_arg3 : FVec F S4x16x4096x128 .bf16) (main_arg4 : FVec F S4x4096x1024 .bf16) : IVec S4x16x4096x128 1 × IVec S4x16x256x128 1 × IVec S4x16x4096x128 1 :=
  let main_v0 : FVec F S4x16x4096x128 .f32 := Host.absf main_arg0
  let main_cst : FVec F S_ .f32 := constant S_ .f32 0x7F800000#32
  let main_v1 : FVec F S4x16x4096x128 .f32 := broadcastInDim S4x16x4096x128 ![] bcast_S_S4x16x4096x128 main_cst
  let main_v2 : IVec S4x16x4096x128 1 := cmpf .olt main_v0 main_v1
  let main_v3 : FVec F S4x16x256x128 .bf16 := Host.absf main_arg1
  let main_cst_0 : FVec F S_ .bf16 := constant S_ .bf16 0x7F80#16
  let main_v4 : FVec F S4x16x256x128 .bf16 := broadcastInDim S4x16x256x128 ![] bcast_S_S4x16x256x128 main_cst_0
  let main_v5 : IVec S4x16x256x128 1 := cmpf .olt main_v3 main_v4
  let main_v6 : FVec F S4x16x4096x128 .bf16 := Host.absf main_arg3
  let main_cst_1 : FVec F S_ .bf16 := constant S_ .bf16 0x7F80#16
  let main_v7 : FVec F S4x16x4096x128 .bf16 := broadcastInDim S4x16x4096x128 ![] bcast_S_S4x16x4096x128 main_cst_1
  let main_v8 : IVec S4x16x4096x128 1 := cmpf .olt main_v6 main_v7
  (main_v2, main_v5, main_v8)
-- ==== Kernel.lean ====
abbrev S4x16x4096x128 : Shape := ⟨4, ![4, 16, 4096, 128]⟩
abbrev S4x16x256x128 : Shape := ⟨4, ![4, 16, 256, 128]⟩
abbrev S4x256x1024 : Shape := ⟨3, ![4, 256, 1024]⟩
abbrev S4x4096x1024 : Shape := ⟨3, ![4, 4096, 1024]⟩
abbrev S_ : Shape := ⟨0, ![]⟩
abbrev S1x2x4096x128 : Shape := ⟨4, ![1, 2, 4096, 128]⟩
abbrev S1x2x256x128 : Shape := ⟨4, ![1, 2, 256, 128]⟩
abbrev S1x256x128 : Shape := ⟨3, ![1, 256, 128]⟩
abbrev S1x4096x128 : Shape := ⟨3, ![1, 4096, 128]⟩
abbrev S2x4352x256 : Shape := ⟨3, ![2, 4352, 256]⟩
abbrev S2x8x256 : Shape := ⟨3, ![2, 8, 256]⟩
abbrev S2x128x4352 : Shape := ⟨3, ![2, 128, 4352]⟩
abbrev S128x1 : Shape := ⟨2, ![128, 1]⟩
abbrev S256x128 : Shape := ⟨2, ![256, 128]⟩
abbrev S128x256 : Shape := ⟨2, ![128, 256]⟩
abbrev S1x128x256 : Shape := ⟨3, ![1, 128, 256]⟩
abbrev S4096x128 : Shape := ⟨2, ![4096, 128]⟩
abbrev S128x4096 : Shape := ⟨2, ![128, 4096]⟩
abbrev S1x128x4096 : Shape := ⟨3, ![1, 128, 4096]⟩
abbrev S1x1x256x128 : Shape := ⟨4, ![1, 1, 256, 128]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S1x1x512x128 : Shape := ⟨4, ![1, 1, 512, 128]⟩
abbrev S512x128 : Shape := ⟨2, ![512, 128]⟩
abbrev S512x256 : Shape := ⟨2, ![512, 256]⟩
abbrev S1x512x256 : Shape := ⟨3, ![1, 512, 256]⟩
abbrev S8x256 : Shape := ⟨2, ![8, 256]⟩
abbrev S1x8x256 : Shape := ⟨3, ![1, 8, 256]⟩
abbrev S1x1x256 : Shape := ⟨3, ![1, 1, 256]⟩
abbrev S1x128x512 : Shape := ⟨3, ![1, 128, 512]⟩
abbrev S128x512 : Shape := ⟨2, ![128, 512]⟩

abbrev nBuf : Space → Nat
  | .hbm => 16
  | .vmem => 15
  | .smem => 0
  | _ => 0

abbrev bufTy : (tb : Table) → Fin (tcTables nBuf tb) → BufTy
  | .hbm, ⟨0, _⟩ => ⟨S4x16x4096x128, .f32⟩
  | .hbm, ⟨1, _⟩ => ⟨S4x16x256x128, .bf16⟩
  | .hbm, ⟨2, _⟩ => ⟨S4x256x1024, .bf16⟩
  | .hbm, ⟨3, _⟩ => ⟨S4x16x4096x128, .bf16⟩
  | .hbm, ⟨4, _⟩ => ⟨S4x4096x1024, .bf16⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x16x4096x128, .f32⟩
  | .hbm, ⟨13, _⟩ => ⟨S4x16x4096x128, .f32⟩
  | .hbm, ⟨14, _⟩ => ⟨S4x16x4096x128, .bf16⟩
  | .hbm, ⟨15, _⟩ => ⟨S4x4096x1024, .bf16⟩
  | .local _ .vmem, ⟨0, _⟩ => ⟨S1x2x4096x128, .bf16⟩
  | .local _ .vmem, ⟨1, _⟩ => ⟨S1x2x4096x128, .bf16⟩
  | .local _ .vmem, ⟨2, _⟩ => ⟨S1x2x256x128, .bf16⟩
  | .local _ .vmem, ⟨3, _⟩ => ⟨S1x2x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x2x4096x128, .bf16⟩
  | .local _ .vmem, ⟨7, _⟩ => ⟨S1x2x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S2x4352x256, .f32⟩
  | .local _ .vmem, ⟨13, _⟩ => ⟨S2x8x256, .f32⟩
  | .local _ .vmem, ⟨14, _⟩ => ⟨S2x128x4352, .bf16⟩
  | _, _ => ⟨S4x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c15_i32 : BitVec 32 := 15#32
  let v130 : BitVec 32 := Scalar.addi c0_i32 c15_i32
  let c1_i32 : BitVec 32 := 1#32
  ⟨c0_i32, v130, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32 : BitVec 32 := 256#32
  let v450 : BitVec 32 := Scalar.muli arg11 c256_i32
  v450
def k0_off1 (k0_t1 : Fin k0_t1_loop.trips) : Fin 4 → Nat :=
  let c0_366 : Index := 0#32
  let c1_367 : Index := 1#32
  let c0_i32 : BitVec 32 := 0#32
  let c1_i32 : BitVec 32 := 1#32
  let arg11 : BitVec 32 := Scf.iv c0_i32 c1_i32 k0_t1
  let c256_i32 : BitVec 32 := 256#32
  let v450 : BitVec 32 := Scalar.muli arg11 c256_i32
  let v451 : BitVec 32 := v450
  let v452 : Index := Scalar.indexCast v451
  let c0_368 : Index := 0#32
  ![0, 1, v452.toNat, 0]
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c1_i32_544 : BitVec 32 := 1#32
  let v649 : BitVec 32 := Scalar.addi arg11 c1_i32_544
  let c256_i32_545 : BitVec 32 := 256#32
  let v650 : BitVec 32 := Scalar.muli v649 c256_i32_545
  v650
def k0_off2 (k0_t1 : Fin k0_t1_loop.trips) : Fin 4 → Nat :=
  let c0_546 : Index := 0#32
  let c0_547 : Index := 0#32
  let c0_i32 : BitVec 32 := 0#32
  let c1_i32 : BitVec 32 := 1#32
  let arg11 : BitVec 32 := Scf.iv c0_i32 c1_i32 k0_t1
  let c1_i32_544 : BitVec 32 := 1#32
  let v649 : BitVec 32 := Scalar.addi arg11 c1_i32_544
  let c256_i32_545 : BitVec 32 := 256#32
  let v650 : BitVec 32 := Scalar.muli v649 c256_i32_545
  let v651 : BitVec 32 := v650
  let v652 : Index := Scalar.indexCast v651
  let c0_548 : Index := 0#32
  ![0, 0, v652.toNat, 0]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c256_i32_724 : BitVec 32 := 256#32
  let v860 : BitVec 32 := Scalar.muli arg11 c256_i32_724
  v860
def k0_off3 (k0_t1 : Fin k0_t1_loop.trips) : Fin 3 → Nat :=
  let c0_725 : Index := 0#32
  let c0_i32 : BitVec 32 := 0#32
  let c1_i32 : BitVec 32 := 1#32
  let arg11 : BitVec 32 := Scf.iv c0_i32 c1_i32 k0_t1
  let c256_i32_724 : BitVec 32 := 256#32
  let v860 : BitVec 32 := Scalar.muli arg11 c256_i32_724
  let v861 : BitVec 32 := v860
  let v862 : Index := Scalar.indexCast v861
  let c0_726 : Index := 0#32
  ![0, v862.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x16x4096x128 : Shape := ⟨4, ![4, 16, 4096, 128]⟩
abbrev S4x16x256x128 : Shape := ⟨4, ![4, 16, 256, 128]⟩
abbrev S4x256x1024 : Shape := ⟨3, ![4, 256, 1024]⟩
abbrev S4x4096x1024 : Shape := ⟨3, ![4, 4096, 1024]⟩
abbrev S4x16x4352x128 : Shape := ⟨4, ![4, 16, 4352, 128]⟩
abbrev S4x4352x1024 : Shape := ⟨3, ![4, 4352, 1024]⟩
abbrev S4x4352x16x64 : Shape := ⟨4, ![4, 4352, 16, 64]⟩
abbrev S4x16x4096x4352 : Shape := ⟨4, ![4, 16, 4096, 4352]⟩
abbrev S_ : Shape := ⟨0, ![]⟩
abbrev S4x16x4096 : Shape := ⟨3, ![4, 16, 4096]⟩
abbrev S4x16x4096x1 : Shape := ⟨4, ![4, 16, 4096, 1]⟩
abbrev S4x16x64x4096 : Shape := ⟨4, ![4, 16, 64, 4096]⟩
abbrev S4x4096x16x64 : Shape := ⟨4, ![4, 4096, 16, 64]⟩

abbrev nBuf : Space → Nat
  | .hbm => 35
  | .vmem => 0
  | .smem => 0
  | _ => 0

abbrev bufTy : (tb : Table) → Fin (tcTables nBuf tb) → BufTy
  | .hbm, ⟨0, _⟩ => ⟨S4x16x4096x128, .f32⟩
  | .hbm, ⟨1, _⟩ => ⟨S4x16x256x128, .bf16⟩
  | .hbm, ⟨2, _⟩ => ⟨S4x256x1024, .bf16⟩
  | .hbm, ⟨3, _⟩ => ⟨S4x16x4096x128, .bf16⟩
  | .hbm, ⟨4, _⟩ => ⟨S4x4096x1024, .bf16⟩
  | .hbm, ⟨5, _⟩ => ⟨S4x16x4352x128, .bf16⟩
  | .hbm, ⟨6, _⟩ => ⟨S4x16x4352x128, .f32⟩
  | .hbm, ⟨7, _⟩ => ⟨S4x4352x1024, .bf16⟩
  | .hbm, ⟨8, _⟩ => ⟨S4x4352x1024, .f32⟩
  | .hbm, ⟨9, _⟩ => ⟨S4x4352x16x64, .f32⟩
  | .hbm, ⟨10, _⟩ => ⟨S4x16x4096x4352, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x16x4096x4352, .f32⟩
  | .hbm, ⟨16, _⟩ => ⟨S4x16x4096x4352, .f32⟩
  | .hbm, ⟨17, _⟩ => ⟨S_, .f32⟩
  | .hbm, ⟨18, _⟩ => ⟨S4x16x4096, .f32⟩
  | .hbm, ⟨19, _⟩ => ⟨S_, .f32⟩
  | .hbm, ⟨20, _⟩ => ⟨S4x16x4096, .f32⟩
  | .hbm, ⟨21, _⟩ => ⟨S4x16x4096, .f32⟩
  | .hbm, ⟨22, _⟩ => ⟨S4x16x4096x1, .f32⟩
  | .hbm, ⟨23, _⟩ => ⟨S4x16x4096x4352, .f32⟩
  | .hbm, ⟨24, _⟩ => ⟨S4x16x4096x4352, .f32⟩
  | .hbm, ⟨25, _⟩ => ⟨S4x16x4096x4352, .f32⟩
  | .hbm, ⟨26, _⟩ => ⟨S_, .f32⟩
  | .hbm, ⟨27, _⟩ => ⟨S4x16x4096, .f32⟩
  | .hbm, ⟨28, _⟩ => ⟨S4x16x4096x1, .f32⟩
  | .hbm, ⟨29, _⟩ => ⟨S4x16x4096x4352, .f32⟩
  | .hbm, ⟨30, _⟩ => ⟨S4x16x4096x4352, .f32⟩
  | .hbm, ⟨31, _⟩ => ⟨S4x16x64x4096, .f32⟩
  | .hbm, ⟨32, _⟩ => ⟨S4x4096x16x64, .f32⟩
  | .hbm, ⟨33, _⟩ => ⟨S4x4096x1024, .f32⟩
  | .hbm, ⟨34, _⟩ => ⟨S4x4096x1024, .bf16⟩
  | _, _ => ⟨S4x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== PostSsd.lean ====
abbrev S4x4096x1024 : Shape := ⟨3, ![4, 4096, 1024]⟩
abbrev S4x4096x2048 : Shape := ⟨3, ![4, 4096, 2048]⟩
abbrev S4x6x1024 : Shape := ⟨3, ![4, 6, 1024]⟩
abbrev S1x2048 : Shape := ⟨2, ![1, 2048]⟩
abbrev S1x2048x1024 : Shape := ⟨3, ![1, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2048x1024 : Shape := ⟨2, ![2048, 1024]⟩
abbrev S1x1024 : Shape := ⟨2, ![1, 1024]⟩
abbrev S2048 : Shape := ⟨1, ![2048]⟩
abbrev S1x512x1024 : Shape := ⟨3, ![1, 512, 1024]⟩
abbrev S1x512x2048 : Shape := ⟨3, ![1, 512, 2048]⟩
abbrev S1x6x1024 : Shape := ⟨3, ![1, 6, 1024]⟩
abbrev S1x1024x2816 : Shape := ⟨3, ![1, 1024, 2816]⟩
abbrev S1x2816x1024 : Shape := ⟨3, ![1, 2816, 1024]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S1x1x1024 : Shape := ⟨3, ![1, 1, 1024]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 23
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .bf16⟩
  | .hbm, ⟨2, _⟩ => ⟨S4x4096x2048, .bf16⟩
  | .hbm, ⟨3, _⟩ => ⟨S4x6x1024, .f32⟩
  | .hbm, ⟨4, _⟩ => ⟨S1x2048, .f32⟩
  | .hbm, ⟨5, _⟩ => ⟨S1x2048x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S1024, .f32⟩
  | .hbm, ⟨11, _⟩ => ⟨S2x1024x2816, .bf16⟩
  | .hbm, ⟨12, _⟩ => ⟨S2x1024x2816, .bf16⟩
  | .hbm, ⟨13, _⟩ => ⟨S2x2816x1024, .bf16⟩
  | .hbm, ⟨14, _⟩ => ⟨S2048x1024, .f32⟩
  | .hbm, ⟨15, _⟩ => ⟨S1x1024, .f32⟩
  | .hbm, ⟨16, _⟩ => ⟨S1024, .f32⟩
  | .hbm, ⟨17, _⟩ => ⟨S2048x1024, .bf16⟩
  | .hbm, ⟨18, _⟩ => ⟨S1x1024, .f32⟩
  | .hbm, ⟨19, _⟩ => ⟨S2048, .f32⟩
  | .hbm, ⟨20, _⟩ => ⟨S1x2048, .f32⟩
  | .hbm, ⟨21, _⟩ => ⟨S1x1024, .f32⟩
  | .hbm, ⟨22, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x2048, .f32⟩
  | .local _ .vmem, ⟨7, _⟩ => ⟨S1x6x1024, .f32⟩
  | .local _ .vmem, ⟨8, _⟩ => ⟨S1x6x1024, .f32⟩
  | .local _ .vmem, ⟨9, _⟩ => ⟨S2048x1024, .bf16⟩
  | .local _ .vmem, ⟨10, _⟩ => ⟨S1x1024, .f32⟩
  | .local _ .vmem, ⟨11, _⟩ => ⟨S1x1024x2816, .bf16⟩
  | .local _ .vmem, ⟨12, _⟩ => ⟨S1x1024x2816, .bf16⟩
  | .local _ .vmem, ⟨13, _⟩ => ⟨S1x2816x1024, .bf16⟩
  | .local _ .vmem, ⟨14, _⟩ => ⟨S1x1024, .f32⟩
  | .local _ .vmem, ⟨15, _⟩ => ⟨S1x512x1024, .f32⟩
  | .local _ .vmem, ⟨16, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== LayerEndIdeal.lean ====
abbrev S4x4096x1024 : Shape := ⟨3, ![4, 4096, 1024]⟩
abbrev S4x4096x2048 : Shape := ⟨3, ![4, 4096, 2048]⟩
abbrev S4x6x1024 : Shape := ⟨3, ![4, 6, 1024]⟩
abbrev S1x2048 : Shape := ⟨2, ![1, 2048]⟩
abbrev S1x2048x1024 : Shape := ⟨3, ![1, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S4x1x1024 : Shape := ⟨3, ![4, 1, 1024]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S2048x1024 : Shape := ⟨2, ![2048, 1024]⟩
abbrev S1x1024 : Shape := ⟨2, ![1, 1024]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩

abbrev nBuf : Space → Nat
  | .hbm => 114
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x2048, .bf16⟩
  | .hbm, ⟨2, _⟩ => ⟨S4x4096x2048, .bf16⟩
  | .hbm, ⟨3, _⟩ => ⟨S4x6x1024, .f32⟩
  | .hbm, ⟨4, _⟩ => ⟨S1x2048, .f32⟩
  | .hbm, ⟨5, _⟩ => ⟨S1x2048x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S_, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S2048, .f32⟩
  | .hbm, ⟨30, _⟩ => ⟨S4x4096x2048, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x2048, .f32⟩
  | .hbm, ⟨42, _⟩ => ⟨S4x4096x2048, .f32⟩
  | .hbm, ⟨43, _⟩ => ⟨S1x1x2048, .f32⟩
  | .hbm, ⟨44, _⟩ => ⟨S4x4096x2048, .f32⟩
  | .hbm, ⟨45, _⟩ => ⟨S4x4096x2048, .f32⟩
  | .hbm, ⟨46, _⟩ => ⟨S2048x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S4x4096x1024, .f32⟩
  | .hbm, ⟨51, _⟩ => ⟨S1x1024, .f32⟩
  | .hbm, ⟨52, _⟩ => ⟨S1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S_, .f32⟩
  | .hbm, ⟨61, _⟩ => ⟨S4x4096x1, .f32⟩
  | .hbm, ⟨62, _⟩ => ⟨S4x4096x1, .f32⟩
  | .hbm, ⟨63, _⟩ => ⟨S4x4096x1, .f32⟩
  | .hbm, ⟨64, _⟩ => ⟨S4x4096x1024, .f32⟩
  | .hbm, ⟨65, _⟩ => ⟨S4x4096x1024, .f32⟩
  | .hbm, ⟨66, _⟩ => ⟨S1x1x1024, .f32⟩
  | .hbm, ⟨67, _⟩ => ⟨S4x4096x1024, .f32⟩
  | .hbm, ⟨68, _⟩ => ⟨S4x4096x1024, .f32⟩
  | .hbm, ⟨69, _⟩ => ⟨S_, .f32⟩
  | .hbm, ⟨70, _⟩ => ⟨S4x1x1024, .f32⟩
  | .hbm, ⟨71, _⟩ => ⟨S4x1x1024, .f32⟩
  | .hbm, ⟨72, _⟩ => ⟨S4x4096x1024, .f32⟩
  | .hbm, ⟨73, _⟩ => ⟨S4x4096x1024, .f32⟩
  | .hbm, ⟨74, _⟩ => ⟨S4x4096x1024, .f32⟩
  | .hbm, ⟨75, _⟩ => ⟨S4x4096x1024, .f32⟩
  | .hbm, ⟨76, _⟩ => ⟨S1x1024x2816, .f32⟩
  | .hbm, ⟨77, _⟩ => ⟨S1024x2816, .f32⟩
  | .hbm, ⟨78, _⟩ => ⟨S1x1024x2816, .f32⟩
  | .hbm, ⟨79, _⟩ => ⟨S1024x2816, .f32⟩
  | .hbm, ⟨80, _⟩ => ⟨S1x2816x1024, .f32⟩
  | .hbm, ⟨81, _⟩ => ⟨S2816x1024, .f32⟩
  | .hbm, ⟨82, _⟩ => ⟨S4x4096x2816, .f32⟩
  | .hbm, ⟨83, _⟩ => ⟨S4x4096x2816, .f32⟩
  | .hbm, ⟨84, _⟩ => ⟨S4x4096x2816, .f32⟩
  | .hbm, ⟨85, _⟩ => ⟨S_, .f32⟩
  | .hbm, ⟨86, _⟩ => ⟨S4x4096x2816, .f32⟩
  | .hbm, ⟨87, _⟩ => ⟨S4x4096x2816, .f32⟩
  | .hbm, ⟨88, _⟩ => ⟨S_, .f32⟩
  | .hbm, ⟨89, _⟩ => ⟨S4x4096x2816, .f32⟩
  | .hbm, ⟨90, _⟩ => ⟨S4x4096x2816, .f32⟩
  | .hbm, ⟨91, _⟩ => ⟨S4x4096x2816, .f32⟩
  | .hbm, ⟨92, _⟩ => ⟨S4x4096x2816, .f32⟩
  | .hbm, ⟨93, _⟩ => ⟨S4x4096x2816, .f32⟩
  | .hbm, ⟨94, _⟩ => ⟨S4x4096x1024, .f32⟩
  | .hbm, ⟨95, _⟩ => ⟨S4x4096x1024, .f32⟩
  | .hbm, ⟨96, _⟩ => ⟨S4x4096x1024, .f32⟩
  | .hbm, ⟨97, _⟩ => ⟨S4x4096x1024, .f32⟩
  | .hbm, ⟨98, _⟩ => ⟨S4x4096x1024, .f32⟩
  | .hbm, ⟨99, _⟩ => ⟨S_, .f32⟩
  | .hbm, ⟨100, _⟩ => ⟨S4x4096, .f32⟩
  | .hbm, ⟨101, _⟩ => ⟨S4x4096x1, .f32⟩
  | .hbm, ⟨102, _⟩ => ⟨S_, .f32⟩
  | .hbm, ⟨103, _⟩ => ⟨S4x4096x1, .f32⟩
  | .hbm, ⟨104, _⟩ => ⟨S4x4096x1, .f32⟩
  | .hbm, ⟨105, _⟩ => ⟨S_, .f32⟩
  | .hbm, ⟨106, _⟩ => ⟨S4x4096x1, .f32⟩
  | .hbm, ⟨107, _⟩ => ⟨S4x4096x1, .f32⟩
  | .hbm, ⟨108, _⟩ => ⟨S4x4096x1, .f32⟩
  | .hbm, ⟨109, _⟩ => ⟨S4x4096x1024, .f32⟩
  | .hbm, ⟨110, _⟩ => ⟨S4x4096x1024, .f32⟩
  | .hbm, ⟨111, _⟩ => ⟨S1x1x1024, .f32⟩
  | .hbm, ⟨112, _⟩ => ⟨S4x4096x1024, .f32⟩
  | .hbm, ⟨113, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_2 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_6 : Ref sig .tc := ⟨.hbm, 99, rfl⟩
abbrev main_v65 : Ref sig .tc := ⟨.hbm, 100, rfl⟩
abbrev main_v66 : Ref sig .tc := ⟨.hbm, 101, rfl⟩
abbrev main_cst_7 : Ref sig .tc := ⟨.hbm, 102, rfl⟩
abbrev main_v67 : Ref sig .tc := ⟨.hbm, 103, rfl⟩
abbrev main_v68 : Ref sig .tc := ⟨.hbm, 104, rfl⟩
abbrev main_cst_8 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== PostMla.lean ====
abbrev S4x4096x1024 : Shape := ⟨3, ![4, 4096, 1024]⟩
abbrev S4x6x1024 : Shape := ⟨3, ![4, 6, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x512x1024 : Shape := ⟨3, ![1, 512, 1024]⟩
abbrev S1x6x1024 : Shape := ⟨3, ![1, 6, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩
abbrev S2816x1024 : Shape := ⟨2, ![2816, 1024]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x6x1024, .f32⟩
  | .hbm, ⟨3, _⟩ => ⟨S1x1024x1024, .f32⟩
  | .hbm, ⟨4, _⟩ => ⟨S2x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S2x1024x2816, .bf16⟩
  | .hbm, ⟨9, _⟩ => ⟨S2x1024x2816, .bf16⟩
  | .hbm, ⟨10, _⟩ => ⟨S2x2816x1024, .bf16⟩
  | .hbm, ⟨11, _⟩ => ⟨S1024x1024, .f32⟩
  | .hbm, ⟨12, _⟩ => ⟨S1x1024, .f32⟩
  | .hbm, ⟨13, _⟩ => ⟨S1024, .f32⟩
  | .hbm, ⟨14, _⟩ => ⟨S1024x1024, .bf16⟩
  | .hbm, ⟨15, _⟩ => ⟨S1x1024, .f32⟩
  | .hbm, ⟨16, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x6x1024, .f32⟩
  | .local _ .vmem, ⟨5, _⟩ => ⟨S1x6x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S1x512x1024, .f32⟩
  | .local _ .vmem, ⟨12, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== LayerMidIdeal.lean ====
abbrev S4x4096x1024 : Shape := ⟨3, ![4, 4096, 1024]⟩
abbrev S4x6x1024 : Shape := ⟨3, ![4, 6, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S4x1x1024 : Shape := ⟨3, ![4, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x6x1024, .f32⟩
  | .hbm, ⟨3, _⟩ => ⟨S1x1024x1024, .f32⟩
  | .hbm, ⟨4, _⟩ => ⟨S2x1024, .f32⟩
  | .hbm, ⟨5, _⟩ => ⟨S2x1024x2816, .f32⟩
  | .hbm, ⟨6, _⟩ => ⟨S2x1024x2816, .f32⟩
  | .hbm, ⟨7, _⟩ => ⟨S2x2816x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x4096x1024, .f32⟩
  | .hbm, ⟨15, _⟩ => ⟨S1024x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S1x1024, .f32⟩
  | .hbm, ⟨21, _⟩ => ⟨S1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S4x4096x1024, .f32⟩
  | .hbm, ⟨45, _⟩ => ⟨S1x1024x2816, .f32⟩
  | .hbm, ⟨46, _⟩ => ⟨S1024x2816, .f32⟩
  | .hbm, ⟨47, _⟩ => ⟨S1x1024x2816, .f32⟩
  | .hbm, ⟨48, _⟩ => ⟨S1024x2816, .f32⟩
  | .hbm, ⟨49, _⟩ => ⟨S1x2816x1024, .f32⟩
  | .hbm, ⟨50, _⟩ => ⟨S2816x1024, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== SsdIn.lean ====
abbrev S4x4096x1024 : Shape := ⟨3, ![4, 4096, 1024]⟩
abbrev S4x6x1024 : Shape := ⟨3, ![4, 6, 1024]⟩
abbrev S2x1024 : Shape := ⟨2, ![2, 1024]⟩
abbrev S1x1024x5184 : Shape := ⟨3, ![1, 1024, 5184]⟩
abbrev S1x2x32 : Shape := ⟨3, ![1, 2, 32]⟩
abbrev S1x1024 : Shape := ⟨2, ![1, 1024]⟩
abbrev S1024 : Shape := ⟨1, ![1024]⟩
abbrev S1024x5184 : Shape := ⟨2, ![1024, 5184]⟩
abbrev S2x32 : Shape := ⟨2, ![2, 32]⟩
abbrev S1024x64 : Shape := ⟨2, ![1024, 64]⟩
abbrev S_ : Shape := ⟨0, ![]⟩
abbrev S1024x128 : Shape := ⟨2, ![1024, 128]⟩
abbrev S1x64 : Shape := ⟨2, ![1, 64]⟩
abbrev S1x128 : Shape := ⟨2, ![1, 128]⟩
abbrev S1024x2048 : Shape := ⟨2, ![1024, 2048]⟩
abbrev S1024x3072 : Shape := ⟨2, ![1024, 3072]⟩
abbrev S4x4096x2048 : Shape := ⟨3, ![4, 4096, 2048]⟩
abbrev S4x4096x3072 : Shape := ⟨3, ![4, 4096, 3072]⟩
abbrev S4x4096x128 : Shape := ⟨3, ![4, 4096, 128]⟩
abbrev S1x512x1024 : Shape := ⟨3, ![1, 512, 1024]⟩
abbrev S1x6x1024 : Shape := ⟨3, ![1, 6, 1024]⟩
abbrev S1x512x2048 : Shape := ⟨3, ![1, 512, 2048]⟩
abbrev S1x512x3072 : Shape := ⟨3, ![1, 512, 3072]⟩
abbrev S1x512x128 : Shape := ⟨3, ![1, 512, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S256x2048 : Shape := ⟨2, ![256, 2048]⟩
abbrev S1x256x2048 : Shape := ⟨3, ![1, 256, 2048]⟩
abbrev S256x3072 : Shape := ⟨2, ![256, 3072]⟩
abbrev S1x256x3072 : Shape := ⟨3, ![1, 256, 3072]⟩
abbrev S256x128 : Shape := ⟨2, ![256, 128]⟩
abbrev S1x256x128 : Shape := ⟨3, ![1, 256, 128]⟩

abbrev nBuf : Space → Nat
  | .hbm => 29
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S2x1024, .f32⟩
  | .hbm, ⟨3, _⟩ => ⟨S1x1024x5184, .f32⟩
  | .hbm, ⟨4, _⟩ => ⟨S1x2x32, .f32⟩
  | .hbm, ⟨5, _⟩ => ⟨S1x1024, .f32⟩
  | .hbm, ⟨6, _⟩ => ⟨S1024, .f32⟩
  | .hbm, ⟨7, _⟩ => ⟨S1024x5184, .f32⟩
  | .hbm, ⟨8, _⟩ => ⟨S2x32, .f32⟩
  | .hbm, ⟨9, _⟩ => ⟨S1024x64, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1024x128, .f32⟩
  | .hbm, ⟨15, _⟩ => ⟨S1024x128, .f32⟩
  | .hbm, ⟨16, _⟩ => ⟨S1024x128, .bf16⟩
  | .hbm, ⟨17, _⟩ => ⟨S1x64, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S1x1024, .f32⟩
  | .hbm, ⟨22, _⟩ => ⟨S1024x2048, .f32⟩
  | .hbm, ⟨23, _⟩ => ⟨S1024x2048, .bf16⟩
  | .hbm, ⟨24, _⟩ => ⟨S1024x3072, .f32⟩
  | .hbm, ⟨25, _⟩ => ⟨S1024x3072, .bf16⟩
  | .hbm, ⟨26, _⟩ => ⟨S4x4096x2048, .bf16⟩
  | .hbm, ⟨27, _⟩ => ⟨S4x4096x3072, .bf16⟩
  | .hbm, ⟨28, _⟩ => ⟨S4x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x2048, .bf16⟩
  | .local _ .vmem, ⟨6, _⟩ => ⟨S1024x3072, .bf16⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x3072, .bf16⟩
  | .local _ .vmem, ⟨13, _⟩ => ⟨S1x512x3072, .bf16⟩
  | .local _ .vmem, ⟨14, _⟩ => ⟨S1x512x128, .f32⟩
  | .local _ .vmem, ⟨15, _⟩ => ⟨S1x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SsdProjIdeal.lean ====
abbrev S4x4096x1024 : Shape := ⟨3, ![4, 4096, 1024]⟩
abbrev S4x6x1024 : Shape := ⟨3, ![4, 6, 1024]⟩
abbrev S2x1024 : Shape := ⟨2, ![2, 1024]⟩
abbrev S1x1024x5184 : Shape := ⟨3, ![1, 1024, 5184]⟩
abbrev S1x2x32 : Shape := ⟨3, ![1, 2, 32]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5184 : Shape := ⟨2, ![1024, 5184]⟩
abbrev S4x4096x5184 : Shape := ⟨3, ![4, 4096, 5184]⟩
abbrev S4x4096x2048 : Shape := ⟨3, ![4, 4096, 2048]⟩
abbrev S4x4096x3072 : Shape := ⟨3, ![4, 4096, 3072]⟩
abbrev S4x4096x64 : Shape := ⟨3, ![4, 4096, 64]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S2x1024, .f32⟩
  | .hbm, ⟨3, _⟩ => ⟨S1x1024x5184, .f32⟩
  | .hbm, ⟨4, _⟩ => ⟨S1x2x32, .f32⟩
  | .hbm, ⟨5, _⟩ => ⟨S4x1x1024, .f32⟩
  | .hbm, ⟨6, _⟩ => ⟨S4x1x1024, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x1x1024, .f32⟩
  | .hbm, ⟨11, _⟩ => ⟨S1x1024, .f32⟩
  | .hbm, ⟨12, _⟩ => ⟨S1024, .f32⟩
  | .hbm, ⟨13, _⟩ => ⟨S4x4096x1024, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S4x4096x1, .f32⟩
  | .hbm, ⟨24, _⟩ => ⟨S4x4096x1024, .f32⟩
  | .hbm, ⟨25, _⟩ => ⟨S4x4096x1024, .f32⟩
  | .hbm, ⟨26, _⟩ => ⟨S1x1x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x1x1024, .f32⟩
  | .hbm, ⟨31, _⟩ => ⟨S4x1x1024, .f32⟩
  | .hbm, ⟨32, _⟩ => ⟨S4x4096x1024, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S1024x5184, .f32⟩
  | .hbm, ⟨37, _⟩ => ⟨S4x4096x5184, .f32⟩
  | .hbm, ⟨38, _⟩ => ⟨S4x4096x2048, .f32⟩
  | .hbm, ⟨39, _⟩ => ⟨S4x4096x3072, .f32⟩
  | .hbm, ⟨40, _⟩ => ⟨S4x4096x64, .f32⟩
  | .hbm, ⟨41, _⟩ => ⟨S4x4096x2048, .bf16⟩
  | .hbm, ⟨42, _⟩ => ⟨S4x4096x3072, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== MlaProj.lean ====
abbrev S4x4096x1024 : Shape := ⟨3, ![4, 4096, 1024]⟩
abbrev S4x6x1024 : Shape := ⟨3, ![4, 6, 1024]⟩
abbrev S2x1024 : Shape := ⟨2, ![2, 1024]⟩
abbrev S1x1024x800 : Shape := ⟨3, ![1, 1024, 800]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S4096x16 : Shape := ⟨2, ![4096, 16]⟩
abbrev S32 : Shape := ⟨1, ![32]⟩
abbrev S1024x800 : Shape := ⟨2, ![1024, 800]⟩
abbrev S512 : Shape := ⟨1, ![512]⟩
abbrev S512x1536 : Shape := ⟨2, ![512, 1536]⟩
abbrev S256 : Shape := ⟨1, ![256]⟩
abbrev S256x2048 : Shape := ⟨2, ![256, 2048]⟩
abbrev S1024x32 : Shape := ⟨2, ![1024, 32]⟩
abbrev S_ : Shape := ⟨0, ![]⟩
abbrev S32x1 : Shape := ⟨2, ![32, 1]⟩
abbrev S1024x64 : Shape := ⟨2, ![1024, 64]⟩
abbrev S1024x768 : Shape := ⟨2, ![1024, 768]⟩
abbrev S1024x1024 : Shape := ⟨2, ![1024, 1024]⟩
abbrev S512x16x96 : Shape := ⟨3, ![512, 16, 96]⟩
abbrev S512x16x32 : Shape := ⟨3, ![512, 16, 32]⟩
abbrev S512x16x128 : Shape := ⟨3, ![512, 16, 128]⟩
abbrev S512x2048 : Shape := ⟨2, ![512, 2048]⟩
abbrev S256x16x128 : Shape := ⟨3, ![256, 16, 128]⟩
abbrev S256x16x64 : Shape := ⟨3, ![256, 16, 64]⟩
abbrev S256x1024 : Shape := ⟨2, ![256, 1024]⟩
abbrev S1x1024 : Shape := ⟨2, ![1, 1024]⟩
abbrev S1024 : Shape := ⟨1, ![1024]⟩
abbrev S4096x8 : Shape := ⟨2, ![4096, 8]⟩
abbrev S4096x32 : Shape := ⟨2, ![4096, 32]⟩
abbrev S4096x64 : Shape := ⟨2, ![4096, 64]⟩
abbrev S4096x128 : Shape := ⟨2, ![4096, 128]⟩
abbrev S4x16x4096x128 : Shape := ⟨4, ![4, 16, 4096, 128]⟩
abbrev S1x512x1024 : Shape := ⟨3, ![1, 512, 1024]⟩
abbrev S1x6x1024 : Shape := ⟨3, ![1, 6, 1024]⟩
abbrev S512x128 : Shape := ⟨2, ![512, 128]⟩
abbrev S1x16x512x128 : Shape := ⟨4, ![1, 16, 512, 128]⟩
abbrev S1x256x1024 : Shape := ⟨3, ![1, 256, 1024]⟩
abbrev S256x1 : Shape := ⟨2, ![256, 1]⟩
abbrev S1x1x1024 : Shape := ⟨3, ![1, 1, 1024]⟩
abbrev S256x512 : Shape := ⟨2, ![256, 512]⟩
abbrev S256x256 : Shape := ⟨2, ![256, 256]⟩
abbrev S256x128 : Shape := ⟨2, ![256, 128]⟩
abbrev S1x1x256x128 : Shape := ⟨4, ![1, 1, 256, 128]⟩

abbrev nBuf : Space → Nat
  | .hbm => 78
  | .vmem => 23
  | .smem => 0
  | _ => 0

abbrev bufTy : (tb : Table) → Fin (tcTables nBuf tb) → BufTy
  | .hbm, ⟨0, _⟩ => ⟨S4x4096x1024, .f32⟩
  | .hbm, ⟨1, _⟩ => ⟨S4x6x1024, .f32⟩
  | .hbm, ⟨2, _⟩ => ⟨S2x1024, .f32⟩
  | .hbm, ⟨3, _⟩ => ⟨S1x1024x800, .f32⟩
  | .hbm, ⟨4, _⟩ => ⟨S1x512, .f32⟩
  | .hbm, ⟨5, _⟩ => ⟨S1x512x1536, .f32⟩
  | .hbm, ⟨6, _⟩ => ⟨S1x256, .f32⟩
  | .hbm, ⟨7, _⟩ => ⟨S1x256x2048, .f32⟩
  | .hbm, ⟨8, _⟩ => ⟨S4096x16, .f32⟩
  | .hbm, ⟨9, _⟩ => ⟨S4096x16, .f32⟩
  | .hbm, ⟨10, _⟩ => ⟨S32, .i32⟩
  | .hbm, ⟨11, _⟩ => ⟨S32, .i1⟩
  | .hbm, ⟨12, _⟩ => ⟨S32, .i1⟩
  | .hbm, ⟨13, _⟩ => ⟨S1024x800, .f32⟩
  | .hbm, ⟨14, _⟩ => ⟨S512, .f32⟩
  | .hbm, ⟨15, _⟩ => ⟨S512x1536, .f32⟩
  | .hbm, ⟨16, _⟩ => ⟨S256, .f32⟩
  | .hbm, ⟨17, _⟩ => ⟨S256x2048, .f32⟩
  | .hbm, ⟨18, _⟩ => ⟨S1024x32, .f32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S1024x32, .f32⟩
  | .hbm, ⟨25, _⟩ => ⟨S_, .f32⟩
  | .hbm, ⟨26, _⟩ => ⟨S1024x64, .f32⟩
  | .hbm, ⟨27, _⟩ => ⟨S1024x768, .f32⟩
  | .hbm, ⟨28, _⟩ => ⟨S1024x1024, .f32⟩
  | .hbm, ⟨29, _⟩ => ⟨S512x16x96, .f32⟩
  | .hbm, ⟨30, _⟩ => ⟨S512x16x32, .f32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S512x16x32, .f32⟩
  | .hbm, ⟨37, _⟩ => ⟨S512x16x128, .f32⟩
  | .hbm, ⟨38, _⟩ => ⟨S512x2048, .f32⟩
  | .hbm, ⟨39, _⟩ => ⟨S256x16x128, .f32⟩
  | .hbm, ⟨40, _⟩ => ⟨S256x16x64, .f32⟩
  | .hbm, ⟨41, _⟩ => ⟨S_, .f32⟩
  | .hbm, ⟨42, _⟩ => ⟨S256x16x64, .f32⟩
  | .hbm, ⟨43, _⟩ => ⟨S256x16x128, .f32⟩
  | .hbm, ⟨44, _⟩ => ⟨S1024x1024, .bf16⟩
  | .hbm, ⟨45, _⟩ => ⟨S1x512, .f32⟩
  | .hbm, ⟨46, _⟩ => ⟨S512x2048, .bf16⟩
  | .hbm, ⟨47, _⟩ => ⟨S1x256, .f32⟩
  | .hbm, ⟨48, _⟩ => ⟨S256x2048, .f32⟩
  | .hbm, ⟨49, _⟩ => ⟨S256x2048, .bf16⟩
  | .hbm, ⟨50, _⟩ => ⟨S256x16x64, .f32⟩
  | .hbm, ⟨51, _⟩ => ⟨S256x1024, .f32⟩
  | .hbm, ⟨52, _⟩ => ⟨S256x1024, .bf16⟩
  | .hbm, ⟨53, _⟩ => ⟨S1x1024, .f32⟩
  | .hbm, ⟨54, _⟩ => ⟨S1024, .f32⟩
  | .hbm, ⟨55, _⟩ => ⟨S1x1024, .f32⟩
  | .hbm, ⟨56, _⟩ => ⟨S4096x8, .f32⟩
  | .hbm, ⟨57, _⟩ => ⟨S4096x8, .f32⟩
  | .hbm, ⟨58, _⟩ => ⟨S4096x8, .f32⟩
  | .hbm, ⟨59, _⟩ => ⟨S4096x8, .f32⟩
  | .hbm, ⟨60, _⟩ => ⟨S4096x32, .f32⟩
  | .hbm, ⟨61, _⟩ => ⟨S4096x8, .f32⟩
  | .hbm, ⟨62, _⟩ => ⟨S4096x8, .f32⟩
  | .hbm, ⟨63, _⟩ => ⟨S4096x8, .f32⟩
  | .hbm, ⟨64, _⟩ => ⟨S4096x8, .f32⟩
  | .hbm, ⟨65, _⟩ => ⟨S4096x8, .f32⟩
  | .hbm, ⟨66, _⟩ => ⟨S4096x8, .f32⟩
  | .hbm, ⟨67, _⟩ => ⟨S4096x32, .f32⟩
  | .hbm, ⟨68, _⟩ => ⟨S_, .f32⟩
  | .hbm, ⟨69, _⟩ => ⟨S4096x64, .f32⟩
  | .hbm, ⟨70, _⟩ => ⟨S_, .f32⟩
  | .hbm, ⟨71, _⟩ => ⟨S4096x64, .f32⟩
  | .hbm, ⟨72, _⟩ => ⟨S4096x128, .f32⟩
  | .hbm, ⟨73, _⟩ => ⟨S4096x128, .f32⟩
  | .hbm, ⟨74, _⟩ => ⟨S4096x128, .f32⟩
  | .hbm, ⟨75, _⟩ => ⟨S4x16x4096x128, .bf16⟩
  | .hbm, ⟨76, _⟩ => ⟨S4x16x4096x128, .bf16⟩
  | .hbm, ⟨77, _⟩ => ⟨S4x4096x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1024, .bf16⟩
  | .local _ .vmem, ⟨6, _⟩ => ⟨S1x512, .f32⟩
  | .local _ .vmem, ⟨7, _⟩ => ⟨S512x2048, .bf16⟩
  | .local _ .vmem, ⟨8, _⟩ => ⟨S1x256, .f32⟩
  | .local _ .vmem, ⟨9, _⟩ => ⟨S256x2048, .bf16⟩
  | .local _ .vmem, ⟨10, _⟩ => ⟨S256x1024, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S1x16x512x128, .bf16⟩
  | .local _ .vmem, ⟨18, _⟩ => ⟨S1x16x512x128, .bf16⟩
  | .local _ .vmem, ⟨19, _⟩ => ⟨S1x16x512x128, .bf16⟩
  | .local _ .vmem, ⟨20, _⟩ => ⟨S1x16x512x128, .bf16⟩
  | .local _ .vmem, ⟨21, _⟩ => ⟨S1x512x1024, .bf16⟩
  | .local _ .vmem, ⟨22, _⟩ => ⟨S1x512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_5 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56_0 : Ref sig .tc := ⟨.hbm, 75, rfl⟩
abbrev main_v56_1 : Ref sig .tc := ⟨.hbm, 76, rfl⟩
abbrev main_v56_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x16x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== LatentQkvIdeal.lean ====
abbrev S4x4096x1024 : Shape := ⟨3, ![4, 4096, 1024]⟩
abbrev S4x6x1024 : Shape := ⟨3, ![4, 6, 1024]⟩
abbrev S2x1024 : Shape := ⟨2, ![2, 1024]⟩
abbrev S1x1024x800 : Shape := ⟨3, ![1, 1024, 800]⟩
abbrev S1x512 : Shape := ⟨2, ![1, 512]⟩
abbrev S1x512x1536 : Shape := ⟨3, ![1, 512, 1536]⟩
abbrev S1x256 : Shape := ⟨2, ![1, 256]⟩
abbrev S1x256x2048 : Shape := ⟨3, ![1, 256, 2048]⟩
abbrev S4096x16 : Shape := ⟨2, ![4096, 16]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x800 : Shape := ⟨2, ![1024, 800]⟩
abbrev S4x4096x800 : Shape := ⟨3, ![4, 4096, 800]⟩
abbrev S4x4096x512 : Shape := ⟨3, ![4, 4096, 512]⟩
abbrev S4x4096x256 : Shape := ⟨3, ![4, 4096, 256]⟩
abbrev S4x4096x32 : Shape := ⟨3, ![4, 4096, 32]⟩
abbrev S512 : Shape := ⟨1, ![512]⟩
abbrev S1x1x512 : Shape := ⟨3, ![1, 1, 512]⟩
abbrev S512x1536 : Shape := ⟨2, ![512, 1536]⟩
abbrev S4x4096x1536 : Shape := ⟨3, ![4, 4096, 1536]⟩
abbrev S4x4096x16x96 : Shape := ⟨4, ![4, 4096, 16, 96]⟩
abbrev S256 : Shape := ⟨1, ![256]⟩
abbrev S1x1x256 : Shape := ⟨3, ![1, 1, 256]⟩
abbrev S256x2048 : Shape := ⟨2, ![256, 2048]⟩
abbrev S4x4096x2048 : Shape := ⟨3, ![4, 4096, 2048]⟩
abbrev S4x4096x16x128 : Shape := ⟨4, ![4, 4096, 16, 128]⟩
abbrev S4x4096x16x64 : Shape := ⟨4, ![4, 4096, 16, 64]⟩
abbrev S4x4096x16x32 : Shape := ⟨4, ![4, 4096, 16, 32]⟩
abbrev S1x4096x1x16 : Shape := ⟨4, ![1, 4096, 1, 16]⟩
abbrev S4x4096x16x8 : Shape := ⟨4, ![4, 4096, 16, 8]⟩
abbrev S1x4096x1x8 : Shape := ⟨4, ![1, 4096, 1, 8]⟩
abbrev S4x4096x1x32 : Shape := ⟨4, ![4, 4096, 1, 32]⟩
abbrev S4x4096x1x8 : Shape := ⟨4, ![4, 4096, 1, 8]⟩
abbrev S4x16x4096x128 : Shape := ⟨4, ![4, 16, 4096, 128]⟩

abbrev nBuf : Space → Nat
  | .hbm => 161
  | .vmem => 0
  | .smem => 0
  | _ => 0

abbrev hbmTy0_0 (i : Nat) : BufTy := match i % 128 with
  | 0 => ⟨S4x4096x1024, .f32⟩
  | 1 => ⟨S4x6x1024, .f32⟩
  | 2 => ⟨S2x1024, .f32⟩
  | 3 => ⟨S1x1024x800, .f32⟩
  | 4 => ⟨S1x512, .f32⟩
  | 5 => ⟨S1x512x1536, .f32⟩
  | 6 => ⟨S1x256, .f32⟩
  | 7 => ⟨S1x256x2048, .f32⟩
  | 8 => ⟨S4096x16, .f32⟩
  | 9 => ⟨S4096x16, .f32⟩
  | 10 => ⟨S4x1x1024, .f32⟩
  | 11 => ⟨S4x1x1024, .f32⟩
  | 12 => ⟨S4x1x1024, .f32⟩
  | 13 => ⟨S4x1x1024, .f32⟩
  | 14 => ⟨S4x1x1024, .f32⟩
  | 15 => ⟨S4x1x1024, .f32⟩
  | 16 => ⟨S1x1024, .f32⟩
  | 17 => ⟨S1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S1024x800, .f32⟩
  | 42 => ⟨S4x4096x800, .f32⟩
  | 43 => ⟨S4x4096x512, .f32⟩
  | 44 => ⟨S4x4096x256, .f32⟩
  | 45 => ⟨S4x4096x32, .f32⟩
  | 46 => ⟨S512, .f32⟩
  | 47 => ⟨S4x4096x512, .f32⟩
  | 48 => ⟨S_, .f32⟩
  | 49 => ⟨S4x4096, .f32⟩
  | 50 => ⟨S4x4096x1, .f32⟩
  | 51 => ⟨S_, .f32⟩
  | 52 => ⟨S4x4096x1, .f32⟩
  | 53 => ⟨S4x4096x1, .f32⟩
  | 54 => ⟨S_, .f32⟩
  | 55 => ⟨S4x4096x1, .f32⟩
  | 56 => ⟨S4x4096x1, .f32⟩
  | 57 => ⟨S4x4096x1, .f32⟩
  | 58 => ⟨S4x4096x512, .f32⟩
  | 59 => ⟨S4x4096x512, .f32⟩
  | 60 => ⟨S1x1x512, .f32⟩
  | 61 => ⟨S4x4096x512, .f32⟩
  | 62 => ⟨S4x4096x512, .f32⟩
  | 63 => ⟨S512x1536, .f32⟩
  | 64 => ⟨S4x4096x1536, .f32⟩
  | 65 => ⟨S4x4096x16x96, .f32⟩
  | 66 => ⟨S256, .f32⟩
  | 67 => ⟨S4x4096x256, .f32⟩
  | 68 => ⟨S_, .f32⟩
  | 69 => ⟨S4x4096, .f32⟩
  | 70 => ⟨S4x4096x1, .f32⟩
  | 71 => ⟨S_, .f32⟩
  | 72 => ⟨S4x4096x1, .f32⟩
  | 73 => ⟨S4x4096x1, .f32⟩
  | 74 => ⟨S_, .f32⟩
  | 75 => ⟨S4x4096x1, .f32⟩
  | 76 => ⟨S4x4096x1, .f32⟩
  | 77 => ⟨S4x4096x1, .f32⟩
  | 78 => ⟨S4x4096x256, .f32⟩
  | 79 => ⟨S4x4096x256, .f32⟩
  | 80 => ⟨S1x1x256, .f32⟩
  | 81 => ⟨S4x4096x256, .f32⟩
  | 82 => ⟨S4x4096x256, .f32⟩
  | 83 => ⟨S256x2048, .f32⟩
  | 84 => ⟨S4x4096x2048, .f32⟩
  | 85 => ⟨S4x4096x16x128, .f32⟩
  | 86 => ⟨S4x4096x16x64, .f32⟩
  | 87 => ⟨S4x4096x16x64, .f32⟩
  | 88 => ⟨S4x4096x16x64, .f32⟩
  | 89 => ⟨S4x4096x16x32, .f32⟩
  | 90 => ⟨S1x4096x1x16, .f32⟩
  | 91 => ⟨S1x4096x1x16, .f32⟩
  | 92 => ⟨S4x4096x16x8, .f32⟩
  | 93 => ⟨S4x4096x16x8, .f32⟩
  | 94 => ⟨S1x4096x1x8, .f32⟩
  | 95 => ⟨S1x4096x1x8, .f32⟩
  | 96 => ⟨S4x4096x16x8, .f32⟩
  | 97 => ⟨S4x4096x16x8, .f32⟩
  | 98 => ⟨S4x4096x16x8, .f32⟩
  | 99 => ⟨S4x4096x16x8, .f32⟩
  | 100 => ⟨S4x4096x16x8, .f32⟩
  | 101 => ⟨S4x4096x16x8, .f32⟩
  | 102 => ⟨S4x4096x16x8, .f32⟩
  | 103 => ⟨S4x4096x16x8, .f32⟩
  | 104 => ⟨S4x4096x16x8, .f32⟩
  | 105 => ⟨S4x4096x16x8, .f32⟩
  | 106 => ⟨S4x4096x16x8, .f32⟩
  | 107 => ⟨S1x4096x1x8, .f32⟩
  | 108 => ⟨S1x4096x1x8, .f32⟩
  | 109 => ⟨S4x4096x16x8, .f32⟩
  | 110 => ⟨S4x4096x16x8, .f32⟩
  | 111 => ⟨S4x4096x16x8, .f32⟩
  | 112 => ⟨S4x4096x16x8, .f32⟩
  | 113 => ⟨S4x4096x16x8, .f32⟩
  | 114 => ⟨S4x4096x16x8, .f32⟩
  | 115 => ⟨S4x4096x16x8, .f32⟩
  | 116 => ⟨S4x4096x16x8, .f32⟩
  | 117 => ⟨S4x4096x16x8, .f32⟩
  | 118 => ⟨S4x4096x16x32, .f32⟩
  | 119 => ⟨S4x4096x16x32, .f32⟩
  | 120 => ⟨S4x4096x1x32, .f32⟩
  | 121 => ⟨S1x4096x1x16, .f32⟩
  | 122 => ⟨S1x4096x1x16, .f32⟩
  | 123 => ⟨S4x4096x1x8, .f32⟩
  | 124 => ⟨S4x4096x1x8, .f32⟩
  | 125 => ⟨S1x4096x1x8, .f32⟩
  | 126 => ⟨S1x4096x1x8, .f32⟩
  | 127 => ⟨S4x4096x1x8, .f32⟩
  | _ => ⟨S4x4096x1024, .f32⟩

abbrev hbmTy0_1 (i : Nat) : BufTy := match i % 128 with
  | 0 => ⟨S4x4096x1x8, .f32⟩
  | 1 => ⟨S4x4096x1x8, .f32⟩
  | 2 => ⟨S4x4096x1x8, .f32⟩
  | 3 => ⟨S4x4096x1x8, .f32⟩
  | 4 => ⟨S4x4096x1x8, .f32⟩
  | 5 => ⟨S4x4096x1x8, .f32⟩
  | 6 => ⟨S4x4096x1x8, .f32⟩
  | 7 => ⟨S4x4096x1x8, .f32⟩
  | 8 => ⟨S4x4096x1x8, .f32⟩
  | 9 => ⟨S4x4096x1x8, .f32⟩
  | 10 => ⟨S1x4096x1x8, .f32⟩
  | 11 => ⟨S1x4096x1x8, .f32⟩
  | 12 => ⟨S4x4096x1x8, .f32⟩
  | 13 => ⟨S4x4096x1x8, .f32⟩
  | 14 => ⟨S4x4096x1x8, .f32⟩
  | 15 => ⟨S4x4096x1x8, .f32⟩
  | 16 => ⟨S4x4096x1x8, .f32⟩
  | 17 => ⟨S4x4096x1x8, .f32⟩
  | 18 => ⟨S4x4096x1x8, .f32⟩
  | 19 => ⟨S4x4096x1x8, .f32⟩
  | 20 => ⟨S4x4096x1x8, .f32⟩
  | 21 => ⟨S4x4096x1x32, .f32⟩
  | 22 => ⟨S4x4096x1x32, .f32⟩
  | 23 => ⟨S4x4096x1x32, .f32⟩
  | 24 => ⟨S4x4096x16x32, .f32⟩
  | 25 => ⟨S4x4096x16x128, .f32⟩
  | 26 => ⟨S4x16x4096x128, .f32⟩
  | 27 => ⟨S4x4096x16x128, .f32⟩
  | 28 => ⟨S4x16x4096x128, .f32⟩
  | 29 => ⟨S4x16x4096x128, .bf16⟩
  | 30 => ⟨S4x16x4096x128, .bf16⟩
  | 31 => ⟨S4x4096x1024, .f32⟩
  | 32 => ⟨S4x4096x1024, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩

abbrev nD : Nat := 1
abbrev τ : Topo := Topo.v7x

variable {F : FTy → Type} [FloatOps F]
-- ==== Proof.AttnPure.lean ====
/-
  What one grid point of the attention kernel computes, as functions of the blocks it is given. A grid point holds one batch element and a pair of heads: the queries of
  both heads (`X2`), the context keys (`X3`) and values (`X4`), the latent keys (`X5`) and values (`X6`). Queries go in sixteen tiles of 256; keys in one chunk of 256
  context keys and eight chunks of 512 latent keys. Everything is stated for any float values `F`.
-/
module

public import proofs.«01_k».proof.Proof.Gen.KernelIdeal.Skeleton
public import Idealize.ShloMosaic.Lib.Pointwise
public import Idealize.ShloMosaic.Lib.WritesUnit
public import Idealize.ShloMosaic.Lib.Pipeline.ReadBack

@[expose] public section

set_option maxRecDepth 16384

noncomputable section

namespace Idealize.ShloMosaic.View

variable {sig : RefSig} {κ : Kind} {sp : Space} {s : Shape} {e : EltTy} {Val : EltTy → Type}

/-- A load through the last store's own rectangle reads what was stored. -/
theorem load_hit (v : View sig κ sp s e) (f : v.ty.Contents Val) (r : Rect s) (w : r.shape.Idx → Val e) (L : List (Piece Val s e)) :
    v.readAt Val r.toLoadRect (v.writes Val f (⟨r, w⟩ :: L)) = w :=
  funext fun j => read_writes_cons_emb v f r w L j

/-- A load whose rectangle misses the last store reads what was there before it. -/
theorem load_skip (v : View sig κ sp s e) (f : v.ty.Contents Val) (r : Rect s) (w : r.shape.Idx → Val e) (L : List (Piece Val s e)) (B : LoadRect s)
    (h : LoadRect.disj r B = true) : v.readAt Val B (v.writes Val f (⟨r, w⟩ :: L)) = v.readAt Val B (v.writes Val f L) :=
  funext fun j => by
    rw [readAt_apply, readAt_apply]
    refine read_slice_write_of_not_mem (v := v) r _ w Finset.univ fun hm => LoadRect.idx_not_mem_of_disj h j ?_
    obtain ⟨i, -, hi⟩ := Finset.mem_map.mp hm
    exact hi ▸ r.toLoadRect.idx_mem i

/-- A load of a part of the last store's rectangle reads that part of what was stored. -/
theorem load_part (v : View sig κ sp s e) (f : v.ty.Contents Val) {off size : Fin s.rank → ℕ} (inb : ∀ a, off a + size a ≤ s.size a)
    (w : (Rect.unit off size inb).shape.Idx → Val e) (L : List (Piece Val s e)) {offB sizeB : Fin s.rank → ℕ} (inbB : ∀ a, offB a + sizeB a ≤ s.size a)
    (off' : Fin s.rank → ℕ) (ho : ∀ a, offB a = off a + off' a) (inb' : ∀ a, off' a + sizeB a ≤ size a) :
    v.readAt Val (Rect.unit offB sizeB inbB).toLoadRect (v.writes Val f (⟨Rect.unit off size inb, w⟩ :: L))
      = fun x => w (fun a => ⟨off' a + (x a).val, by have := inb' a; have := (x a).isLt; show _ < size a; change (x a).val < sizeB a at this; omega⟩) := by
  funext x
  rw [readAt_apply]
  refine (congrArg (v.read Val _) ?_).trans (read_writes_cons_emb v f _ w L _)
  funext a
  apply Fin.ext
  show offB a + 1 * (x a).val = off a + 1 * (off' a + (x a).val)
  rw [ho a]; omega

end Idealize.ShloMosaic.View

namespace Cert.KernelIdeal.Attn

open Idealize.ShloMosaic Idealize.ShloMosaic.TcCoe
open Cert.KernelIdeal Cert.KernelIdeal.Gen

variable {F : FTy → Type} [FloatOps F]

/-! ## The blocks' parts -/

/-- Query tile `k` of head `h`. -/
def qT (X2 : Vec F S1x2x4096x128 .bf16) (h : Fin 2) (k : Fin 16) : Vec F S1x1x256x128 .bf16 :=
  fun x => X2 (ix4 0 h ⟨256 * k.val + (x 2).val, by have := k.isLt; have h : (x 2).val < 256 := (x 2).isLt; omega⟩ (x 3))

/-- The context keys of head `h`. -/
def kC (X3 : Vec F S1x2x256x128 .bf16) (h : Fin 2) : Vec F S1x1x256x128 .bf16 := fun x => X3 (ix4 0 h (x 2) (x 3))

/-- Chunk `n` of the latent keys of head `h`. -/
def kX (X5 : Vec F S1x2x4096x128 .bf16) (h : Fin 2) (n : Fin 8) : Vec F S1x1x512x128 .bf16 :=
  fun x => X5 (ix4 0 h ⟨512 * n.val + (x 2).val, by have := n.isLt; have h : (x 2).val < 512 := (x 2).isLt; omega⟩ (x 3))

/-! ## Scores, running maximum -/

/-- Scores of the context keys (rows) for a query tile (columns). -/
def sC (q : Vec F S1x1x256x128 .bf16) (kk : Vec F S1x1x256x128 .bf16) : FVec F S1x256x256 .f32 := k0_pay4 q kk

/-- Scores of a chunk of latent keys (rows) for a query tile (columns). -/
def sX (q : Vec F S1x1x256x128 .bf16) (kk : Vec F S1x1x512x128 .bf16) : FVec F S1x512x256 .f32 := k0_pay6 q kk

/-- The largest context score of each query. -/
def mC (q : Vec F S1x1x256x128 .bf16) (kk : Vec F S1x1x256x128 .bf16) : FVec F S1x256 .f32 :=
  shapeCast S1x256 (multiReduction .maximumf [0] S256 (k0_pay3 q kk) 0xFF800000#32 reduces_S256x256_S256 (.inl rfl) rfl) shapeCasts_S256_S1x256

/-- A running maximum continued by one chunk of latent keys. -/
def mX (q : Vec F S1x1x256x128 .bf16) (m : FVec F S1x256 .f32) (kk : Vec F S1x1x512x128 .bf16) : FVec F S1x256 .f32 :=
  maximumf m (shapeCast S1x256 (multiReduction .maximumf [0] S256 (k0_pay5 q kk) 0xFF800000#32 reduces_S512x256_S256 (.inl rfl) rfl) shapeCasts_S256_S1x256)

/-- The largest score of each query of a tile, over all keys. -/
def mAll (q : Vec F S1x1x256x128 .bf16) (kc : Vec F S1x1x256x128 .bf16) (kx : Fin 8 → Vec F S1x1x512x128 .bf16) : FVec F S1x256 .f32 :=
  mX q (mX q (mX q (mX q (mX q (mX q (mX q (mX q (mC q kc) (kx 0)) (kx 1)) (kx 2)) (kx 3)) (kx 4)) (kx 5)) (kx 6)) (kx 7)

/-- That maximum as the kernel keeps it: eight equal rows. -/
def m8 (m : FVec F S1x256 .f32) : FVec F S1x8x256 .f32 := k0_pay24 m

/-- One of those rows, as loaded. -/
def mRow (m : FVec F S1x256 .f32) : Vec F S1x1x256 .f32 := fun x => m8 m (ix3 0 0 (x 2))

/-! ## Values -/

/-- The context part of head 0's value rows: values in the first 64 rows, ones in the last 64; head 1: the other way round. -/
def wC (X4 : Vec F S1x256x128 .bf16) : Fin 2 → FVec F S1x128x256 .bf16
  | 0 => k0_pay66 X4
  | 1 => k0_pay67 X4

/-! ## Accumulation -/

/-- The weights of a chunk: 2 to the power of score minus maximum. -/
def pC (s : Vec F S1x256x256 .f32) (m : Vec F S1x1x256 .f32) : FVec F S256x256 .bf16 :=
  truncf .bf16 (exp2 (subf (shapeCast S256x256 s shapeCasts_S1x256x256_S256x256)
    (broadcastTo S256x256 (shapeCast S1x256 m shapeCasts_S1x1x256_S1x256) broadcasts_S1x256_S256x256))) bitsLt_bf16_f32

def pX (s : Vec F S1x512x256 .f32) (m : Vec F S1x1x256 .f32) : FVec F S512x256 .bf16 :=
  truncf .bf16 (exp2 (subf (shapeCast S512x256 s shapeCasts_S1x512x256_S512x256)
    (broadcastTo S512x256 (shapeCast S1x256 m shapeCasts_S1x1x256_S1x256) broadcasts_S1x256_S512x256))) bitsLt_bf16_f32

/-- The accumulator after the context chunk. -/
def aC (s : Vec F S1x256x256 .f32) (m : Vec F S1x1x256 .f32) (w : Vec F S1x128x256 .bf16) : FVec F S128x256 .f32 :=
  addf (broadcast S128x256 (Scalar.ofBits .f32 0x00000000#32))
    (matmul dot_S128x256_S256x256_S128x256_1_0_0_1_n_n none (shapeCast S128x256 w shapeCasts_S1x128x256_S128x256) (pC s m) (constant S128x256 .f32 0x00000000#32))

/-- The accumulator continued by one chunk of latent keys. -/
def aX (a : FVec F S128x256 .f32) (s : Vec F S1x512x256 .f32) (m : Vec F S1x1x256 .f32) (w : Vec F S1x128x512 .bf16) : FVec F S128x256 .f32 :=
  addf a (matmul dot_S128x512_S512x256_S128x256_1_0_0_1_n_n none (shapeCast S128x512 w shapeCasts_S1x128x512_S128x512) (pX s m) (constant S128x256 .f32 0x00000000#32))

/-- The accumulator over all chunks. -/
def aAll (sc : Vec F S1x256x256 .f32) (sx : Fin 8 → Vec F S1x512x256 .f32) (m : Vec F S1x1x256 .f32) (wc : Vec F S1x128x256 .bf16)
    (wx : Fin 8 → Vec F S1x128x512 .bf16) : FVec F S128x256 .f32 :=
  aX (aX (aX (aX (aX (aX (aX (aX (aC sc m wc) (sx 0) m (wx 0)) (sx 1) m (wx 1)) (sx 2) m (wx 2)) (sx 3) m (wx 3)) (sx 4) m (wx 4)) (sx 5) m (wx 5))
    (sx 6) m (wx 6)) (sx 7) m (wx 7)

/-- The latent keys' part of the value rows of a head, all 4096 of them. -/
def wL (X6 : Vec F S1x4096x128 .bf16) : Fin 2 → FVec F S1x128x4096 .bf16
  | 0 => k0_pay69 X6
  | 1 => k0_pay70 k0_pay64 (k0_pay68 X6) (Scalar.ofBits .f32 0x3F800000#32)

/-- Chunk `n` of them. -/
def wX (X6 : Vec F S1x4096x128 .bf16) (h : Fin 2) (n : Fin 8) : Vec F S1x128x512 .bf16 :=
  fun x => wL X6 h (ix3 0 (x 1) ⟨512 * n.val + (x 2).val, by have := n.isLt; have h : (x 2).val < 512 := (x 2).isLt; omega⟩)

/-! ## A tile of the result -/

/-- The accumulator of head `h` for query tile `k`. -/
def acc (X2 : Vec F S1x2x4096x128 .bf16) (X3 : Vec F S1x2x256x128 .bf16) (X4 : Vec F S1x256x128 .bf16) (X5 : Vec F S1x2x4096x128 .bf16) (X6 : Vec F S1x4096x128 .bf16)
    (k : Fin 16) (h : Fin 2) : FVec F S128x256 .f32 :=
  aAll (sC (qT X2 h k) (kC X3 h)) (fun n => sX (qT X2 h k) (kX X5 h n)) (mRow (mAll (qT X2 h k) (kC X3 h) (kX X5 h))) (wC X4 h) (wX X6 h)

/-- Rows `256 k … 256 k + 255` of the result block. -/
def tile (X2 : Vec F S1x2x4096x128 .bf16) (X3 : Vec F S1x2x256x128 .bf16) (X4 : Vec F S1x256x128 .bf16) (X5 : Vec F S1x2x4096x128 .bf16) (X6 : Vec F S1x4096x128 .bf16)
    (k : Fin 16) : FVec F S1x256x128 .bf16 :=
  k0_pay94 k0_pay64 (acc X2 X3 X4 X5 X6 k 0) (acc X2 X3 X4 X5 X6 k 1) (k0_pay63 (acc X2 X3 X4 X5 X6 k 0))

/-- The result block. -/
def outBlk (X2 : Vec F S1x2x4096x128 .bf16) (X3 : Vec F S1x2x256x128 .bf16) (X4 : Vec F S1x256x128 .bf16) (X5 : Vec F S1x2x4096x128 .bf16) (X6 : Vec F S1x4096x128 .bf16) :
    Vec F S1x4096x128 .bf16 :=
  fun y => tile X2 X3 X4 X5 X6 ⟨(y 1).val / 256, by have h : (y 1).val < 4096 := (y 1).isLt; omega⟩ (ix3 0 ⟨(y 1).val % 256, Nat.mod_lt _ (by norm_num)⟩ (y 2))

end Cert.KernelIdeal.Attn
end
-- ==== Proof.AttnTrip.lean ====
/-
  One trip of the attention kernel's loop. Before trip `k` the scratch holds the scores and the maximum of head 0 for query tile `k`; the trip computes the scores of
  head 1, accumulates both heads, stores the tile's result rows, and leaves the scores and the maximum of head 0 for the next tile.
-/
module

public import proofs.«01_k».proof.Proof.Gen.KernelIdeal.Frame
public import proofs.«01_k».proof.Proof.AttnPure

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-! ## Loads of the inputs -/

theorem read_q {arg2 : Memref sig .tc .vmem S1x2x4096x128 .bf16} (f : arg2.view.ty.Contents (Elt F)) (off : Fin 4 → ℕ) (inb) (h : Fin 2) (k : Fin 16) (ho : off = ![0, h.val, 256 * k.val, 0]) :
    View.readAt (Elt F) arg2.view (Rect.unit (s := S1x2x4096x128) off S1x1x256x128.size inb).toLoadRect f = qT (arg2.view.read (Elt F) f) h k := by
  subst ho; funext x; rw [View.readAt_apply, qT]; congr 1; funext a; apply Fin.ext
  have h0 := (x 0).isLt; have h1 := (x 1).isLt
  match a with
  | ⟨0, _⟩ => change 0 + 1 * (x 0).val = 0; change (x 0).val < 1 at h0; omega
  | ⟨1, _⟩ => change h.val + 1 * (x 1).val = h.val; change (x 1).val < 1 at h1; omega
  | ⟨2, _⟩ => change 256 * k.val + 1 * (x 2).val = 256 * k.val + (x 2).val; omega
  | ⟨3, _⟩ => change 0 + 1 * (x 3).val = (x 3).val; omega

theorem read_kX {arg5 : Memref sig .tc .vmem S1x2x4096x128 .bf16} (f : arg5.view.ty.Contents (Elt F)) (off : Fin 4 → ℕ) (inb) (h : Fin 2) (n : Fin 8) (ho : off = ![0, h.val, 512 * n.val, 0]) :
    View.readAt (Elt F) arg5.view (Rect.unit (s := S1x2x4096x128) off S1x1x512x128.size inb).toLoadRect f = kX (arg5.view.read (Elt F) f) h n := by
  subst ho; funext x; rw [View.readAt_apply, kX]; congr 1; funext a; apply Fin.ext
  have h0 := (x 0).isLt; have h1 := (x 1).isLt
  match a with
  | ⟨0, _⟩ => change 0 + 1 * (x 0).val = 0; change (x 0).val < 1 at h0; omega
  | ⟨1, _⟩ => change h.val + 1 * (x 1).val = h.val; change (x 1).val < 1 at h1; omega
  | ⟨2, _⟩ => change 512 * n.val + 1 * (x 2).val = 512 * n.val + (x 2).val; omega
  | ⟨3, _⟩ => change 0 + 1 * (x 3).val = (x 3).val; omega

theorem read_kC {arg3 : Memref sig .tc .vmem S1x2x256x128 .bf16} (f : arg3.view.ty.Contents (Elt F)) (off : Fin 4 → ℕ) (inb) (h : Fin 2) (ho : off = ![0, h.val, 0, 0]) :
    View.readAt (Elt F) arg3.view (Rect.unit (s := S1x2x256x128) off S1x1x256x128.size inb).toLoadRect f = kC (arg3.view.read (Elt F) f) h := by
  subst ho; funext x; rw [View.readAt_apply, kC]; congr 1; funext a; apply Fin.ext
  have h0 := (x 0).isLt; have h1 := (x 1).isLt
  match a with
  | ⟨0, _⟩ => change 0 + 1 * (x 0).val = 0; change (x 0).val < 1 at h0; omega
  | ⟨1, _⟩ => change h.val + 1 * (x 1).val = h.val; change (x 1).val < 1 at h1; omega
  | ⟨2, _⟩ => change 0 + 1 * (x 2).val = (x 2).val; omega
  | ⟨3, _⟩ => change 0 + 1 * (x 3).val = (x 3).val; omega

/-- The loads of latent keys, chunk by chunk. -/
theorem reads_kX {arg5 : Memref sig .tc .vmem S1x2x4096x128 .bf16} (f : arg5.view.ty.Contents (Elt F)) :
    View.readAt (Elt F) arg5.view (Rect.unit (s := S1x2x4096x128) ![0, 0, 0, 0] S1x1x512x128.size (by decide)).toLoadRect f = kX (arg5.view.read (Elt F) f) 0 0
    ∧ View.readAt (Elt F) arg5.view (Rect.unit (s := S1x2x4096x128) ![0, 0, 512, 0] S1x1x512x128.size (by decide)).toLoadRect f = kX (arg5.view.read (Elt F) f) 0 1
    ∧ View.readAt (Elt F) arg5.view (Rect.unit (s := S1x2x4096x128) ![0, 0, 1024, 0] S1x1x512x128.size (by decide)).toLoadRect f = kX (arg5.view.read (Elt F) f) 0 2
    ∧ View.readAt (Elt F) arg5.view (Rect.unit (s := S1x2x4096x128) ![0, 0, 1536, 0] S1x1x512x128.size (by decide)).toLoadRect f = kX (arg5.view.read (Elt F) f) 0 3
    ∧ View.readAt (Elt F) arg5.view (Rect.unit (s := S1x2x4096x128) ![0, 0, 2048, 0] S1x1x512x128.size (by decide)).toLoadRect f = kX (arg5.view.read (Elt F) f) 0 4
    ∧ View.readAt (Elt F) arg5.view (Rect.unit (s := S1x2x4096x128) ![0, 0, 2560, 0] S1x1x512x128.size (by decide)).toLoadRect f = kX (arg5.view.read (Elt F) f) 0 5
    ∧ View.readAt (Elt F) arg5.view (Rect.unit (s := S1x2x4096x128) ![0, 0, 3072, 0] S1x1x512x128.size (by decide)).toLoadRect f = kX (arg5.view.read (Elt F) f) 0 6
    ∧ View.readAt (Elt F) arg5.view (Rect.unit (s := S1x2x4096x128) ![0, 0, 3584, 0] S1x1x512x128.size (by decide)).toLoadRect f = kX (arg5.view.read (Elt F) f) 0 7
    ∧ View.readAt (Elt F) arg5.view (Rect.unit (s := S1x2x4096x128) ![0, 1, 0, 0] S1x1x512x128.size (by decide)).toLoadRect f = kX (arg5.view.read (Elt F) f) 1 0
    ∧ View.readAt (Elt F) arg5.view (Rect.unit (s := S1x2x4096x128) ![0, 1, 512, 0] S1x1x512x128.size (by decide)).toLoadRect f = kX (arg5.view.read (Elt F) f) 1 1
    ∧ View.readAt (Elt F) arg5.view (Rect.unit (s := S1x2x4096x128) ![0, 1, 1024, 0] S1x1x512x128.size (by decide)).toLoadRect f = kX (arg5.view.read (Elt F) f) 1 2
    ∧ View.readAt (Elt F) arg5.view (Rect.unit (s := S1x2x4096x128) ![0, 1, 1536, 0] S1x1x512x128.size (by decide)).toLoadRect f = kX (arg5.view.read (Elt F) f) 1 3
    ∧ View.readAt (Elt F) arg5.view (Rect.unit (s := S1x2x4096x128) ![0, 1, 2048, 0] S1x1x512x128.size (by decide)).toLoadRect f = kX (arg5.view.read (Elt F) f) 1 4
    ∧ View.readAt (Elt F) arg5.view (Rect.unit (s := S1x2x4096x128) ![0, 1, 2560, 0] S1x1x512x128.size (by decide)).toLoadRect f = kX (arg5.view.read (Elt F) f) 1 5
    ∧ View.readAt (Elt F) arg5.view (Rect.unit (s := S1x2x4096x128) ![0, 1, 3072, 0] S1x1x512x128.size (by decide)).toLoadRect f = kX (arg5.view.read (Elt F) f) 1 6
    ∧ View.readAt (Elt F) arg5.view (Rect.unit (s := S1x2x4096x128) ![0, 1, 3584, 0] S1x1x512x128.size (by decide)).toLoadRect f = kX (arg5.view.read (Elt F) f) 1 7 := by
  refine ⟨?_, ?_, ?_, ?_, ?_, ?_, ?_, ?_, ?_, ?_, ?_, ?_, ?_, ?_, ?_, ?_⟩ <;> exact read_kX f _ _ _ _ rfl

/-- The loads of context keys. -/
theorem reads_kC {arg3 : Memref sig .tc .vmem S1x2x256x128 .bf16} (f : arg3.view.ty.Contents (Elt F)) :
    View.readAt (Elt F) arg3.view (Rect.unit (s := S1x2x256x128) ![0, 0, 0, 0] S1x1x256x128.size (by decide)).toLoadRect f = kC (arg3.view.read (Elt F) f) 0
    ∧ View.readAt (Elt F) arg3.view (Rect.unit (s := S1x2x256x128) ![0, 1, 0, 0] S1x1x256x128.size (by decide)).toLoadRect f = kC (arg3.view.read (Elt F) f) 1 :=
  ⟨read_kC f _ _ _ rfl, read_kC f _ _ _ rfl⟩

theorem off1_eq : ∀ k : Fin k0_t1_loop.trips, k0_off1 k = ![0, 1, 256 * k.val, 0] := by decide +kernel
theorem off2_eq : ∀ k : Fin k0_t1_loop.trips, k0_off2 k = ![0, 0, 256 * (k.val + 1), 0] := by decide +kernel
theorem off3_eq : ∀ k : Fin k0_t1_loop.trips, k0_off3 k = ![0, 256 * k.val, 0] := by decide +kernel

/-! ## What the scratch holds -/

/-- Head 0's scores of a query tile. -/
def SInv (arg8 : Memref sig .tc .vmem S2x4352x256 .f32) (q : Vec F S1x1x256x128 .bf16) (kc : Vec F S1x1x256x128 .bf16) (kx : Fin 8 → Vec F S1x1x512x128 .bf16) (f : arg8.view.ty.Contents (Elt F)) : Prop :=
  View.readAt (Elt F) arg8.view (Rect.unit (s := S2x4352x256) ![0, 0, 0] S1x256x256.size (by decide)).toLoadRect f = sC q kc
    ∧ View.readAt (Elt F) arg8.view (Rect.unit (s := S2x4352x256) ![0, 256, 0] S1x512x256.size (by decide)).toLoadRect f = sX q (kx 0)
    ∧ View.readAt (Elt F) arg8.view (Rect.unit (s := S2x4352x256) ![0, 768, 0] S1x512x256.size (by decide)).toLoadRect f = sX q (kx 1)
    ∧ View.readAt (Elt F) arg8.view (Rect.unit (s := S2x4352x256) ![0, 1280, 0] S1x512x256.size (by decide)).toLoadRect f = sX q (kx 2)
    ∧ View.readAt (Elt F) arg8.view (Rect.unit (s := S2x4352x256) ![0, 1792, 0] S1x512x256.size (by decide)).toLoadRect f = sX q (kx 3)
    ∧ View.readAt (Elt F) arg8.view (Rect.unit (s := S2x4352x256) ![0, 2304, 0] S1x512x256.size (by decide)).toLoadRect f = sX q (kx 4)
    ∧ View.readAt (Elt F) arg8.view (Rect.unit (s := S2x4352x256) ![0, 2816, 0] S1x512x256.size (by decide)).toLoadRect f = sX q (kx 5)
    ∧ View.readAt (Elt F) arg8.view (Rect.unit (s := S2x4352x256) ![0, 3328, 0] S1x512x256.size (by decide)).toLoadRect f = sX q (kx 6)
    ∧ View.readAt (Elt F) arg8.view (Rect.unit (s := S2x4352x256) ![0, 3840, 0] S1x512x256.size (by decide)).toLoadRect f = sX q (kx 7)

/-- Head 0's maxima of a query tile. -/
def MInv (arg9 : Memref sig .tc .vmem S2x8x256 .f32) (q : Vec F S1x1x256x128 .bf16) (kc : Vec F S1x1x256x128 .bf16) (kx : Fin 8 → Vec F S1x1x512x128 .bf16) (f : arg9.view.ty.Contents (Elt F)) : Prop :=
  View.readAt (Elt F) arg9.view (Rect.unit (s := S2x8x256) ![0, 0, 0] S1x1x256.size (by decide)).toLoadRect f = mRow (mAll q kc kx)

/-- Both heads' value rows. -/
def WInv (arg10 : Memref sig .tc .vmem S2x128x4352 .bf16) (X4 : Vec F S1x256x128 .bf16) (X6 : Vec F S1x4096x128 .bf16) (f : arg10.view.ty.Contents (Elt F)) : Prop :=
  View.readAt (Elt F) arg10.view (Rect.unit (s := S2x128x4352) ![0, 0, 0] S1x128x256.size (by decide)).toLoadRect f = wC X4 0
    ∧ View.readAt (Elt F) arg10.view (Rect.unit (s := S2x128x4352) ![1, 0, 0] S1x128x256.size (by decide)).toLoadRect f = wC X4 1
    ∧ View.readAt (Elt F) arg10.view (Rect.unit (s := S2x128x4352) ![0, 0, 256] S1x128x512.size (by decide)).toLoadRect f = wX X6 0 0
    ∧ View.readAt (Elt F) arg10.view (Rect.unit (s := S2x128x4352) ![0, 0, 768] S1x128x512.size (by decide)).toLoadRect f = wX X6 0 1
    ∧ View.readAt (Elt F) arg10.view (Rect.unit (s := S2x128x4352) ![0, 0, 1280] S1x128x512.size (by decide)).toLoadRect f = wX X6 0 2
    ∧ View.readAt (Elt F) arg10.view (Rect.unit (s := S2x128x4352) ![0, 0, 1792] S1x128x512.size (by decide)).toLoadRect f = wX X6 0 3
    ∧ View.readAt (Elt F) arg10.view (Rect.unit (s := S2x128x4352) ![0, 0, 2304] S1x128x512.size (by decide)).toLoadRect f = wX X6 0 4
    ∧ View.readAt (Elt F) arg10.view (Rect.unit (s := S2x128x4352) ![0, 0, 2816] S1x128x512.size (by decide)).toLoadRect f = wX X6 0 5
    ∧ View.readAt (Elt F) arg10.view (Rect.unit (s := S2x128x4352) ![0, 0, 3328] S1x128x512.size (by decide)).toLoadRect f = wX X6 0 6
    ∧ View.readAt (Elt F) arg10.view (Rect.unit (s := S2x128x4352) ![0, 0, 3840] S1x128x512.size (by decide)).toLoadRect f = wX X6 0 7
    ∧ View.readAt (Elt F) arg10.view (Rect.unit (s := S2x128x4352) ![1, 0, 256] S1x128x512.size (by decide)).toLoadRect f = wX X6 1 0
    ∧ View.readAt (Elt F) arg10.view (Rect.unit (s := S2x128x4352) ![1, 0, 768] S1x128x512.size (by decide)).toLoadRect f = wX X6 1 1
    ∧ View.readAt (Elt F) arg10.view (Rect.unit (s := S2x128x4352) ![1, 0, 1280] S1x128x512.size (by decide)).toLoadRect f = wX X6 1 2
    ∧ View.readAt (Elt F) arg10.view (Rect.unit (s := S2x128x4352) ![1, 0, 1792] S1x128x512.size (by decide)).toLoadRect f = wX X6 1 3
    ∧ View.readAt (Elt F) arg10.view (Rect.unit (s := S2x128x4352) ![1, 0, 2304] S1x128x512.size (by decide)).toLoadRect f = wX X6 1 4
    ∧ View.readAt (Elt F) arg10.view (Rect.unit (s := S2x128x4352) ![1, 0, 2816] S1x128x512.size (by decide)).toLoadRect f = wX X6 1 5
    ∧ View.readAt (Elt F) arg10.view (Rect.unit (s := S2x128x4352) ![1, 0, 3328] S1x128x512.size (by decide)).toLoadRect f = wX X6 1 6
    ∧ View.readAt (Elt F) arg10.view (Rect.unit (s := S2x128x4352) ![1, 0, 3840] S1x128x512.size (by decide)).toLoadRect f = wX X6 1 7

/-- The result rows stored so far. -/
def OInv (arg7 : Memref sig .tc .vmem S1x4096x128 .bf16) (o : Vec F S1x4096x128 .bf16) (k : ℕ) (f : arg7.view.ty.Contents (Elt F)) : Prop :=
  ∀ y : S1x4096x128.Idx, (y 1).val < 256 * k → arg7.view.read (Elt F) f y = o y

theorem mRow_part (m : FVec F S1x256 .f32) (off : Fin 3 → ℕ) (ho : ∀ a, off a = 0) (p : ∀ (x : S1x1x256.Idx) (a : Fin 3), off a + (x a).val < S1x8x256.size a) :
    (fun x : S1x1x256.Idx => m8 m (fun a => ⟨off a + (x a).val, p x a⟩)) = mRow m := by
  funext x
  have h0 := (x 0).isLt; have h1 := (x 1).isLt
  unfold mRow
  congr 1; funext a; apply Fin.ext
  match a with
  | ⟨0, _⟩ => change off 0 + (x 0).val = 0; change (x 0).val < 1 at h0; have := ho 0; omega
  | ⟨1, _⟩ => change off 1 + (x 1).val = 0; change (x 1).val < 1 at h1; have := ho 1; omega
  | ⟨2, _⟩ => change off 2 + (x 2).val = (x 2).val; have := ho 2; omega

/-- The maximum of head 1 as the trip stores it, loaded back. -/
theorem read_m {arg9 : Memref sig .tc .vmem S2x8x256 .f32} (m : FVec F S1x256 .f32) (w : FVec F S1x8x256 .f32) (hw : w = m8 m) :
    View.readAt (Elt F) arg9.view (Rect.unit (s := S2x8x256) ![1, 0, 0] S1x1x256.size (by decide)).toLoadRect
      (arg9.view.writes (Elt F) arg9.view.junk [(⟨Rect.unit (s := S2x8x256) ![1, 0, 0] S1x8x256.size (by decide), w⟩ : View.Piece (Elt F) S2x8x256 .f32)]) = mRow m := by
  subst hw
  exact (View.load_part arg9.view _ _ _ _ _ ![0, 0, 0] (by decide) (by decide)).trans (mRow_part m ![0, 0, 0] (by decide) _)

/-- Storing tile `k` extends the rows stored so far. -/
theorem OInv_step {arg7 : Memref sig .tc .vmem S1x4096x128 .bf16} (X2 : Vec F S1x2x4096x128 .bf16) (X3 : Vec F S1x2x256x128 .bf16) (X4 : Vec F S1x256x128 .bf16)
    (X5 : Vec F S1x2x4096x128 .bf16) (X6 : Vec F S1x4096x128 .bf16) (k : ℕ) (K : Fin 16) (hK : K.val = k) (f : arg7.view.ty.Contents (Elt F))
    (h : OInv arg7 (outBlk X2 X3 X4 X5 X6) k f) (off : Fin 3 → ℕ) (ho : off = ![0, 256 * k, 0]) (inb) (w : Vec F S1x256x128 .bf16) (hw : w = tile X2 X3 X4 X5 X6 K) :
    OInv arg7 (outBlk X2 X3 X4 X5 X6) (k + 1)
      (arg7.view.writes (Elt F) f [(⟨Rect.unit (s := S1x4096x128) off S1x256x128.size inb, w⟩ : View.Piece (Elt F) S1x4096x128 .bf16)]) := by
  intro y hy
  by_cases hlt : (y 1).val < 256 * k
  · rw [View.read_writes_cons_unit_of_not_mem (off' := ![0, 256 * k, 0]) arg7.view f inb w [] y ho 1 (Or.inl hlt)]
    exact h y hlt
  · have h0 : (y 0).val < 1 := (y 0).isLt
    rw [View.read_writes_cons_unit_of_mem (off' := ![0, 256 * k, 0]) arg7.view f inb w [] y (ix3 0 ⟨(y 1).val - 256 * k, by show _ < 256; omega⟩ (y 2)) ho
      (fun a => match a with
        | ⟨0, _⟩ => by change (y 0).val = 0 + 0; omega
        | ⟨1, _⟩ => by change (y 1).val = 256 * k + ((y 1).val - 256 * k); omega
        | ⟨2, _⟩ => by change (y 2).val = 0 + (y 2).val; omega)]
    have e1 : (⟨(y 1).val / 256, by have h : (y 1).val < 4096 := (y 1).isLt; omega⟩ : Fin 16) = K := Fin.ext (by show (y 1).val / 256 = K.val; omega)
    have e2 : (⟨(y 1).val - 256 * k, by omega⟩ : Fin 256) = ⟨(y 1).val % 256, Nat.mod_lt _ (by norm_num)⟩ := Fin.ext (by show (y 1).val - 256 * k = (y 1).val % 256; omega)
    subst hw
    unfold outBlk
    rw [e1]
    exact congrArg (fun z : Fin 256 => tile X2 X3 X4 X5 X6 K (ix3 0 z (y 2))) e2

/-- The tile whose head-0 scores the scratch holds before trip `k`. -/
def tk (k : ℕ) : Fin 16 := ⟨min k 15, by omega⟩

/-- Before trip `k`: the first `k` tiles are stored, and the scratch holds the scores and maximum of head 0 for tile `k`. -/
def inv (c : Dev nD) (arg2 : Memref sig .tc .vmem S1x2x4096x128 .bf16) (arg3 : Memref sig .tc .vmem S1x2x256x128 .bf16) (arg5 : Memref sig .tc .vmem S1x2x4096x128 .bf16) (arg7 : Memref sig .tc .vmem S1x4096x128 .bf16) (arg8 : Memref sig .tc .vmem S2x4352x256 .f32) (arg9 : Memref sig .tc .vmem S2x8x256 .f32) (arg10 : Memref sig .tc .vmem S2x128x4352 .bf16) (X2 : Vec F S1x2x4096x128 .bf16) (X3 : Vec F S1x2x256x128 .bf16) (X4 : Vec F S1x256x128 .bf16) (X5 : Vec F S1x2x4096x128 .bf16) (X6 : Vec F S1x4096x128 .bf16)
    (f2 : arg2.view.ty.Contents (Elt F)) (f3 : arg3.view.ty.Contents (Elt F)) (f5 : arg5.view.ty.Contents (Elt F)) (k : ℕ) (_ : PUnit) : sProp 𝕄G :=
  iprop((arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (∃ f, (arg10.view.loc (c : Thread nD τ) ↦[arg10.view.set]{fullShare} f) ∗ ⌜WInv arg10 X4 X6 f⌝)
     ∗ (∃ f, (arg7.view.loc (c : Thread nD τ) ↦[arg7.view.set]{fullShare} f) ∗ ⌜OInv arg7 (outBlk X2 X3 X4 X5 X6) k f⌝) ∗ (∃ f, (arg8.view.loc (c : Thread nD τ) ↦[arg8.view.set]{fullShare} f) ∗ ⌜SInv arg8 (qT X2 0 (tk k)) (kC X3 0) (kX X5 0) f⌝) ∗ (∃ f, (arg9.view.loc (c : Thread nD τ) ↦[arg9.view.set]{fullShare} f) ∗ ⌜MInv arg9 (qT X2 0 (tk k)) (kC X3 0) (kX X5 0) f⌝))

set_option maxHeartbeats 4000000 in
/-- One trip keeps the invariant. -/
theorem trip (𝒱 : Variants) (c : Dev nD) (bd : Option 𝒱.V) (E : Set ℕ) (i : grid0.Coords) (arg2 : Memref sig .tc .vmem S1x2x4096x128 .bf16) (harg2 : arg2.IsWhole) (arg3 : Memref sig .tc .vmem S1x2x256x128 .bf16) (harg3 : arg3.IsWhole) (arg4 : Memref sig .tc .vmem S1x256x128 .bf16) (harg4 : arg4.IsWhole) (arg5 : Memref sig .tc .vmem S1x2x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S2x4352x256 .f32) (harg8 : arg8.IsWhole) (arg9 : Memref sig .tc .vmem S2x8x256 .f32) (harg9 : arg9.IsWhole) (arg10 : Memref sig .tc .vmem S2x128x4352 .bf16) (harg10 : arg10.IsWhole) (v115 : FVec F S1x256 .f32) (v118 : FVec F S512x256 .f32) (k : Fin k0_t1_loop.trips)
    (f2 f3 f5) (X2 X3 X4 X5 X6) (hX2 : X2 = arg2.view.read (Elt F) f2) (hX3 : X3 = arg3.view.read (Elt F) f3) (hX5 : X5 = arg5.view.read (Elt F) f5) :
    (inv c arg2 arg3 arg5 arg7 arg8 arg9 arg10 X2 X3 X4 X5 X6 f2 f3 f5 k.val PUnit.unit : sProp 𝕄G)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k0_pay64 v115 v118 k PUnit.unit)
      (fun r => inv c arg2 arg3 arg5 arg7 arg8 arg9 arg10 X2 X3 X4 X5 X6 f2 f3 f5 (k.val + 1) r) := by
  have hk : k.val < 15 := Nat.lt_of_lt_of_le k.isLt k0_t1_abs.2.1
  unfold inv
  generalize hk0' : tk k.val = k0
  generalize hk1' : tk (k.val + 1) = k1
  have hk0 : k0.val = k.val := by rw [← hk0']; show min k.val 15 = k.val; omega
  have hk1 : k1.val = k.val + 1 := by rw [← hk1']; show min (k.val + 1) 15 = k.val + 1; omega
  have q1 : ∀ inb, View.readAt (Elt F) arg2.view (Rect.unit (s := S1x2x4096x128) (k0_off1 k) S1x1x256x128.size inb).toLoadRect f2 = qT X2 1 k0 := fun inb =>
    hX2 ▸ read_q f2 _ inb 1 k0 (by rw [off1_eq, hk0]; rfl)
  have q2 : ∀ inb, View.readAt (Elt F) arg2.view (Rect.unit (s := S1x2x4096x128) (k0_off2 k) S1x1x256x128.size inb).toLoadRect f2 = qT X2 0 k1 := fun inb =>
    hX2 ▸ read_q f2 _ inb 0 k1 (by rw [off2_eq, hk1]; rfl)
  have kxs := reads_kX (F := F) (arg5 := arg5) f5
  rw [← hX5] at kxs
  have kcs := reads_kC (F := F) (arg3 := arg3) f3
  rw [← hX3] at kcs
  unfold k0_t1_body
  iintro ⟨H2, H3, H5, ⟨%f10, H10, %h10'⟩, ⟨%f7, H7, %h7⟩, ⟨%f8, H8, %h8'⟩, ⟨%f9, H9, %h9'⟩⟩
  have h8 := h8'
  have h9 := h9'
  have h10 := h10'
  unfold SInv at h8
  unfold MInv at h9
  unfold WInv at h10
  sl_exec
  sl_step
  isplitl [H2]; · iexact H2
  isplitl [H3]; · iexact H3
  isplitl [H5]; · iexact H5
  isplitl [H10]
  · iexists f10; isplitl [H10]; · iexact H10
    ipureintro; exact h10'
  isplitl [H7]
  · iexists _; isplitl [H7]; · iexact H7
    ipureintro
    sl_unfold_run_names
    refine OInv_step X2 X3 X4 X5 X6 k.val k0 hk0 f7 h7 _ (off3_eq k) _ _ ?_
    simp (disch := decide) only [View.readCov, View.load_hit, View.load_skip]
    simp only [q1, q2, kxs, kcs, h8, h9, h10]
    have e : k0_pay24 (k0_pay23 (k0_pay2 (qT X2 1 k0))
          (k0_pay14 (k0_pay2 (qT X2 1 k0)) (k0_pay7 (qT X2 1 k0) (kC X3 1) (kX X5 1 0)) (k0_pay8 (qT X2 1 k0) (kX X5 1 1)) (kX X5 1 2) (kX X5 1 3))
          (k0_pay15 (k0_pay2 (qT X2 1 k0)) (kX X5 1 4)) (kX X5 1 5) (kX X5 1 6) (kX X5 1 7)) = m8 (mAll (qT X2 1 k0) (kC X3 1) (kX X5 1)) := rfl
    simp only [e, read_m (mAll (qT X2 1 k0) (kC X3 1) (kX X5 1)) _ rfl]
    rfl
  isplitl [H8]
  · iexists _; isplitl [H8]; · iexact H8
    ipureintro
    unfold SInv
    sl_unfold_run_names
    refine ⟨?_, ?_, ?_, ?_, ?_, ?_, ?_, ?_, ?_⟩ <;> simp (disch := decide) only [View.load_hit, View.load_skip] <;> simp only [q1, q2, kxs, kcs] <;> rfl
  iexists _; isplitl [H9]; · iexact H9
  ipureintro
  unfold MInv
  sl_unfold_run_names
  refine (View.load_part arg9.view _ _ _ _ _ ![0, 0, 0] (by decide) (by decide)).trans
    ((funext fun x => congrFun (?_ : _ = m8 (mAll (qT X2 0 k1) (kC X3 0) (kX X5 0))) _).trans (mRow_part _ ![0, 0, 0] (by decide) _))
  simp only [q1, q2, kxs, kcs]
  rfl

end Cert.KernelIdeal.Attn
end
-- ==== Proof.AttnBody.lean ====
/-
  The attention kernel's body at one grid point: it fills the value rows, computes the first tile's scores, runs the loop of fifteen trips by the invariant of
  one trip, and finishes the last tile. It leaves the inputs as they were, the result block at `outBlk`, and the scratch at something.
-/
module

public import proofs.«01_k».proof.Proof.Gen.KernelIdeal.Frame
public import proofs.«01_k».proof.Proof.AttnTrip

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

theorem read_v4 {arg4 : Memref sig .tc .vmem S1x256x128 .bf16} (f : arg4.view.ty.Contents (Elt F)) (inb) :
    View.readAt (Elt F) arg4.view (Rect.unit (s := S1x256x128) ![0, 0, 0] S1x256x128.size inb).toLoadRect f = arg4.view.read (Elt F) f := by
  funext x; rw [View.readAt_apply]; congr 1; funext a; apply Fin.ext
  match a with
  | ⟨0, _⟩ => change 0 + 1 * (x 0).val = (x 0).val; omega
  | ⟨1, _⟩ => change 0 + 1 * (x 1).val = (x 1).val; omega
  | ⟨2, _⟩ => change 0 + 1 * (x 2).val = (x 2).val; omega

theorem read_v6 {arg6 : Memref sig .tc .vmem S1x4096x128 .bf16} (f : arg6.view.ty.Contents (Elt F)) (inb) :
    View.readAt (Elt F) arg6.view (Rect.unit (s := S1x4096x128) ![0, 0, 0] S1x4096x128.size inb).toLoadRect f = arg6.view.read (Elt F) f := by
  funext x; rw [View.readAt_apply]; congr 1; funext a; apply Fin.ext
  match a with
  | ⟨0, _⟩ => change 0 + 1 * (x 0).val = (x 0).val; omega
  | ⟨1, _⟩ => change 0 + 1 * (x 1).val = (x 1).val; omega
  | ⟨2, _⟩ => change 0 + 1 * (x 2).val = (x 2).val; omega

/-- A chunk of the value rows as stored, loaded back. -/
theorem wX_part (X6 : Vec F S1x4096x128 .bf16) (h : Fin 2) (n : Fin 8) (off : Fin 3 → ℕ) (ho : off = ![0, 0, 512 * n.val]) (p : ∀ (x : S1x128x512.Idx) (a : Fin 3), off a + (x a).val < S1x128x4096.size a) :
    (fun x : S1x128x512.Idx => wL X6 h (fun a => ⟨off a + (x a).val, p x a⟩)) = wX X6 h n := by
  subst ho
  funext x
  have h0 : (x 0).val < 1 := (x 0).isLt
  unfold wX
  congr 1; funext a; apply Fin.ext
  match a with
  | ⟨0, _⟩ => change 0 + (x 0).val = 0; omega
  | ⟨1, _⟩ => change 0 + (x 1).val = (x 1).val; omega
  | ⟨2, _⟩ => change 512 * n.val + (x 2).val = 512 * n.val + (x 2).val; rfl

theorem chunk_off (h n : ℕ) : ∀ a : Fin 3, (![h, 0, 256 + 512 * n] : Fin 3 → ℕ) a = (![h, 0, 256] : Fin 3 → ℕ) a + (![0, 0, 512 * n] : Fin 3 → ℕ) a := by
  intro a; fin_cases a <;> simp

theorem chunk_inb (n : Fin 8) : ∀ a : Fin 3, (![0, 0, 512 * n.val] : Fin 3 → ℕ) a + S1x128x512.size a ≤ S1x128x4096.size a := by
  intro a
  have := n.isLt
  fin_cases a
  · show 0 + 1 ≤ 1; omega
  · show 0 + 128 ≤ 128; omega
  · show 512 * n.val + 512 ≤ 4096; omega

/-- A chunk of the value rows of head `h`, loaded back from the last store. -/
theorem load_chunk {arg10 : Memref sig .tc .vmem S2x128x4352 .bf16} (f : arg10.view.ty.Contents (Elt F)) (X6 : Vec F S1x4096x128 .bf16) (h : Fin 2) (n : Fin 8)
    (off : Fin 3 → ℕ) (ho : off = ![h.val, 0, 256 + 512 * n.val]) (off0 : Fin 3 → ℕ) (ho0 : off0 = ![h.val, 0, 256]) (inb) (inb0) (L : List (View.Piece (Elt F) S2x128x4352 .bf16)) :
    View.readAt (Elt F) arg10.view (Rect.unit (s := S2x128x4352) off S1x128x512.size inb).toLoadRect
      (arg10.view.writes (Elt F) f ((⟨Rect.unit (s := S2x128x4352) off0 S1x128x4096.size inb0, wL X6 h⟩ : View.Piece (Elt F) S2x128x4352 .bf16) :: L)) = wX X6 h n := by
  subst ho ho0
  refine (View.load_part arg10.view f inb0 (wL X6 h) L inb ![0, 0, 512 * n.val] (chunk_off h.val n.val) (chunk_inb n)).trans ?_
  exact wX_part X6 h n _ rfl _

/-- The value rows as the body stores them. -/
theorem WInv_init {arg10 : Memref sig .tc .vmem S2x128x4352 .bf16} (X4 : Vec F S1x256x128 .bf16) (X6 : Vec F S1x4096x128 .bf16) (f : arg10.view.ty.Contents (Elt F))
    (a0 a1 : FVec F S1x128x256 .bf16) (b0 b1 : FVec F S1x128x4096 .bf16) (h0 : a0 = wC X4 0) (h1 : a1 = wC X4 1) (g0 : b0 = wL X6 0) (g1 : b1 = wL X6 1) :
    WInv arg10 X4 X6 (arg10.view.writes (Elt F) f
      [(⟨Rect.unit (s := S2x128x4352) ![1, 0, 256] S1x128x4096.size (by decide), b1⟩ : View.Piece (Elt F) S2x128x4352 .bf16),
       ⟨Rect.unit (s := S2x128x4352) ![0, 0, 256] S1x128x4096.size (by decide), b0⟩,
       ⟨Rect.unit (s := S2x128x4352) ![1, 0, 0] S1x128x256.size (by decide), a1⟩,
       ⟨Rect.unit (s := S2x128x4352) ![0, 0, 0] S1x128x256.size (by decide), a0⟩]) := by
  subst h0 h1 g0 g1
  unfold WInv
  refine ⟨?_, ?_, ?_, ?_, ?_, ?_, ?_, ?_, ?_, ?_, ?_, ?_, ?_, ?_, ?_, ?_, ?_, ?_⟩
  · simp (disch := decide) only [View.load_hit, View.load_skip]
  · simp (disch := decide) only [View.load_hit, View.load_skip]
  iterate 8
    · refine (View.load_skip _ _ _ _ _ _ ?_).trans (load_chunk f X6 0 _ _ ?_ _ rfl _ _ _)
      · decide
      · rfl
  iterate 8
    · refine load_chunk f X6 1 _ _ ?_ _ rfl _ _ _
      rfl

/-- The maxima as the body stores them. -/
theorem MInv_init {arg9 : Memref sig .tc .vmem S2x8x256 .f32} (q : Vec F S1x1x256x128 .bf16) (kc : Vec F S1x1x256x128 .bf16) (kx : Fin 8 → Vec F S1x1x512x128 .bf16)
    (f : arg9.view.ty.Contents (Elt F)) (w : FVec F S1x8x256 .f32) (hw : w = m8 (mAll q kc kx)) (inb) :
    MInv arg9 q kc kx (arg9.view.writes (Elt F) f [(⟨Rect.unit (s := S2x8x256) ![0, 0, 0] S1x8x256.size inb, w⟩ : View.Piece (Elt F) S2x8x256 .f32)]) := by
  subst hw
  exact (View.load_part arg9.view _ _ _ _ _ ![0, 0, 0] (by decide) (by decide)).trans (mRow_part _ ![0, 0, 0] (by decide) _)

/-- All sixteen tiles stored: the block is the result. -/
theorem OInv_all {arg7 : Memref sig .tc .vmem S1x4096x128 .bf16} {o : Vec F S1x4096x128 .bf16} {f : arg7.view.ty.Contents (Elt F)} (h : OInv arg7 o (15 + 1) f) :
    arg7.view.read (Elt F) f = o := by
  funext y
  exact h y (by have h1 : (y 1).val < 4096 := (y 1).isLt; omega)

set_option maxHeartbeats 4000000 in
/-- The body's triple. -/
theorem sound_kernel (c : Dev nD) (E : Set ℕ) (i : grid0.Coords) (arg2 : Memref sig .tc .vmem S1x2x4096x128 .bf16) (harg2 : arg2.IsWhole) (arg3 : Memref sig .tc .vmem S1x2x256x128 .bf16) (harg3 : arg3.IsWhole) (arg4 : Memref sig .tc .vmem S1x256x128 .bf16) (harg4 : arg4.IsWhole) (arg5 : Memref sig .tc .vmem S1x2x4096x128 .bf16) (harg5 : arg5.IsWhole) (arg6 : Memref sig .tc .vmem S1x4096x128 .bf16) (harg6 : arg6.IsWhole) (arg7 : Memref sig .tc .vmem S1x4096x128 .bf16) (harg7 : arg7.IsWhole) (arg8 : Memref sig .tc .vmem S2x4352x256 .f32) (harg8 : arg8.IsWhole) (arg9 : Memref sig .tc .vmem S2x8x256 .f32) (harg9 : arg9.IsWhole) (arg10 : Memref sig .tc .vmem S2x128x4352 .bf16) (harg10 : arg10.IsWhole)
    (X2 : Vec F S1x2x4096x128 .bf16) (X3 : Vec F S1x2x256x128 .bf16) (X4 : Vec F S1x256x128 .bf16) (X5 : Vec F S1x2x4096x128 .bf16) (X6 : Vec F S1x4096x128 .bf16) (K : PUnit → sProp 𝕄G) :
    iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare (outBlk X2 X3 X4 X5 X6) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_attn i arg2 harg2 arg3 harg3 arg4 harg4 arg5 harg5 arg6 harg6 arg7 harg7 arg8 harg8 arg9 harg9 arg10 harg10) K := by
  simp only [cc0_attn_eq_skeleton]; unfold cc0_attn_skel
  simp only [k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec
  have kxs := reads_kX (F := F) (arg5 := arg5) f5
  rw [hf5] at kxs
  have kcs := reads_kC (F := F) (arg3 := arg3) f3
  rw [hf3] at kcs
  have q0 : ∀ inb, View.readAt (Elt F) arg2.view (Rect.unit (s := S1x2x4096x128) ![0, 0, 0, 0] S1x1x256x128.size inb).toLoadRect f2 = qT X2 0 (tk 0) := fun inb =>
    hf2 ▸ read_q f2 _ inb 0 (tk 0) rfl
  have q15 : ∀ inb, View.readAt (Elt F) arg2.view (Rect.unit (s := S1x2x4096x128) ![0, 1, 3840, 0] S1x1x256x128.size inb).toLoadRect f2 = qT X2 1 15 := fun inb =>
    hf2 ▸ read_q f2 _ inb 1 15 rfl
  sl_for (inv c arg2 arg3 arg5 arg7 arg8 arg9 arg10 X2 X3 X4 X5 X6 f2 f3 f5) $$ [H2 H3 H5 H7 H8 H9 H10]
  case region =>
    intro k _
    exact trip Variants.none c none E i arg2 harg2 arg3 harg3 arg4 harg4 arg5 harg5 arg6 harg6 arg7 harg7 arg8 harg8 arg9 harg9 arg10 harg10 _ _ k f2 f3 f5 X2 X3 X4 X5 X6 hf2.symm hf3.symm hf5.symm
  · unfold inv
    isplitl [H2]; · iexact H2
    isplitl [H3]; · iexact H3
    isplitl [H5]; · iexact H5
    isplitl [H10]
    · iexists _; isplitl [H10]; · iexact H10
      ipureintro
      sl_unfold_run_names
      exact WInv_init X4 X6 _ _ _ _ _ (by rw [read_v4, hf4]; rfl) (by rw [read_v4, hf4]; rfl) (by rw [read_v6, hf6]; rfl) (by rw [read_v6, hf6]; rfl)
    isplitl [H7]
    · iexists _; isplitl [H7]; · iexact H7
      ipureintro
      intro y hy
      exact absurd hy (by omega)
    isplitl [H8]
    · iexists _; isplitl [H8]; · iexact H8
      ipureintro
      unfold SInv
      sl_unfold_run_names
      refine ⟨?_, ?_, ?_, ?_, ?_, ?_, ?_, ?_, ?_⟩ <;> simp (disch := decide) only [View.load_hit, View.load_skip] <;> simp only [q0, kxs, kcs] <;> rfl
    iexists _; isplitl [H9]; · iexact H9
    ipureintro
    sl_unfold_run_names
    refine MInv_init _ _ _ _ _ ?_ _
    simp only [q0, kxs, kcs]
    rfl
  iintro %_ HI
  unfold inv
  icases HI with ⟨H2, H3, H5, ⟨%g10, H10, %h10'⟩, ⟨%g7, H7, %h7⟩, ⟨%g8, H8, %h8'⟩, ⟨%g9, H9, %h9'⟩⟩
  sl_exec
  sl_step
  have h8 := h8'
  have h9 := h9'
  have h10 := h10'
  rw [show tk (k0_t1_loop.trips) = 15 from by decide] at h8 h9
  unfold SInv at h8
  unfold MInv at h9
  unfold WInv at h10
  iapply Hk
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists f6; isplitr; · ipureintro; exact hf6
    iexact H6
  isplitl [H7]
  · iexists _; isplitr; swap; · iexact H7
    ipureintro
    sl_unfold_run_names
    refine OInv_all ?_
    refine OInv_step X2 X3 X4 X5 X6 15 15 rfl g7 h7 _ rfl _ _ ?_
    simp (disch := decide) only [View.readCov, View.load_hit, View.load_skip]
    simp only [q15, kxs, kcs, h8, h9, h10]
    have e : k0_pay117 (k0_pay95 (qT X2 1 15))
        (k0_pay114 (k0_pay95 (qT X2 1 15))
          (k0_pay105 (k0_pay95 (qT X2 1 15)) (k0_pay98 (qT X2 1 15) (kC X3 1)) (k0_pay99 (qT X2 1 15) (kX X5 1 0)) (kX X5 1 1) (kX X5 1 2))
          (k0_pay106 (k0_pay95 (qT X2 1 15)) (kX X5 1 3)) (kX X5 1 4) (kX X5 1 5) (kX X5 1 6))
        (kX X5 1 7) = m8 (mAll (qT X2 1 15) (kC X3 1) (kX X5 1)) := rfl
    simp only [e, read_m (mAll (qT X2 1 15) (kC X3 1) (kX X5 1)) _ rfl]
    rfl
  isplitl [H8]
  · iexists _; iexists _; isplitr; swap; · iexact H8
    ipureintro; rfl
  isplitl [H9]
  · iexists _; iexists _; isplitr; swap; · iexact H9
    ipureintro; rfl
  iexists _; iexists _; isplitr; swap; · iexact H10
  ipureintro; rfl

end Cert.KernelIdeal.Attn
end
-- ==== Proof.AttnRun.lean ====
/-
  The attention launch: the run of the whole program, from the body's triple, for any float values `F`. The result window's block at a point is `outBlk` of that
  point's input blocks; the scratch is handed through the grid at some contents.
-/
module

public import proofs.«01_k».proof.Proof.AttnBody
public import Idealize.ShloMosaic.Lib.Pipeline.FrameBody
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: inputs stay at their blocks, the result's buffer ends at `outBlk`, the scratch and the generator register are carried along. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outBlk (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the scratch comes out of the invariant and goes back into it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5]
  unfold Pipeline.ΦA
  rw [scopedRest0_eq]
  iintro ⟨⟨⟨⟨%g0, S0⟩, ⟨%g1, S1⟩, ⟨%g2, S2⟩⟩, Hr⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [S0]; · iexists g0; iapply (Entails.of_eq (owns_whole (c : Thread nD τ) cc0_scratch0 fullShare g0).symm); iexact S0
  isplitl [S1]; · iexists g1; iapply (Entails.of_eq (owns_whole (c : Thread nD τ) cc0_scratch1 fullShare g1).symm); iexact S1
  isplitl [S2]; · iexists g2; iapply (Entails.of_eq (owns_whole (c : Thread nD τ) cc0_scratch2 fullShare g2).symm); iexact S2
  iintro ⟨H0, H1, H2, H3, H4, H5, ⟨%e0, S0⟩, ⟨%e1, S1⟩, ⟨%e2, S2⟩⟩
  isplitl [S0 S1 S2 Hr]
  · isplitl [S0 S1 S2]
    · isplitl [S0]; · iexists e0; iapply (Entails.of_eq (owns_whole (c : Thread nD τ) cc0_scratch0 fullShare e0)); iexact S0
      isplitl [S1]; · iexists e1; iapply (Entails.of_eq (owns_whole (c : Thread nD τ) cc0_scratch1 fullShare e1)); iexact S1
      iexists e2; iapply (Entails.of_eq (owns_whole (c : Thread nD τ) cc0_scratch2 fullShare e2)); iexact S2
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run, with every semaphore counter back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run, every array of the launch at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn
end
-- ==== Proof.AttnFrame.lean ====
/- The attention programs leave their arguments as they found them, at either kind of float. -/
module

public import proofs.«01_k».proof.Proof.AttnRun
public import proofs.«01_k».proof.Proof.Gen.Kernel
public import proofs.«01_k».proof.Proof.Gen.Pre_scores_finite
public import proofs.«01_k».proof.Proof.Gen.ReferenceIdeal.Run
public import proofs.«01_k».proof.Defs
public import Idealize.ShloMosaic.Lib.Claim

@[expose] public section

set_option maxRecDepth 16384

noncomputable section

namespace Cert.KernelIdeal.Attn

open Idealize.ShloMosaic Idealize.SL.Sem

/-- The two printed bodies are the same text. -/
theorem body_eq : Cert.Kernel.defs₀ (F := Bits) = Cert.KernelIdeal.defs₀ (F := Bits) := by
  unfold Cert.Kernel.defs₀ Cert.KernelIdeal.defs₀
  congr 1
  funext l a
  match l, a with
  | 0, (t, s) => rfl
  | ⟨_ + 1, h⟩, _ => exact absurd h (Nat.not_lt.2 (Nat.le_add_left _ _))

theorem table_eq : Cert.Kernel.defs (F := Bits) = Cert.KernelIdeal.defs (F := Bits) := congrArg (Pipeline.defs (Cert.Kernel.pcfgs (F := Bits))) body_eq

theorem frame_bits : Cert.quiescent_Kernel := by
  intro m g _
  rw [table_eq]
  exact frame_run (F := Bits) m g

theorem frame_ideal : Cert.quiescent_KernelIdeal := fun m g _ => frame_run (F := Ideal) m g

theorem frame_ideal_finite : Cert.quiescent_KernelIdeal_pre_scores_finite := fun m g _ => frame_run (F := Ideal) m g

theorem frame_reference : Cert.quiescent_ReferenceIdeal := by
  intro m g _
  run_from Cert.ReferenceIdeal.Value.run m g
  · exact fun _ => by simp only [and_self]
  · exact sem_eq_zero_of_no_sems (sig := Cert.ReferenceIdeal.sig) (by decide) _

theorem frame_reference_finite : Cert.quiescent_ReferenceIdeal_pre_scores_finite := by
  intro m g _
  run_from Cert.ReferenceIdeal.Value.run m g
  · exact fun _ => by simp only [and_self]
  · exact sem_eq_zero_of_no_sems (sig := Cert.ReferenceIdeal.sig) (by decide) _

end Cert.KernelIdeal.Attn

end
-- ==== Proof.AttnMath.lean ====
/- Attention over the extended reals: a softmax whose division is made after the sum over the keys, in base two, is the
   softmax whose division is made before it. -/
module

public import Idealize.ShloMosaic.Lib.Pointwise
public import Mathlib.Analysis.SpecialFunctions.Pow.Real

@[expose] public section

noncomputable section

namespace Cert.AttnMath

open Idealize.ShloMosaic

/-! ## Maxima -/

/-- `M` is the largest value of `f`, and is taken. -/
def IsMax {ι : Type} (f : ι → EReal) (M : EReal) : Prop := (∀ i, f i ≤ M) ∧ ∃ i, M = f i

/-- A fold of `max` from the bottom is the largest value. -/
theorem isMax_fold {ι : Type} [Fintype ι] [Nonempty ι] (f : ι → EReal) : IsMax f (Finset.univ.fold max ⊥ f) := by
  refine ⟨fun i => (Finset.le_fold_max _).mpr (.inr ⟨i, Finset.mem_univ i, le_rfl⟩), ?_⟩
  rcases (Finset.le_fold_max (s := Finset.univ) (f := f) (b := ⊥) (Finset.univ.fold max ⊥ f)).mp le_rfl with h | ⟨i, -, h⟩
  · obtain ⟨i⟩ := ‹Nonempty ι›
    refine ⟨i, le_antisymm (h.trans bot_le) ?_⟩
    exact (Finset.le_fold_max _).mpr (.inr ⟨i, Finset.mem_univ i, le_rfl⟩)
  · exact ⟨i, le_antisymm h ((Finset.le_fold_max _).mpr (.inr ⟨i, Finset.mem_univ i, le_rfl⟩))⟩

/-- The first `n` values of `f`. -/
abbrev upTo (f : ℕ → EReal) (n : ℕ) : Fin n → EReal := fun i => f i

/-- The largest of the first `a` values and the largest of the next `b`. -/
theorem isMax_append {f : ℕ → EReal} {a b : ℕ} {M N : EReal} (hM : IsMax (upTo f a) M) (hN : IsMax (fun i : Fin b => f (a + i)) N) :
    IsMax (upTo f (a + b)) (max M N) := by
  obtain ⟨h1, i, hi⟩ := hM
  obtain ⟨h2, j, hj⟩ := hN
  refine ⟨fun k => ?_, ?_⟩
  · by_cases hk : k.val < a
    · exact (h1 ⟨k.val, hk⟩).trans (le_max_left _ _)
    · have := h2 ⟨k.val - a, by omega⟩
      have e : a + (k.val - a) = k.val := by omega
      simp only [e] at this
      exact this.trans (le_max_right _ _)
  · rcases le_total M N with h | h
    · exact ⟨⟨a + j.val, by omega⟩, by rw [max_eq_right h, hj]⟩
    · exact ⟨⟨i.val, by omega⟩, by rw [max_eq_left h, hi]⟩

/-- The sum of the first `a` values and the sum of the next `b`. -/
theorem sum_append (f : ℕ → EReal) (a b : ℕ) : (∑ i : Fin a, f i) + ∑ i : Fin b, f (a + i) = ∑ i : Fin (a + b), f i := by
  rw [← Finset.sum_range (fun i => f i), ← Finset.sum_range (fun i => f (a + i)), ← Finset.sum_range (fun i => f i), Finset.sum_range_add]

theorem IsMax.eq_iSup {ι : Type} {f : ι → EReal} {M : EReal} (h : IsMax f M) : M = ⨆ i, f i := by
  obtain ⟨h1, i, rfl⟩ := h
  exact le_antisymm (le_iSup f i) (iSup_le h1)

theorem isMax_iSup {ι : Type} [Finite ι] [Nonempty ι] (f : ι → EReal) : IsMax f (⨆ i, f i) := by
  haveI := Fintype.ofFinite ι
  have h := isMax_fold f
  exact h.eq_iSup ▸ h

/-- The weighted mean of `v` over `n` keys of scores `s`: weights powers of two, the division last. -/
def mean (n : ℕ) (v s : ℕ → EReal) : EReal :=
  Ideal.div (∑ i : Fin n, v i * Ideal.exp2 (s i - ⨆ j, upTo s n j)) (∑ i : Fin n, Ideal.exp2 (s i - ⨆ j, upTo s n j))

/-! ## Sums of extended reals times a real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_mul_coe {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem div_coe' {y : ℝ} (h : y ≠ 0) (x : EReal) : Ideal.div x (y : EReal) = x * ((y⁻¹ : ℝ) : EReal) := by
  rw [Ideal.div_coe h, one_div]

/-! ## The softmax -/

theorem exp2_coe_eq (x : ℝ) : Ideal.exp2 (x : EReal) = ((Real.exp (Real.log 2 * x) : ℝ) : EReal) := by
  show ((Real.rpow 2 x : ℝ) : EReal) = _
  exact congrArg _ (Real.rpow_def_of_pos two_pos x)

/-- The two softmax weighted means agree: powers of two of scores scaled by `σ`, divided at the end, against exponentials of
    scores scaled by `c`, divided first, when `log 2 · σ = c`. -/
theorem softmax_eq {n : ℕ} (s : Fin n → ℝ) {σ c : ℝ} (hσ : 0 < σ) (hc : 0 < c) (h : Real.log 2 * σ = c) (v : Fin n → EReal) {Mk Mr : EReal}
    (hk : IsMax (fun i => ((σ * s i : ℝ) : EReal)) Mk) (hr : IsMax (fun i => ((c * s i : ℝ) : EReal)) Mr) :
    Ideal.div (∑ i, v i * Ideal.exp2 (((σ * s i : ℝ) : EReal) - Mk)) (∑ i, Ideal.exp2 (((σ * s i : ℝ) : EReal) - Mk))
      = ∑ i, v i * Ideal.div (Ideal.exp (((c * s i : ℝ) : EReal) - Mr)) (∑ j, Ideal.exp (((c * s j : ℝ) : EReal) - Mr)) := by
  obtain ⟨hk1, a, rfl⟩ := hk
  obtain ⟨hr1, b, rfl⟩ := hr
  have hab : s a = s b := by
    have h1 := EReal.coe_le_coe_iff.mp (hk1 b)
    have h2 := EReal.coe_le_coe_iff.mp (hr1 a)
    exact le_antisymm (le_of_mul_le_mul_left h2 hc) (le_of_mul_le_mul_left h1 hσ)
  have e1 : ∀ i, Ideal.exp2 (((σ * s i : ℝ) : EReal) - ((σ * s a : ℝ) : EReal)) = ((Real.exp (c * (s i - s b)) : ℝ) : EReal) := fun i => by
    rw [← EReal.coe_sub, exp2_coe_eq, hab, ← h]; congr 2; ring
  have e2 : ∀ i, Ideal.exp (((c * s i : ℝ) : EReal) - ((c * s b : ℝ) : EReal)) = ((Real.exp (c * (s i - s b)) : ℝ) : EReal) := fun i => by
    rw [← EReal.coe_sub, Ideal.exp_coe]; congr 2; ring
  simp only [e1, e2, ← coe_sum]
  have hL : 0 < ∑ i, Real.exp (c * (s i - s b)) := Finset.sum_pos (fun i _ => Real.exp_pos _) ⟨b, Finset.mem_univ b⟩
  simp only [div_coe' hL.ne']
  rw [sum_mul_coe _ _ (inv_pos.mpr hL).le]
  exact Finset.sum_congr rfl fun i _ => mul_assoc _ _ _

/-! ## Scores -/

/-- A product of finite vectors, the left one scaled. -/
theorem score_scaled {n : ℕ} (q k : Fin n → EReal) (σ : ℝ) (hq : ∀ d, q d = ((q d).toReal : EReal)) (hk : ∀ d, k d = ((k d).toReal : EReal)) :
    ∑ d, k d * (q d * (σ : EReal)) = ((σ * ∑ d, (q d).toReal * (k d).toReal : ℝ) : EReal) := by
  rw [Finset.mul_sum, coe_sum]
  refine Finset.sum_congr rfl fun d _ => ?_
  conv_lhs => rw [hq d, hk d]
  rw [← EReal.coe_mul, ← EReal.coe_mul]; congr 1; ring

/-- The same product scaled afterwards. -/
theorem score_after {n : ℕ} (q k : Fin n → EReal) (c : ℝ) (hq : ∀ d, q d = ((q d).toReal : EReal)) (hk : ∀ d, k d = ((k d).toReal : EReal)) :
    (∑ d, q d * k d) * (c : EReal) = ((c * ∑ d, (q d).toReal * (k d).toReal : ℝ) : EReal) := by
  have : ∑ d, q d * k d = ((∑ d, (q d).toReal * (k d).toReal : ℝ) : EReal) := by
    rw [coe_sum]
    refine Finset.sum_congr rfl fun d _ => ?_
    conv_lhs => rw [hq d, hk d]
    rw [← EReal.coe_mul]
  rw [this, ← EReal.coe_mul, mul_comm]

/-! ## The scales -/

theorem ofBits_two : Ideal.ofBits .f32 0x40000000#32 = ((2 : ℝ) : EReal) := by simp [Ideal.ofBits, Ideal.ieee, -EReal.coe_mul]; norm_num
theorem ofBits_96 : Ideal.ofBits .f32 0x42C00000#32 = ((96 : ℝ) : EReal) := by simp [Ideal.ofBits, Ideal.ieee, -EReal.coe_mul]; norm_num
theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_inf_bf16 : Ideal.ofBits .bf16 0x7F80#16 = ⊤ := by simp [Ideal.ofBits, Ideal.ieee]

/-- The reference's scale. -/
def c96 : ℝ := (Real.sqrt 96)⁻¹

/-- The kernel's scale. -/
def σ96 : ℝ := (Real.log 2 * Real.sqrt 96)⁻¹

theorem c96_pos : 0 < c96 := inv_pos.mpr (Real.sqrt_pos.mpr (by norm_num))
theorem σ96_pos : 0 < σ96 := inv_pos.mpr (mul_pos (Real.log_pos (by norm_num)) (Real.sqrt_pos.mpr (by norm_num)))
theorem log2_σ96 : Real.log 2 * σ96 = c96 := by
  have h : Real.log 2 ≠ 0 := (Real.log_pos (by norm_num)).ne'
  rw [σ96, c96, mul_inv, ← mul_assoc, mul_inv_cancel₀ h, one_mul]

theorem sqrt_96 : Ideal.sqrt ((96 : ℝ) : EReal) = ((Real.sqrt 96 : ℝ) : EReal) := by
  show (if (96 : ℝ) < 0 then ⊥ else (Real.sqrt 96 : EReal)) = _
  rw [if_neg (by norm_num)]

theorem log_2 : Ideal.log ((2 : ℝ) : EReal) = ((Real.log 2 : ℝ) : EReal) := by
  show (if (2 : ℝ) ≤ 0 then ⊥ else (Real.log 2 : EReal)) = _
  rw [if_neg (by norm_num)]

theorem scale_ref : Ideal.div 1 (Ideal.sqrt (Ideal.ofBits .f32 0x42C00000#32)) = ((c96 : ℝ) : EReal) := by
  rw [ofBits_96, sqrt_96, div_coe' (Real.sqrt_pos.mpr (by norm_num)).ne', one_mul, c96]

theorem scale_kernel : Ideal.div 1 (Ideal.log (Ideal.ofBits .f32 0x40000000#32) * Ideal.sqrt (Ideal.ofBits .f32 0x42C00000#32)) = ((σ96 : ℝ) : EReal) := by
  rw [ofBits_96, ofBits_two, sqrt_96, log_2, ← EReal.coe_mul,
    div_coe' (mul_pos (Real.log_pos (by norm_num)) (Real.sqrt_pos.mpr (by norm_num))).ne', one_mul, σ96]

end Cert.AttnMath

end
-- ==== Proof.AttnPoint.lean ====
/- The attention kernel's block, read at an index: for each query row, the weighted mean of the value rows over all keys. -/
module

public import proofs.«01_k».proof.Proof.AttnPure
public import proofs.«01_k».proof.Proof.AttnMath

@[expose] public section

set_option maxRecDepth 16384

noncomputable section

namespace Cert.KernelIdeal.Attn

open Idealize.ShloMosaic Idealize.ShloMosaic.TcCoe
open Cert.KernelIdeal Cert.KernelIdeal.Gen Cert.AttnMath

/-! ## The parts at an index -/

/-- A choice by the half of the 128 channels. -/
theorem low_select (d : Fin 128) (a b : EReal) :
    Scalar.select (IntOp.cmpi CmpIPredicate.slt (BitVec.ofNat 32 d.val) 64#32) a b = if d.val < 64 then a else b := by
  have h : ∀ d : Fin 128, IntOp.cmpi CmpIPredicate.slt (BitVec.ofNat 32 d.val) 64#32 = if d.val < 64 then 1#1 else 0#1 := by decide +kernel
  rw [h d]
  split <;> rfl

theorem sC_apply (q kk : FVec Ideal S1x1x256x128 .bf16) (i r : Fin 256) :
    sC (F := Ideal) q kk (ix3 0 i r) = ∑ d : Fin 128, kk (ix4 0 0 i d) * q (ix4 0 0 r d) := by
  pointwise [sC, k0_pay4, k0_pay3, k0_pay2]

theorem sX_apply (q : FVec Ideal S1x1x256x128 .bf16) (kk : FVec Ideal S1x1x512x128 .bf16) (i : Fin 512) (r : Fin 256) :
    sX (F := Ideal) q kk (ix3 0 i r) = ∑ d : Fin 128, kk (ix4 0 0 i d) * q (ix4 0 0 r d) := by
  pointwise [sX, k0_pay6, k0_pay5, k0_pay2]

theorem mC_apply (q kk : FVec Ideal S1x1x256x128 .bf16) (r : Fin 256) :
    mC (F := Ideal) q kk (ix2 0 r) = Finset.univ.fold max ⊥ fun i : Fin 256 => ∑ d : Fin 128, kk (ix4 0 0 i d) * q (ix4 0 0 r d) := by
  pointwise [mC, k0_pay3, k0_pay2, ofBits_neg_inf]

theorem mX_apply (q : FVec Ideal S1x1x256x128 .bf16) (m : FVec Ideal S1x256 .f32) (kk : FVec Ideal S1x1x512x128 .bf16) (r : Fin 256) :
    mX (F := Ideal) q m kk (ix2 0 r) = max (m (ix2 0 r)) (Finset.univ.fold max ⊥ fun i : Fin 512 => ∑ d : Fin 128, kk (ix4 0 0 i d) * q (ix4 0 0 r d)) := by
  pointwise [mX, k0_pay5, k0_pay2, ofBits_neg_inf]

theorem mRow_apply (m : FVec Ideal S1x256 .f32) (r : Fin 256) : mRow (F := Ideal) m (ix3 0 0 r) = m (ix2 0 r) := by
  pointwise [mRow, m8, k0_pay24]

theorem aC_apply (s : FVec Ideal S1x256x256 .f32) (m : FVec Ideal S1x1x256 .f32) (w : FVec Ideal S1x128x256 .bf16) (d : Fin 128) (r : Fin 256) :
    aC (F := Ideal) s m w (ix2 d r) = ∑ i : Fin 256, w (ix3 0 d i) * Ideal.exp2 (s (ix3 0 i r) - m (ix3 0 0 r)) := by
  pointwise [aC, pC]
  rfl

theorem aX_apply (a : FVec Ideal S128x256 .f32) (s : FVec Ideal S1x512x256 .f32) (m : FVec Ideal S1x1x256 .f32) (w : FVec Ideal S1x128x512 .bf16)
    (d : Fin 128) (r : Fin 256) :
    aX (F := Ideal) a s m w (ix2 d r) = a (ix2 d r) + ∑ i : Fin 512, w (ix3 0 d i) * Ideal.exp2 (s (ix3 0 i r) - m (ix3 0 0 r)) := by
  pointwise [aX, pX]
  rfl

theorem wC0_apply (X : FVec Ideal S1x256x128 .bf16) (d : Fin 128) (i : Fin 256) :
    wC (F := Ideal) X 0 (ix3 0 d i) = if d.val < 64 then X (ix3 0 i d) else 1 := by
  pointwise [wC, k0_pay66, k0_pay64, k0_pay65]
  exact low_select d _ _

theorem wC1_apply (X : FVec Ideal S1x256x128 .bf16) (d : Fin 128) (i : Fin 256) :
    wC (F := Ideal) X 1 (ix3 0 d i) = if d.val < 64 then 1 else X (ix3 0 i d) := by
  pointwise [wC, k0_pay67, k0_pay64, k0_pay65]
  exact low_select d _ _

theorem wL0_apply (X : FVec Ideal S1x4096x128 .bf16) (d : Fin 128) (i : Fin 4096) :
    wL (F := Ideal) X 0 (ix3 0 d i) = if d.val < 64 then X (ix3 0 i d) else 1 := by
  pointwise [wL, k0_pay69, k0_pay64, k0_pay68]
  exact low_select d _ _

theorem wL1_apply (X : FVec Ideal S1x4096x128 .bf16) (d : Fin 128) (i : Fin 4096) :
    wL (F := Ideal) X 1 (ix3 0 d i) = if d.val < 64 then 1 else X (ix3 0 i d) := by
  pointwise [wL, k0_pay70, k0_pay64, k0_pay68]
  exact low_select d _ _

theorem pay94_apply (a0 a1 : FVec Ideal S128x256 .f32) (d : Fin 128) (r : Fin 256) :
    k0_pay94 (F := Ideal) k0_pay64 a0 a1 (k0_pay63 a0) (ix3 0 r d)
      = if d.val < 64 then Ideal.div (a0 (ix2 d r)) (a0 (ix2 64 r)) else Ideal.div (a1 (ix2 d r)) (a1 (ix2 0 r)) := by
  pointwise [k0_pay94, k0_pay63, k0_pay64]
  exact low_select d _ _

/-! ## All keys of a head -/

variable (X2 : FVec Ideal S1x2x4096x128 .bf16) (X3 : FVec Ideal S1x2x256x128 .bf16) (X4 : FVec Ideal S1x256x128 .bf16)
  (X5 : FVec Ideal S1x2x4096x128 .bf16) (X6 : FVec Ideal S1x4096x128 .bf16)

/-- The context's rows, then the latent rows. -/
def cat (a : Fin 256 → EReal) (b : Fin 4096 → EReal) (i : ℕ) : EReal :=
  if h : i < 256 then a ⟨i, h⟩ else if h' : i - 256 < 4096 then b ⟨i - 256, h'⟩ else 0

theorem cat_lo (a : Fin 256 → EReal) (b : Fin 4096 → EReal) (i : Fin 256) : cat a b i = a i := dif_pos i.isLt

theorem cat_hi (a : Fin 256 → EReal) (b : Fin 4096 → EReal) (n : Fin 8) (c : ℕ) (hc : c = 256 + 512 * n.val) (i : Fin 512) :
    cat a b (c + i.val) = b ⟨512 * n.val + i.val, by omega⟩ := by
  have h1 : ¬ c + i.val < 256 := by omega
  have h2 : c + i.val - 256 < 4096 := by omega
  rw [cat, dif_neg h1, dif_pos h2]
  exact congrArg b (Fin.ext (by show c + i.val - 256 = 512 * n.val + i.val; omega))

/-- The score of key `i` for query `t`. -/
def score (h : Fin 2) (t : Fin 4096) : ℕ → EReal :=
  cat (fun i => ∑ d : Fin 128, X3 (ix4 0 h i d) * X2 (ix4 0 h t d)) (fun i => ∑ d : Fin 128, X5 (ix4 0 h i d) * X2 (ix4 0 h t d))

/-- Value row `d` of key `i` in head `h`, the other half of the rows being ones. -/
def value (h : Fin 2) (d : Fin 128) : ℕ → EReal :=
  cat (fun i => wC (F := Ideal) X4 h (ix3 0 d i)) (fun i => wL (F := Ideal) X6 h (ix3 0 d i))

/-- Query row `256 k + r`. -/
def row (k : Fin 16) (r : Fin 256) : Fin 4096 := ⟨256 * k.val + r.val, by omega⟩

theorem isMax_mAll (h : Fin 2) (k : Fin 16) (r : Fin 256) :
    IsMax (upTo (score X2 X3 X5 h (row k r)) 4352) (mAll (F := Ideal) (qT X2 h k) (kC X3 h) (kX X5 h) (ix2 0 r)) := by
  have h0 : IsMax (upTo (score X2 X3 X5 h (row k r)) 256) (mC (F := Ideal) (qT X2 h k) (kC X3 h) (ix2 0 r)) := by
    rw [mC_apply]
    have e : upTo (score X2 X3 X5 h (row k r)) 256
        = fun i : Fin 256 => ∑ d : Fin 128, (kC (F := Ideal) X3 h) (ix4 0 0 i d) * (qT (F := Ideal) X2 h k) (ix4 0 0 r d) :=
      funext fun i => cat_lo _ _ i
    rw [e]
    exact isMax_fold _
  have hs : ∀ (n : Fin 8) (c : ℕ), c = 256 + 512 * n.val → ∀ m : FVec Ideal S1x256 .f32, IsMax (upTo (score X2 X3 X5 h (row k r)) c) (m (ix2 0 r)) →
      IsMax (upTo (score X2 X3 X5 h (row k r)) (c + 512)) (mX (F := Ideal) (qT X2 h k) m (kX X5 h n) (ix2 0 r)) := by
    intro n c hc m hm
    rw [mX_apply]
    refine isMax_append hm ?_
    have e : (fun i : Fin 512 => score X2 X3 X5 h (row k r) (c + i))
        = fun i : Fin 512 => ∑ d : Fin 128, (kX (F := Ideal) X5 h n) (ix4 0 0 i d) * (qT (F := Ideal) X2 h k) (ix4 0 0 r d) :=
      funext fun i => cat_hi _ _ n c hc i
    rw [e]
    exact isMax_fold _
  exact hs 7 _ rfl _ (hs 6 _ rfl _ (hs 5 _ rfl _ (hs 4 _ rfl _ (hs 3 _ rfl _ (hs 2 _ rfl _ (hs 1 _ rfl _ (hs 0 _ rfl _ h0)))))))

/-- The largest score for query `256 k + r`. -/
def top (h : Fin 2) (k : Fin 16) (r : Fin 256) : EReal := mAll (F := Ideal) (qT X2 h k) (kC X3 h) (kX X5 h) (ix2 0 r)

theorem acc_apply (h : Fin 2) (k : Fin 16) (d : Fin 128) (r : Fin 256) :
    acc (F := Ideal) X2 X3 X4 X5 X6 k h (ix2 d r)
      = ∑ i : Fin 4352, value X4 X6 h d i * Ideal.exp2 (score X2 X3 X5 h (row k r) i - top X2 X3 X5 h k r) := by
  set f : ℕ → EReal := fun i => value X4 X6 h d i * Ideal.exp2 (score X2 X3 X5 h (row k r) i - top X2 X3 X5 h k r) with hf
  have h0 : aC (F := Ideal) (sC (F := Ideal) (qT (F := Ideal) X2 h k) (kC (F := Ideal) X3 h)) (mRow (F := Ideal) (mAll (F := Ideal) (qT (F := Ideal) X2 h k) (kC (F := Ideal) X3 h) (kX (F := Ideal) X5 h))) (wC (F := Ideal) X4 h) (ix2 d r) = ∑ i : Fin 256, f i := by
    rw [aC_apply]
    refine Finset.sum_congr rfl fun i _ => ?_
    rw [sC_apply, mRow_apply]
    simp only [hf, value, score, cat_lo]
    rfl
  have hs : ∀ (n : Fin 8) (c : ℕ), c = 256 + 512 * n.val → ∀ a : FVec Ideal S128x256 .f32, a (ix2 d r) = ∑ i : Fin c, f i →
      aX (F := Ideal) a (sX (F := Ideal) (qT (F := Ideal) X2 h k) (kX (F := Ideal) X5 h n)) (mRow (F := Ideal) (mAll (F := Ideal) (qT (F := Ideal) X2 h k) (kC (F := Ideal) X3 h) (kX (F := Ideal) X5 h))) (wX (F := Ideal) X6 h n) (ix2 d r) = ∑ i : Fin (c + 512), f i := by
    intro n c hc a ha
    rw [aX_apply, ha, ← sum_append]
    refine congrArg _ (Finset.sum_congr rfl fun i _ => ?_)
    rw [sX_apply, mRow_apply]
    simp only [hf, value, score, cat_hi _ _ n c hc]
    rfl
  exact hs 7 _ rfl _ (hs 6 _ rfl _ (hs 5 _ rfl _ (hs 4 _ rfl _ (hs 3 _ rfl _ (hs 2 _ rfl _ (hs 1 _ rfl _ (hs 0 _ rfl _ h0)))))))

end Cert.KernelIdeal.Attn

end
-- ==== Proof.AttnOut.lean ====
/- The attention kernel's result array: every element is a weighted mean over all keys of its head. -/
module

public import proofs.«01_k».proof.Proof.AttnPoint
public import proofs.«01_k».proof.Proof.AttnRun
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath

section Block

variable (X2 : FVec Ideal S1x2x4096x128 .bf16) (X3 : FVec Ideal S1x2x256x128 .bf16) (X4 : FVec Ideal S1x256x128 .bf16)
  (X5 : FVec Ideal S1x2x4096x128 .bf16) (X6 : FVec Ideal S1x4096x128 .bf16)

/-- The head of a pair that a channel belongs to. -/
def half (d : Fin 128) : Fin 2 := if d.val < 64 then 0 else 1

theorem acc_apply' (h : Fin 2) (k : Fin 16) (d : Fin 128) (r : Fin 256) :
    acc (F := Ideal) X2 X3 X4 X5 X6 k h (ix2 d r)
      = ∑ i : Fin 4352, value X4 X6 h d i * Ideal.exp2 (score X2 X3 X5 h (row k r) i - ⨆ j, upTo (score X2 X3 X5 h (row k r)) 4352 j) := by
  rw [acc_apply]
  have e : top X2 X3 X5 h k r = ⨆ j, upTo (score X2 X3 X5 h (row k r)) 4352 j := (isMax_mAll X2 X3 X5 h k r).eq_iSup
  rw [e]

theorem value_eq (h : Fin 2) (d : Fin 128) (hd : half d = h) :
    value X4 X6 h d = cat (fun i => X4 (ix3 0 i d)) (fun i => X6 (ix3 0 i d)) := by
  subst hd
  unfold value half
  by_cases hd : d.val < 64
  · simp only [if_pos hd, wC0_apply, wL0_apply]
  · simp only [if_neg hd, wC1_apply, wL1_apply]

theorem value_one (h : Fin 2) (d : Fin 128) (hd : half d ≠ h) (i : Fin 4352) : value X4 X6 h d i = 1 := by
  have hi : i.val - 256 < 4096 := by have := i.isLt; omega
  unfold value cat
  obtain rfl | rfl : h = 0 ∨ h = 1 := by omega
  · have hd : ¬ d.val < 64 := fun hc => hd (if_pos hc)
    simp only [wC0_apply, wL0_apply, if_neg hd, dif_pos hi, dite_eq_ite, ite_self]
  · have hd : d.val < 64 := by by_contra hc; exact hd (if_neg hc)
    simp only [wC1_apply, wL1_apply, if_pos hd, dif_pos hi, dite_eq_ite, ite_self]

theorem quotient_eq (h : Fin 2) (k : Fin 16) (d e : Fin 128) (r : Fin 256) (hd : half d = h) (he : half e ≠ h) :
    Ideal.div (acc (F := Ideal) X2 X3 X4 X5 X6 k h (ix2 d r)) (acc (F := Ideal) X2 X3 X4 X5 X6 k h (ix2 e r))
      = mean 4352 (cat (fun i => X4 (ix3 0 i d)) (fun i => X6 (ix3 0 i d))) (score X2 X3 X5 h (row k r)) := by
  rw [acc_apply', acc_apply', mean, value_eq X4 X6 h d hd]
  congr 1
  exact Finset.sum_congr rfl fun i _ => by rw [value_one X4 X6 h e he, one_mul]

theorem outBlk_apply (t : Fin 4096) (d : Fin 128) :
    outBlk (F := Ideal) X2 X3 X4 X5 X6 (ix3 0 t d)
      = mean 4352 (cat (fun i => X4 (ix3 0 i d)) (fun i => X6 (ix3 0 i d))) (score X2 X3 X5 (half d) t) := by
  have ht := t.isLt
  have e : row ⟨t.val / 256, by omega⟩ ⟨t.val % 256, by omega⟩ = t := Fin.ext (by show 256 * (t.val / 256) + t.val % 256 = t.val; omega)
  have h0 : outBlk (F := Ideal) X2 X3 X4 X5 X6 (ix3 0 t d)
      = tile (F := Ideal) X2 X3 X4 X5 X6 ⟨t.val / 256, by omega⟩ (ix3 0 ⟨t.val % 256, by omega⟩ d) := rfl
  rw [h0, tile, pay94_apply]
  by_cases hd : d.val < 64
  · have hh : half d = 0 := if_pos hd
    rw [if_pos hd, hh, quotient_eq X2 X3 X4 X5 X6 0 _ d 64 _ hh (by decide), e]
  · have hh : half d = 1 := if_neg hd
    rw [if_neg hd, hh, quotient_eq X2 X3 X4 X5 X6 1 _ d 0 _ hh (by decide), e]

end Block

/-! ## The array -/

/-- The head of a result channel. -/
def hd (c : Fin 1024) : Fin 16 := ⟨c.val / 64, by omega⟩

/-- The whole attention, from queries, keys and values. -/
def attn (Q : FVec Ideal S4x16x4096x128 .bf16) (KC : FVec Ideal S4x16x256x128 .bf16) (VC : FVec Ideal S4x256x1024 .bf16)
    (KX : FVec Ideal S4x16x4096x128 .bf16) (VX : FVec Ideal S4x4096x1024 .bf16) (b : Fin 4) (t : Fin 4096) (c : Fin 1024) : EReal :=
  mean 4352 (cat (fun i => VC (ix3 b i c)) (fun i => VX (ix3 b i c)))
    (cat (fun i => ∑ d : Fin 128, KC (ix4 b (hd c) i d) * Q (ix4 b (hd c) t d)) (fun i => ∑ d : Fin 128, KX (ix4 b (hd c) i d) * Q (ix4 b (hd c) t d)))

variable (m : (ℓ : Loc nD τ sig) → Buf (Elt Ideal) ℓ)

theorem idx0 : ∀ t : Fin grid0.N, win0_0.index t = ![t.val / 8, t.val % 8, 0, 0] := by decide +kernel
theorem idx1 : ∀ t : Fin grid0.N, win0_1.index t = ![t.val / 8, t.val % 8, 0, 0] := by decide +kernel
theorem idx2 : ∀ t : Fin grid0.N, win0_2.index t = ![t.val / 8, 0, t.val % 8] := by decide +kernel
theorem idx3 : ∀ t : Fin grid0.N, win0_3.index t = ![t.val / 8, t.val % 8, 0, 0] := by decide +kernel
theorem idx4 : ∀ t : Fin grid0.N, win0_4.index t = ![t.val / 8, 0, t.val % 8] := by decide +kernel
theorem idx5 : ∀ t : Fin grid0.N, win0_5.index t = ![t.val / 8, 0, t.val % 8] := by decide +kernel

theorem blk0 (c : Dev nD) (t : Fin cfg0.N) (b : Fin 4) (H : Fin 16) (h : Fin 2) (hb : b.val = t.val / 8) (hH : H.val = 2 * (t.val % 8) + h.val)
    (r : Fin 4096) (d : Fin 128) : iblk m c 0 t (ix4 0 h r d) = V m c main_v6 (ix4 b H r d) := by
  have hb' := hb; have hH' := hH
  blk_ext [iblk, idx0 t]

theorem blk1 (c : Dev nD) (t : Fin cfg0.N) (b : Fin 4) (H : Fin 16) (h : Fin 2) (hb : b.val = t.val / 8) (hH : H.val = 2 * (t.val % 8) + h.val)
    (r : Fin 256) (d : Fin 128) : iblk m c 1 t (ix4 0 h r d) = m ((c : Thread nD τ).loc main_arg1) (ix4 b H r d) := by
  have hb' := hb; have hH' := hH
  blk_ext [iblk, V, idx1 t]

theorem blk2 (c : Dev nD) (t : Fin cfg0.N) (b : Fin 4) (d : Fin 128) (e : Fin 1024) (hb : b.val = t.val / 8) (he : e.val = 128 * (t.val % 8) + d.val)
    (r : Fin 256) : iblk m c 2 t (ix3 0 r d) = m ((c : Thread nD τ).loc main_arg2) (ix3 b r e) := by
  have hb' := hb; have he' := he
  blk_ext [iblk, V, idx2 t]

theorem blk3 (c : Dev nD) (t : Fin cfg0.N) (b : Fin 4) (H : Fin 16) (h : Fin 2) (hb : b.val = t.val / 8) (hH : H.val = 2 * (t.val % 8) + h.val)
    (r : Fin 4096) (d : Fin 128) : iblk m c 3 t (ix4 0 h r d) = m ((c : Thread nD τ).loc main_arg3) (ix4 b H r d) := by
  have hb' := hb; have hH' := hH
  blk_ext [iblk, V, idx3 t]

theorem blk4 (c : Dev nD) (t : Fin cfg0.N) (b : Fin 4) (d : Fin 128) (e : Fin 1024) (hb : b.val = t.val / 8) (he : e.val = 128 * (t.val % 8) + d.val)
    (r : Fin 4096) : iblk m c 4 t (ix3 0 r d) = m ((c : Thread nD τ).loc main_arg4) (ix3 b r e) := by
  have hb' := hb; have he' := he
  blk_ext [iblk, V, idx4 t]

theorem point (c : Dev nD) (t : Fin cfg0.N) (b : Fin 4) (r : Fin 4096) (d : Fin 128) (e : Fin 1024) (hb : b.val = t.val / 8) (he : e.val = 128 * (t.val % 8) + d.val) :
    outBlk (F := Ideal) (iblk m c 0 t) (iblk m c 1 t) (iblk m c 2 t) (iblk m c 3 t) (iblk m c 4 t) (ix3 0 r d)
      = attn (V m c main_v6) (m ((c : Thread nD τ).loc main_arg1)) (m ((c : Thread nD τ).loc main_arg2)) (m ((c : Thread nD τ).loc main_arg3)) (m ((c : Thread nD τ).loc main_arg4)) b r e := by
  have hH : (hd e).val = 2 * (t.val % 8) + (half d).val := by
    have h1 := d.isLt
    show e.val / 64 = _
    unfold half
    split
    · show _ = 2 * (t.val % 8) + 0; omega
    · show _ = 2 * (t.val % 8) + 1; omega
  rw [outBlk_apply]
  unfold attn score
  simp only [blk0 m c t b (hd e) (half d) hb hH, blk1 m c t b (hd e) (half d) hb hH, blk3 m c t b (hd e) (half d) hb hH, blk2 m c t b d e hb he, blk4 m c t b d e hb he]

theorem final (c : Dev nD) : (dats m 0 c).arrAt 5 (cfgs 0).N
    = fun y : S4x4096x1024.Idx => attn (V m c main_v6) (m ((c : Thread nD τ).loc main_arg1)) (m ((c : Thread nD τ).loc main_arg2)) (m ((c : Thread nD τ).loc main_arg3)) (m ((c : Thread nD τ).loc main_arg4)) (y 0) (y 1) (y 2) := by
  refine (dats m 0 c).arrAt_eq_of_covers 5 _ (by decide +kernel) fun t _ y => ?_
  blk_simp
  rw [after0_5]
  idx_vars y
  rw [show y0 = 0 from Subsingleton.elim _ _]
  have ht : t.val < 32 := lt_of_lt_of_eq t.isLt (by decide +kernel)
  have e : ((View.whole main_v7).slice (win0_5.rect t)).emb (ix3 0 y1 y2)
      = (ix3 (⟨t.val / 8, by omega⟩ : Fin 4) y1 (⟨128 * (t.val % 8) + y2.val, by omega⟩ : Fin 1024) : S4x4096x1024.Idx) := by
    blk_ext [idx5 t]
  rw [e]
  exact point m c t _ y1 y2 _ rfl rfl

end Cert.KernelIdeal.Attn

end
-- ==== Proof.AttnRef.lean ====
/- The attention reference read at an index: a softmax over the context keys followed by the latent keys. -/
module

public import proofs.«01_k».proof.Proof.AttnOut
public import proofs.«01_k».proof.Proof.Gen.ReferenceIdeal.Read
public import proofs.«01_k».proof.Proof.Gen.ReferenceIdeal
public import Idealize.ShloMosaic.Lib.Pointwise

@[expose] public section

set_option maxRecDepth 16384

noncomputable section

namespace Cert.ReferenceIdeal.Soft

open Idealize.ShloMosaic Idealize.ShloMosaic.TcCoe Idealize.SL.Sem
open Cert.ReferenceIdeal Cert.ReferenceIdeal.Gen Cert.ReferenceIdeal.Read Cert.AttnMath
open Cert.KernelIdeal.Attn (cat hd)

variable (q : FVec Ideal S4x16x4096x128 .f32) (kc : FVec Ideal S4x16x256x128 .bf16) (vc : FVec Ideal S4x256x1024 .bf16)
  (kx : FVec Ideal S4x16x4096x128 .bf16) (vx : FVec Ideal S4x4096x1024 .bf16)

/-- Key `i` of head `h`, element `d`. -/
def key (b : Fin 4) (h : Fin 16) (i : ℕ) (d : Fin 128) : EReal := cat (fun j => kc (ix4 b h j d)) (fun j => kx (ix4 b h j d)) i

theorem keys_apply (b : Fin 4) (h : Fin 16) (i : Fin 4352) (d : Fin 128) :
    val_main_v1 (F := Ideal) kc kx (ix4 b h i d) = key kc kx b h i d := by
  unfold key cat
  pointwise [val_main_v1, val_main_v0]
  by_cases h' : i.val < 256
  · rw [dif_pos h', dif_pos h']
  · rw [dif_neg h', dif_neg h', dif_pos (by omega)]

theorem values_apply (b : Fin 4) (i : Fin 4352) (c : Fin 1024) :
    val_main_v3 (F := Ideal) vc vx (ix3 b i c) = cat (fun j => vc (ix3 b j c)) (fun j => vx (ix3 b j c)) i := by
  unfold cat
  pointwise [val_main_v3, val_main_v2]
  by_cases h' : i.val < 256
  · rw [dif_pos h', dif_pos h']
  · rw [dif_neg h', dif_neg h', dif_pos (by omega)]

/-- The scaled score of key `i` for query `t`. -/
theorem scores_apply (b : Fin 4) (h : Fin 16) (t : Fin 4096) (i : Fin 4352) :
    val_main_v9 (F := Ideal) q kc kx (ix4 b h t i) = (∑ d : Fin 128, q (ix4 b h t d) * key kc kx b h i d) * ((c96 : ℝ) : EReal) := by
  rw [← scale_ref]
  simp only [← keys_apply]
  pointwise [val_main_v9, val_main_v5, val_main_v8, val_main_v7, val_main_v6, val_main_cst, val_main_cst_0]

/-- The host's maximum along the key axis is the largest value of the row. -/
theorem row_max (y : FVec Ideal S4x16x4096x4352 .f32) (init : FVec Ideal S_ .f32) (h0 : init (Shape.Idx.first h_S_) = ⊥)
    (b : Fin 4) (h : Fin 16) (t : Fin 4096) :
    IsMax (fun j : Fin 4352 => y (ix4 b h t j)) (Host.reduce (α := Ideal .f32) FloatOps.maximumf y init reducesTo_S4x16x4096x4352_S4x16x4096_d3 h_S_ (ix3 b h t)) := by
  have hR : S4x16x4096x4352.Reduces [3] S4x16x4096 := by decide
  have el : ∀ k : Fin 4352, hR.lift (ix3 b h t) k = ix4 b h t k := fun k => funext fun a => Fin.ext (by match a with | ⟨0, _⟩ => rfl | ⟨1, _⟩ => rfl | ⟨2, _⟩ => rfl | ⟨3, _⟩ => rfl)
  have hf : Host.reduce (α := Ideal .f32) FloatOps.maximumf y init reducesTo_S4x16x4096x4352_S4x16x4096_d3 h_S_ (ix3 b h t)
      = (Finset.univ : Finset (Fin (S4x16x4096x4352.size 3))).fold max ⊥ (y ∘ hR.lift (ix3 b h t)) := by
    rw [← h0]
    exact Host.reduce_eq_fold_single (max : EReal → EReal → EReal) y init reducesTo_S4x16x4096x4352_S4x16x4096_d3 hR h_S_ (ix3 b h t)
  haveI : Nonempty (Fin (S4x16x4096x4352.size 3)) := ⟨(0 : Fin 4352)⟩
  obtain ⟨h1, k, h2⟩ := isMax_fold (y ∘ hR.lift (ix3 b h t))
  rw [← hf] at h1 h2
  exact ⟨fun k' => (congrArg y (el k')).symm.trans_le (h1 k'), k, h2.trans (congrArg y (el k))⟩

theorem max_eq (b : Fin 4) (h : Fin 16) (t : Fin 4096) (i : Fin 4352) :
    val_main_v14 (F := Ideal) q kc kx (ix4 b h t i) = val_main_v12 (F := Ideal) q kc kx (ix3 b h t) := by
  unfold val_main_v14 val_main_v13
  generalize val_main_v12 (F := Ideal) q kc kx = y
  pointwise

/-- The largest scaled score for query `t`. -/
theorem max_apply (b : Fin 4) (h : Fin 16) (t : Fin 4096) (i : Fin 4352) :
    IsMax (fun j : Fin 4352 => val_main_v9 (F := Ideal) q kc kx (ix4 b h t j)) (val_main_v14 (F := Ideal) q kc kx (ix4 b h t i)) := by
  rw [max_eq]
  unfold val_main_v12 val_main_v10
  generalize val_main_v9 (F := Ideal) q kc kx = y
  have h0 : ∀ j, val_main_cst_1 (F := Ideal) j = ⊥ := fun _ => ofBits_neg_inf
  have h1 : ∀ j, val_main_v11 (F := Ideal) j = ⊥ := fun _ => ofBits_neg_inf
  have e : ∀ z : FVec Ideal S4x16x4096 .f32, maximumf (val_main_v11 (F := Ideal)) z (ix3 b h t) = z (ix3 b h t) := fun z =>
    (congrArg (max · (z (ix3 b h t))) (h1 _)).trans (max_eq_right bot_le)
  rw [e]
  exact row_max y _ (h0 _) b h t

theorem out_apply (b : Fin 4) (t : Fin 4096) (c : Fin 1024) :
    val_main_v24 (F := Ideal) q kc vc kx vx (ix3 b t c)
      = ∑ i : Fin 4352, val_main_v3 (F := Ideal) vc vx (ix3 b i c)
          * Ideal.div (Ideal.exp (val_main_v9 (F := Ideal) q kc kx (ix4 b (hd c) t i) - val_main_v14 (F := Ideal) q kc kx (ix4 b (hd c) t 0)))
              (∑ j : Fin 4352, Ideal.exp (val_main_v9 (F := Ideal) q kc kx (ix4 b (hd c) t j) - val_main_v14 (F := Ideal) q kc kx (ix4 b (hd c) t 0))) := by
  simp only [max_eq]
  pointwise [val_main_v24, val_main_v23, val_main_v22, val_main_v21, val_main_v20, val_main_v19, val_main_v18, val_main_v17, val_main_v16, val_main_v15, val_main_v4, val_main_cst_3]
  simp only [max_eq, hd]

end Cert.ReferenceIdeal.Soft

end
-- ==== Proof.AttnClaim.lean ====
/- The attention call and the plain softmax attention end with the same array. -/
module

public import proofs.«01_k».proof.Proof.AttnRef
public import proofs.«01_k».proof.Proof.Gen.ReferenceIdeal.Run
public import proofs.«01_k».proof.Proof.Gen.Pre_scores_finite
public import proofs.«01_k».proof.Proof.Gen.Kernel
public import proofs.«01_k».proof.Defs
public import Idealize.ShloMosaic.Lib.Pipeline.ValueKit
public import Idealize.ShloMosaic.Lib.Claim

@[expose] public section

set_option maxRecDepth 16384

noncomputable section

namespace Cert.KernelIdeal.Attn

open Idealize.ShloMosaic Idealize.ShloMosaic.TcCoe Idealize.SL.Sem
open Cert.KernelIdeal Cert.KernelIdeal.Gen Cert.AttnMath
open Cert.ReferenceIdeal.Soft (key)
open Cert.ReferenceIdeal.Read (val_main_v24)

/-- An extended real whose absolute value is below the top is a real number. -/
theorem real_of_abs_lt (x : EReal) (h : max x (-x) < ⊤) : x = (x.toReal : EReal) := by
  refine (EReal.coe_toReal ?_ ?_).symm
  · rintro rfl; simp at h
  · rintro rfl; simp at h

/-- What the comparison below positive infinity says. -/
theorem lt_of_cmp {a i : EReal} (hi : i = ⊤) (h : Ideal.cmp .olt a i = 1#1) : a < ⊤ := by
  subst hi
  by_contra hn
  simp [Ideal.cmp, hn] at h

section Join

variable (q : FVec Ideal S4x16x4096x128 .f32) (qs : FVec Ideal S4x16x4096x128 .bf16) (kc : FVec Ideal S4x16x256x128 .bf16)
  (vc : FVec Ideal S4x256x1024 .bf16) (kx : FVec Ideal S4x16x4096x128 .bf16) (vx : FVec Ideal S4x4096x1024 .bf16)

theorem key_real (hkc : ∀ j, kc j = ((kc j).toReal : EReal)) (hkx : ∀ j, kx j = ((kx j).toReal : EReal)) (b : Fin 4) (h : Fin 16) (i : ℕ) (d : Fin 128) :
    key kc kx b h i d = ((key kc kx b h i d).toReal : EReal) := by
  unfold key cat
  split
  · exact hkc _
  · split
    · exact hkx _
    · simp

theorem attn_eq (hqs : ∀ j, qs j = q j * ((σ96 : ℝ) : EReal)) (hq : ∀ j, q j = ((q j).toReal : EReal))
    (hkc : ∀ j, kc j = ((kc j).toReal : EReal)) (hkx : ∀ j, kx j = ((kx j).toReal : EReal)) (b : Fin 4) (t : Fin 4096) (c : Fin 1024) :
    attn qs kc vc kx vx b t c = val_main_v24 (F := Ideal) q kc vc kx vx (ix3 b t c) := by
  rw [Cert.ReferenceIdeal.Soft.out_apply]
  have hM := Cert.ReferenceIdeal.Soft.max_apply q kc kx b (hd c) t 0
  generalize Cert.ReferenceIdeal.Read.val_main_v14 (F := Ideal) q kc kx (ix4 b (hd c) t 0) = Mr at hM ⊢
  have hr : ∀ i : Fin 4352, Cert.ReferenceIdeal.Read.val_main_v9 (F := Ideal) q kc kx (ix4 b (hd c) t i)
      = ((c96 * ∑ d : Fin 128, (q (ix4 b (hd c) t d)).toReal * (key kc kx b (hd c) i d).toReal : ℝ) : EReal) := fun i => by
    rw [Cert.ReferenceIdeal.Soft.scores_apply]
    exact score_after _ _ _ (fun d => hq _) (fun d => key_real kc kx hkc hkx b (hd c) i d)
  simp only [hr] at hM ⊢
  simp only [Cert.ReferenceIdeal.Soft.values_apply]
  have hs : ∀ i : Fin 4352, cat (fun i => ∑ d : Fin 128, kc (ix4 b (hd c) i d) * qs (ix4 b (hd c) t d)) (fun i => ∑ d : Fin 128, kx (ix4 b (hd c) i d) * qs (ix4 b (hd c) t d)) i
      = ((σ96 * ∑ d : Fin 128, (q (ix4 b (hd c) t d)).toReal * (key kc kx b (hd c) i d).toReal : ℝ) : EReal) := fun i => by
    have e := score_scaled (fun d : Fin 128 => q (ix4 b (hd c) t d)) (fun d => key kc kx b (hd c) i d) σ96 (fun d => hq _) (fun d => key_real kc kx hkc hkx b (hd c) i d)
    refine Eq.trans ?_ e
    unfold cat key cat
    split
    · simp only [hqs]
    · split
      · simp only [hqs]
      · omega
  unfold attn mean
  simp only [upTo, hs]
  exact softmax_eq _ σ96_pos c96_pos log2_σ96 _ (isMax_iSup _) hM

end Join

variable (m : (ℓ : Loc nD τ sig) → Buf (Elt Ideal) ℓ)

/-- The queries times the scale. -/
def scl (x : FVec Ideal S4x16x4096x128 .f32) : FVec Ideal S4x16x4096x128 .bf16 := fun j => x j * ((σ96 : ℝ) : EReal)

theorem scaled (c : Dev nD) : (V m c main_v6 : FVec Ideal S4x16x4096x128 .bf16) = scl (m ((c : Thread nD τ).loc main_arg0)) := by
  funext j
  unfold scl
  rw [← scale_kernel]
  entry_read
  idx_vars j
  pointwise

/-- Every element is a real number. -/
def Real' {s : Shape} {φ : FTy} (x : FVec Ideal s φ) : Prop := ∀ j, x j = ((x j : EReal).toReal : EReal)

theorem finite_of_pre (h : Cert.Pre_KernelIdeal_scores_finite m) (c : Dev nD) :
    Real' (φ := .f32) (m ((c : Thread nD τ).loc main_arg0) : FVec Ideal S4x16x4096x128 .f32)
    ∧ Real' (φ := .bf16) (m ((c : Thread nD τ).loc main_arg1) : FVec Ideal S4x16x256x128 .bf16)
    ∧ Real' (φ := .bf16) (m ((c : Thread nD τ).loc main_arg3) : FVec Ideal S4x16x4096x128 .bf16) := by
  obtain ⟨h0, h1, h3⟩ := h c
  exact ⟨fun j => real_of_abs_lt _ (lt_of_cmp ofBits_inf (congrFun h0 j)), fun j => real_of_abs_lt _ (lt_of_cmp ofBits_inf_bf16 (congrFun h1 j)),
    fun j => real_of_abs_lt _ (lt_of_cmp ofBits_inf_bf16 (congrFun h3 j))⟩

theorem algebraic : Cert.algebraic_KernelIdeal_ReferenceIdeal_pre_scores_finite := by
  pair_intro
  · run_from run_main m g
  · run_from Cert.ReferenceIdeal.Value.run m' g'
    refine (Cert.ReferenceIdeal.Read.val_main_v24_eq _ _ _ _ _).trans ?_
    rw [final m c]
    obtain ⟨a0, a1, a2, a3, a4⟩ := hagree c
    rw [a1, a2, a3, a4, scaled m c]
    obtain ⟨f0, f1, f3⟩ := finite_of_pre m hpre c
    funext y
    idx_vars y
    exact (attn_eq _ _ _ _ _ _ (fun _ => rfl) f0 f1 f3 y0 y1 y2).symm

end Cert.KernelIdeal.Attn

end
-- ==== Proof.PostFrame.lean ====
/- The two post programs and their references leave their arguments as they found them. -/
module

public import proofs.«01_k».proof.Proof.Gen.PostSsd
public import proofs.«01_k».proof.Proof.Gen.PostSsd.Frame
public import proofs.«01_k».proof.Proof.Gen.PostSsdIdeal
public import proofs.«01_k».proof.Proof.Gen.PostSsdIdeal.Frame
public import proofs.«01_k».proof.Proof.Gen.PostMla
public import proofs.«01_k».proof.Proof.Gen.PostMla.Frame
public import proofs.«01_k».proof.Proof.Gen.PostMlaIdeal
public import proofs.«01_k».proof.Proof.Gen.PostMlaIdeal.Frame
public import proofs.«01_k».proof.Proof.Gen.LayerEndIdeal
public import proofs.«01_k».proof.Proof.Gen.LayerMidIdeal
public import proofs.«01_k».proof.Proof.Gen.LayerMidIdeal.Run
public import proofs.«01_k».proof.Defs
public import Idealize.ShloMosaic.Lib.Claim

@[expose] public section

set_option maxRecDepth 16384

noncomputable section

namespace Cert.PostFrame

open Idealize.ShloMosaic Idealize.SL.Sem

theorem ssd : Cert.quiescent_PostSsd := fun m g _ => Cert.PostSsd.Gen.frame m g

theorem ssd_ideal : Cert.quiescent_PostSsdIdeal := fun m g _ => Cert.PostSsdIdeal.Gen.frame m g

theorem mla : Cert.quiescent_PostMla := fun m g _ => Cert.PostMla.Gen.frame m g

theorem mla_ideal : Cert.quiescent_PostMlaIdeal := fun m g _ => Cert.PostMlaIdeal.Gen.frame m g

theorem mid : Cert.quiescent_LayerMidIdeal := by
  intro m g _
  run_from Cert.LayerMidIdeal.Value.run m g
  · exact fun _ => by simp only [and_self]
  · exact sem_eq_zero_of_no_sems (sig := Cert.LayerMidIdeal.sig) (by decide) _

set_option maxHeartbeats 40000000 in
theorem last : Cert.quiescent_LayerEndIdeal := by
  intro m g _
  hlo_run
  · exact fun _ => by simp only [and_self]
  · exact sem_eq_zero_of_no_sems (sig := Cert.LayerEndIdeal.sig) (by decide) _

end Cert.PostFrame

end
-- ==== Proof.RowMath.lean ====
/- The row-wise mathematics shared by the two post blocks: normalisation, modulation, gated feed-forward. -/
module

public import Idealize.ShloMosaic.PureOps.Ideal
public import Idealize.ShloMosaic.Lib.Pointwise

@[expose] public section

noncomputable section

namespace Cert.RowMath

open Idealize.ShloMosaic

/-- `x` times its logistic. -/
def silu (x : EReal) : EReal := x * Ideal.div 1 (1 + Ideal.exp (0 - x))

/-- The root-mean-square normalisation of a row `x` of `cn` elements, weighted by `w`. -/
def rms {n : ℕ} (cn : EReal) (w x : Fin n → EReal) (j : Fin n) : EReal :=
  x j * Ideal.rsqrt (Ideal.div (∑ i, x i * x i) cn + Ideal.ofBits .f32 0x358637BD#32) * w j

/-- The normalised row, scaled by `1 + s` and shifted by `b`. -/
def modulate (w s b x : Fin 1024 → EReal) (j : Fin 1024) : EReal :=
  rms (Ideal.ofBits .f32 0x44800000#32) w x j * (1 + s j) + b j

/-- The hidden row of the gated feed-forward layer. -/
def hid (w1 w3 : Fin 1024 → Fin 2816 → EReal) (h : Fin 1024 → EReal) (k : Fin 2816) : EReal :=
  silu (∑ d, h d * w1 d k) * ∑ d, h d * w3 d k

/-- A row plus a gated product of another row with a matrix. -/
def gated {n : ℕ} (g : Fin 1024 → EReal) (w : Fin n → Fin 1024 → EReal) (x : Fin 1024 → EReal) (a : Fin n → EReal) (c : Fin 1024) : EReal :=
  x c + g c * ∑ k, a k * w k c

/-- The second half of a block: modulated feed-forward added to the row. -/
def ffn (nf : Fin 1024 → EReal) (mod : Fin 6 → Fin 1024 → EReal) (w1 w3 : Fin 1024 → Fin 2816 → EReal) (w2 : Fin 2816 → Fin 1024 → EReal)
    (x : Fin 1024 → EReal) : Fin 1024 → EReal :=
  gated (mod 5) w2 x (hid w1 w3 (modulate nf (mod 4) (mod 3) x))

/-- The first block's end: output projection, then feed-forward. -/
def mid (nf : Fin 1024 → EReal) (mod : Fin 6 → Fin 1024 → EReal) (wo : Fin 1024 → Fin 1024 → EReal) (w1 w3 : Fin 1024 → Fin 2816 → EReal)
    (w2 : Fin 2816 → Fin 1024 → EReal) (x a : Fin 1024 → EReal) : Fin 1024 → EReal :=
  ffn nf mod w1 w3 w2 (gated (mod 2) wo x a)

/-- The gated and normalised state-space row. -/
def gate (sn : Fin 2048 → EReal) (y z : Fin 2048 → EReal) : Fin 2048 → EReal :=
  rms (Ideal.ofBits .f32 0x45000000#32) sn fun j => y j * silu (z j)

/-- The second block's end: gating, output projection, feed-forward, final normalisation. -/
def last (sn : Fin 2048 → EReal) (nf fn : Fin 1024 → EReal) (mod : Fin 6 → Fin 1024 → EReal) (wo : Fin 2048 → Fin 1024 → EReal)
    (w1 w3 : Fin 1024 → Fin 2816 → EReal) (w2 : Fin 2816 → Fin 1024 → EReal) (x : Fin 1024 → EReal) (y z : Fin 2048 → EReal) : Fin 1024 → EReal :=
  rms (Ideal.ofBits .f32 0x44800000#32) fn (ffn nf mod w1 w3 w2 (gated (mod 2) wo x (gate sn y z)))

end Cert.RowMath

end
-- ==== Proof.SsdPoint.lean ====
/- The second block's kernel payloads read at an index, as the row-wise mathematics. -/
module

public import proofs.«01_k».proof.Proof.RowMath
public import proofs.«01_k».proof.Proof.Gen.PostSsdIdeal.Frame
public import Idealize.ShloMosaic.Lib.Pipeline.ValueKit

@[expose] public section

set_option maxRecDepth 16384

noncomputable section

namespace Cert.PostSsdIdeal.Row

open Idealize.ShloMosaic Idealize.ShloMosaic.TcCoe Idealize.SL.Sem
open Cert.PostSsdIdeal Cert.PostSsdIdeal.Gen Cert.RowMath

theorem gate_apply (y z : Vec Ideal S1x256x2048 .bf16) (w : Vec Ideal S1x2048 .f32) (r : Fin 256) (j : Fin 2048) :
    k0_pay2 (F := Ideal) y z w (ix2 r j) = gate (fun j => w (ix2 0 j)) (fun j => y (ix3 0 r j)) (fun j => z (ix3 0 r j)) j := by
  unfold gate rms silu
  pointwise [k0_pay2]

theorem gate_apply' (y z : Vec Ideal S1x256x2048 .bf16) (w : Vec Ideal S1x2048 .f32) (r : Fin 256) (j : Fin 2048) :
    k0_pay6 (F := Ideal) (k0_pay3 (F := Ideal) y) (k0_pay4 (F := Ideal) z) (k0_pay5 (F := Ideal)) w (ix2 r j)
      = gate (fun j => w (ix2 0 j)) (fun j => y (ix3 0 r j)) (fun j => z (ix3 0 r j)) j := by
  unfold gate rms silu
  pointwise [k0_pay6, k0_pay3, k0_pay4, k0_pay5]

theorem proj_apply (a : FVec Ideal S256x2048 .bf16) (x : Vec Ideal S1x256x1024 .f32) (g : Vec Ideal S1x1x1024 .f32) (w : Vec Ideal S2048x1024 .bf16)
    (r : Fin 256) (c : Fin 1024) :
    k0_pay7 (F := Ideal) a x g w (ix2 r c) = gated (fun c => g (ix3 0 0 c)) (fun k c => w (ix2 k c)) (fun c => x (ix3 0 r c)) (fun k => a (ix2 r k)) c := by
  unfold gated
  pointwise [k0_pay7]

theorem proj_apply' (a : FVec Ideal S256x2048 .bf16) (x : Vec Ideal S1x256x1024 .f32) (g : Vec Ideal S1x1x1024 .f32) (w : Vec Ideal S2048x1024 .bf16)
    (r : Fin 256) (c : Fin 1024) :
    k0_pay10 (F := Ideal) a (k0_pay8 (F := Ideal) x) (k0_pay9 (F := Ideal) g) w (ix2 r c)
      = gated (fun c => g (ix3 0 0 c)) (fun k c => w (ix2 k c)) (fun c => x (ix3 0 r c)) (fun k => a (ix2 r k)) c := by
  unfold gated
  pointwise [k0_pay10, k0_pay8, k0_pay9]

theorem mod_apply (x : FVec Ideal S256x1024 .f32) (w : Vec Ideal S1x1024 .f32) (s b : Vec Ideal S1x1x1024 .f32) (r : Fin 256) (c : Fin 1024) :
    k0_pay11 (F := Ideal) x w s b (ix2 r c)
      = modulate (fun c => w (ix2 0 c)) (fun c => s (ix3 0 0 c)) (fun c => b (ix3 0 0 c)) (fun c => x (ix2 r c)) c := by
  unfold modulate rms
  pointwise [k0_pay11]

theorem rs_apply (a : FVec Ideal S256x2048 .bf16) (x : FVec Ideal S256x1024 .f32) (g : FVec Ideal S1x1024 .f32) (w : Vec Ideal S2048x1024 .bf16) (r : Fin 256) :
    k0_pay13 (F := Ideal) a x g w (ix2 r 0) = Ideal.rsqrt (Ideal.div (∑ i : Fin 1024, k0_pay10 (F := Ideal) a x g w (ix2 r i) * k0_pay10 (F := Ideal) a x g w (ix2 r i))
      (Ideal.ofBits .f32 0x44800000#32) + Ideal.ofBits .f32 0x358637BD#32) := by
  unfold k0_pay13
  generalize k0_pay10 (F := Ideal) a x g w = y
  pointwise

theorem mod_apply' (x : FVec Ideal S256x1024 .f32) (w : Vec Ideal S1x1024 .f32) (q : FVec Ideal S256x1 .f32) (s b : Vec Ideal S1x1x1024 .f32) (r : Fin 256)
    (hq : q (ix2 r 0) = Ideal.rsqrt (Ideal.div (∑ i : Fin 1024, x (ix2 r i) * x (ix2 r i)) (Ideal.ofBits .f32 0x44800000#32) + Ideal.ofBits .f32 0x358637BD#32))
    (c : Fin 1024) :
    k0_pay14 (F := Ideal) x (k0_pay12 (F := Ideal) w) q s b (ix2 r c)
      = modulate (fun c => w (ix2 0 c)) (fun c => s (ix3 0 0 c)) (fun c => b (ix3 0 0 c)) (fun c => x (ix2 r c)) c := by
  unfold modulate rms
  rw [← hq]
  pointwise [k0_pay14, k0_pay12]

theorem hid_apply (h : FVec Ideal S256x1024 .bf16) (w1 w3 : Vec Ideal S1x1024x2816 .bf16) (r : Fin 256) (k : Fin 2816) :
    k0_pay15 (F := Ideal) h w1 w3 (ix2 r k) = hid (fun d k => w1 (ix3 0 d k)) (fun d k => w3 (ix3 0 d k)) (fun d => h (ix2 r d)) k := by
  unfold hid silu
  pointwise [k0_pay15]

theorem hid_apply' (x : FVec Ideal S256x1024 .f32) (w : FVec Ideal S1x1024 .f32) (q : FVec Ideal S256x1 .f32) (s b : Vec Ideal S1x1x1024 .f32)
    (w1 w3 : Vec Ideal S1x1024x2816 .bf16) (r : Fin 256) (k : Fin 2816) :
    k0_pay18 (F := Ideal) (k0_pay14 (F := Ideal) x w q s b) (k0_pay16 (F := Ideal) x w q s b w1) (k0_pay17 (F := Ideal) x w q s b w1) w3 (ix2 r k)
      = hid (fun d k => w1 (ix3 0 d k)) (fun d k => w3 (ix3 0 d k)) (fun d => k0_pay14 (F := Ideal) x w q s b (ix2 r d)) k := by
  unfold hid silu k0_pay17 k0_pay16
  generalize k0_pay14 (F := Ideal) x w q s b = h
  pointwise [k0_pay18]

theorem out_apply (x : FVec Ideal S256x1024 .f32) (a : FVec Ideal S256x2816 .bf16) (g : Vec Ideal S1x1x1024 .f32) (w : Vec Ideal S1x2816x1024 .bf16)
    (f : Vec Ideal S1x1024 .f32) (r : Fin 256) (c : Fin 1024) :
    k0_pay19 (F := Ideal) x a g w f (ix3 0 r c) = rms (Ideal.ofBits .f32 0x44800000#32) (fun c => f (ix2 0 c))
      (gated (fun c => g (ix3 0 0 c)) (fun k c => w (ix3 0 k c)) (fun c => x (ix2 r c)) (fun k => a (ix2 r k))) c := by
  unfold rms gated
  pointwise [k0_pay19]

theorem out_apply' (x : FVec Ideal S256x1024 .f32) (a : FVec Ideal S256x2816 .bf16) (g : Vec Ideal S1x1x1024 .f32) (w : Vec Ideal S1x2816x1024 .bf16)
    (f : Vec Ideal S1x1024 .f32) (r : Fin 256) (c : Fin 1024) :
    k0_pay1 (F := Ideal) x a g w f (ix3 0 r c) = rms (Ideal.ofBits .f32 0x44800000#32) (fun c => f (ix2 0 c))
      (gated (fun c => g (ix3 0 0 c)) (fun k c => w (ix3 0 k c)) (fun c => x (ix2 r c)) (fun k => a (ix2 r k))) c := by
  unfold rms gated
  pointwise [k0_pay1]

end Cert.PostSsdIdeal.Row

end
-- ==== Proof.SsdBlock.lean ====
/- One block of the second post kernel's result: every row is the row-wise mathematics of its input rows. -/
module

public import proofs.«01_k».proof.Proof.SsdPoint

@[expose] public section

set_option maxRecDepth 16384

noncomputable section

namespace Cert.PostSsdIdeal.Row

open Idealize.ShloMosaic Idealize.ShloMosaic.TcCoe Idealize.SL.Sem
open Cert.PostSsdIdeal Cert.PostSsdIdeal.Gen Cert.RowMath

variable (x0 : Vec Ideal S1x512x1024 .f32) (x1 x2 : Vec Ideal S1x512x2048 .bf16) (x3 : Vec Ideal S1x2048 .f32) (x4 : Vec Ideal S1x6x1024 .f32)
  (x5 : Vec Ideal S2048x1024 .bf16) (x6 : Vec Ideal S1x1024 .f32) (x7 x8 : Vec Ideal S1x1024x2816 .bf16) (x9 : Vec Ideal S1x2816x1024 .bf16)
  (x10 : Vec Ideal S1x1024 .f32)

theorem ldw (k : Fin 2048) : View.ld x3 r0_1 (ix2 0 k) = x3 (ix2 0 k) := by pointwise
theorem ldg (c : Fin 1024) : View.ld x4 r0_4 (ix3 0 0 c) = x4 (ix3 0 2 c) := by pointwise
theorem ldo (k : Fin 2048) (c : Fin 1024) : View.ld x5 r0_5 (ix2 k c) = x5 (ix2 k c) := by pointwise
theorem ldn (c : Fin 1024) : View.ld x6 r0_7 (ix2 0 c) = x6 (ix2 0 c) := by pointwise
theorem lds (c : Fin 1024) : View.ld x4 r0_8 (ix3 0 0 c) = x4 (ix3 0 4 c) := by pointwise
theorem ldb (c : Fin 1024) : View.ld x4 r0_9 (ix3 0 0 c) = x4 (ix3 0 3 c) := by pointwise
theorem ldu (d : Fin 1024) (k : Fin 2816) : View.ld x7 r0_10 (ix3 0 d k) = x7 (ix3 0 d k) := by pointwise
theorem ldh (c : Fin 1024) : View.ld x4 r0_11 (ix3 0 0 c) = x4 (ix3 0 5 c) := by pointwise
theorem ldd (k : Fin 2816) (c : Fin 1024) : View.ld x9 r0_12 (ix3 0 k c) = x9 (ix3 0 k c) := by pointwise
theorem ldx (s : Fin 512) (r : Fin 256) (h : s.val = r.val) (c : Fin 1024) : View.ld x0 r0_3 (ix3 0 r c) = x0 (ix3 0 s c) := by rw [show s = ⟨r.val, by omega⟩ from Fin.ext h]; pointwise
theorem ldy (s : Fin 512) (r : Fin 256) (h : s.val = r.val) (c : Fin 2048) : View.ld x1 r0_0 (ix3 0 r c) = x1 (ix3 0 s c) := by rw [show s = ⟨r.val, by omega⟩ from Fin.ext h]; pointwise
theorem ldx' (s : Fin 512) (r : Fin 256) (h : s.val = 256 + r.val) (c : Fin 1024) : View.ld x0 r0_6 (ix3 0 r c) = x0 (ix3 0 s c) := by rw [show s = ⟨256 + r.val, by omega⟩ from Fin.ext h]; pointwise
theorem ldy' (s : Fin 512) (r : Fin 256) (h : s.val = 256 + r.val) (c : Fin 2048) : View.ld x1 r0_2 (ix3 0 r c) = x1 (ix3 0 s c) := by rw [show s = ⟨256 + r.val, by omega⟩ from Fin.ext h]; pointwise

/-- Row `s` after the state-space half of the block. -/
def half (s : Fin 512) : Fin 1024 → EReal :=
  gated (fun c => x4 (ix3 0 2 c)) (fun k c => x5 (ix2 k c)) (fun c => x0 (ix3 0 s c))
    (gate (fun j => x3 (ix2 0 j)) (fun j => x1 (ix3 0 s j)) (fun j => x2 (ix3 0 s j)))

/-- Row `s` of the block's result. -/
def row (s : Fin 512) : Fin 1024 → EReal :=
  last (fun j => x3 (ix2 0 j)) (fun c => x6 (ix2 0 c)) (fun c => x10 (ix2 0 c)) (fun i c => x4 (ix3 0 i c)) (fun k c => x5 (ix2 k c))
    (fun d k => x7 (ix3 0 d k)) (fun d k => x8 (ix3 0 d k)) (fun k c => x9 (ix3 0 k c)) (fun c => x0 (ix3 0 s c)) (fun j => x1 (ix3 0 s j)) (fun j => x2 (ix3 0 s j))

theorem half_low (s : Fin 512) (r : Fin 256) (h : s.val = r.val) (i : Fin 1024) :
    k0_pay21 (F := Ideal) x0 x1 x2 x3 x4 x5 x6 x7 x8 x9 x10 (ix2 r i) = half x0 x1 x2 x3 x4 x5 s i := by
  unfold k0_pay21 half
  rw [proj_apply]
  simp only [gate_apply, ldw x3, ldg x4, ldo x5, ldx x0 s r h, ldy x1 s r h, ldy x2 s r h]

theorem half_high (s : Fin 512) (r : Fin 256) (h : s.val = 256 + r.val) (i : Fin 1024) :
    k0_pay24 (F := Ideal) x0 x1 x2 x3 x4 x5 x6 x7 x8 x9 x10 (ix2 r i) = half x0 x1 x2 x3 x4 x5 s i := by
  unfold k0_pay24 half k0_pay22 k0_pay23 k0_pay20
  rw [proj_apply']
  simp only [gate_apply', ldw x3, ldg x4, ldo x5, ldx' x0 s r h, ldy' x1 s r h, ldy' x2 s r h]

theorem low (s : Fin 512) (r : Fin 256) (h : s.val = r.val) (c : Fin 1024) :
    k0_pay19 (F := Ideal) (k0_pay21 (F := Ideal) x0 x1 x2 x3 x4 x5 x6 x7 x8 x9 x10) (k0_pay15 (F := Ideal) (k0_pay11 (F := Ideal) (k0_pay21 (F := Ideal) x0 x1 x2 x3 x4 x5 x6 x7 x8 x9 x10) (View.ld x6 r0_7) (View.ld x4 r0_8) (View.ld x4 r0_9)) (View.ld x7 r0_10) (View.ld x8 r0_10)) (View.ld x4 r0_11) (View.ld x9 r0_12) (View.ld x10 r0_7) (ix3 0 r c)
      = row x0 x1 x2 x3 x4 x5 x6 x7 x8 x9 x10 s c := by
  rw [out_apply]
  simp only [hid_apply, mod_apply, half_low x0 x1 x2 x3 x4 x5 x6 x7 x8 x9 x10 s r h, ldn x6, ldn x10, lds x4, ldb x4, ldu x7, ldu x8, ldh x4, ldd x9]
  rfl

theorem high (s : Fin 512) (r : Fin 256) (h : s.val = 256 + r.val) (c : Fin 1024) :
    k0_pay1 (F := Ideal) (k0_pay24 (F := Ideal) x0 x1 x2 x3 x4 x5 x6 x7 x8 x9 x10) (k0_pay18 (F := Ideal) (k0_pay14 (F := Ideal) (k0_pay24 (F := Ideal) x0 x1 x2 x3 x4 x5 x6 x7 x8 x9 x10) (k0_pay25 (F := Ideal) x0 x1 x2 x3 x4 x5 x6 x7 x8 x9 x10) (k0_pay26 (F := Ideal) x0 x1 x2 x3 x4 x5 x6 x7 x8 x9 x10) (View.ld x4 r0_8) (View.ld x4 r0_9)) (k0_pay16 (F := Ideal) (k0_pay24 (F := Ideal) x0 x1 x2 x3 x4 x5 x6 x7 x8 x9 x10) (k0_pay25 (F := Ideal) x0 x1 x2 x3 x4 x5 x6 x7 x8 x9 x10) (k0_pay26 (F := Ideal) x0 x1 x2 x3 x4 x5 x6 x7 x8 x9 x10) (View.ld x4 r0_8) (View.ld x4 r0_9) (View.ld x7 r0_10)) (k0_pay17 (F := Ideal) (k0_pay24 (F := Ideal) x0 x1 x2 x3 x4 x5 x6 x7 x8 x9 x10) (k0_pay25 (F := Ideal) x0 x1 x2 x3 x4 x5 x6 x7 x8 x9 x10) (k0_pay26 (F := Ideal) x0 x1 x2 x3 x4 x5 x6 x7 x8 x9 x10) (View.ld x4 r0_8) (View.ld x4 r0_9) (View.ld x7 r0_10)) (View.ld x8 r0_10)) (View.ld x4 r0_11) (View.ld x9 r0_12) (View.ld x10 r0_7) (ix3 0 r c)
      = row x0 x1 x2 x3 x4 x5 x6 x7 x8 x9 x10 s c := by
  have hq : k0_pay26 (F := Ideal) x0 x1 x2 x3 x4 x5 x6 x7 x8 x9 x10 (ix2 r 0)
      = Ideal.rsqrt (Ideal.div (∑ i : Fin 1024, k0_pay24 (F := Ideal) x0 x1 x2 x3 x4 x5 x6 x7 x8 x9 x10 (ix2 r i) * k0_pay24 (F := Ideal) x0 x1 x2 x3 x4 x5 x6 x7 x8 x9 x10 (ix2 r i)) (Ideal.ofBits .f32 0x44800000#32) + Ideal.ofBits .f32 0x358637BD#32) := rs_apply _ _ _ _ r
  have hm : ∀ d, k0_pay14 (F := Ideal) (k0_pay24 (F := Ideal) x0 x1 x2 x3 x4 x5 x6 x7 x8 x9 x10) (k0_pay25 (F := Ideal) x0 x1 x2 x3 x4 x5 x6 x7 x8 x9 x10) (k0_pay26 (F := Ideal) x0 x1 x2 x3 x4 x5 x6 x7 x8 x9 x10) (View.ld x4 r0_8) (View.ld x4 r0_9) (ix2 r d) = _ :=
    mod_apply' _ _ _ _ _ r hq
  rw [out_apply']
  simp only [hid_apply', hm]
  simp only [half_high x0 x1 x2 x3 x4 x5 x6 x7 x8 x9 x10 s r h, ldn x6, ldn x10, lds x4, ldb x4, ldu x7, ldu x8, ldh x4, ldd x9]
  rfl

theorem block_apply (s : Fin 512) (c : Fin 1024) :
    out0_11 (F := Ideal) x0 x1 x2 x3 x4 x5 x6 x7 x8 x9 x10 (ix3 0 s c) = row x0 x1 x2 x3 x4 x5 x6 x7 x8 x9 x10 s c := by
  unfold out0_11
  canon_tiles u h
  all_goals idx_vars u
  all_goals rw [show u0 = 0 from Subsingleton.elim _ _, show c = u2 from Fin.ext (by simpa using h2)]
  · exact high x0 x1 x2 x3 x4 x5 x6 x7 x8 x9 x10 s u1 (by simpa using h1) u2
  · exact low x0 x1 x2 x3 x4 x5 x6 x7 x8 x9 x10 s u1 (by simpa using h1) u2

end Cert.PostSsdIdeal.Row

end
-- ==== Proof.SsdOut.lean ====
/- The second post kernel's result array, row by row. -/
module

public import proofs.«01_k».proof.Proof.SsdBlock
public import proofs.«01_k».proof.Proof.Gen.PostSsdIdeal.Value
public import Idealize.ShloMosaic.Lib.Claim

@[expose] public section

set_option maxRecDepth 16384

noncomputable section

namespace Cert.PostSsdIdeal.Row

open Idealize.ShloMosaic Idealize.ShloMosaic.TcCoe Idealize.SL.Sem
open Cert.PostSsdIdeal Cert.PostSsdIdeal.Gen Cert.RowMath

/-- Row `t` of batch `b` of the layer's end, from the arguments. -/
def layer (X : FVec Ideal S4x4096x1024 .f32) (Y Z : FVec Ideal S4x4096x2048 .bf16) (M : FVec Ideal S4x6x1024 .f32) (SN : FVec Ideal S1x2048 .f32)
    (WO : FVec Ideal S1x2048x1024 .f32) (NF : FVec Ideal S2x1024 .f32) (W1 W3 : FVec Ideal S2x1024x2816 .f32) (W2 : FVec Ideal S2x2816x1024 .f32)
    (FN : FVec Ideal S1024 .f32) (b : Fin 4) (t : Fin 4096) : Fin 1024 → EReal :=
  last (fun j => SN (ix2 0 j)) (fun c => NF (ix2 1 c)) (fun c => FN (ix1 c)) (fun i c => M (ix3 b i c)) (fun k c => WO (ix3 0 k c))
    (fun d k => W1 (ix3 1 d k)) (fun d k => W3 (ix3 1 d k)) (fun k c => W2 (ix3 1 k c)) (fun c => X (ix3 b t c)) (fun j => Y (ix3 b t j)) (fun j => Z (ix3 b t j))

variable (m : (ℓ : Loc nD τ sig) → Buf (Elt Ideal) ℓ)

theorem idx0 : ∀ t : Fin grid0.N, win0_0.index t = ![t.val / 8, t.val % 8, 0] := by decide +kernel
theorem idx1 : ∀ t : Fin grid0.N, win0_1.index t = ![t.val / 8, t.val % 8, 0] := by decide +kernel
theorem idx2 : ∀ t : Fin grid0.N, win0_2.index t = ![t.val / 8, t.val % 8, 0] := by decide +kernel
theorem idx3 : ∀ t : Fin grid0.N, win0_3.index t = ![0, 0] := by decide +kernel
theorem idx4 : ∀ t : Fin grid0.N, win0_4.index t = ![t.val / 8, 0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![1, 0, 0] := by decide +kernel
theorem idx8 : ∀ t : Fin grid0.N, win0_8.index t = ![1, 0, 0] := by decide +kernel
theorem idx9 : ∀ t : Fin grid0.N, win0_9.index t = ![1, 0, 0] := by decide +kernel
theorem idx10 : ∀ t : Fin grid0.N, win0_10.index t = ![0, 0] := by decide +kernel
theorem idx11 : ∀ t : Fin grid0.N, win0_11.index t = ![t.val / 8, t.val % 8, 0] := by decide +kernel

section Blocks

variable (c : Dev nD) (t : Fin cfg0.N) (b : Fin 4) (s : Fin 512) (u : Fin 4096) (hb : b.val = t.val / 8) (hu : u.val = 512 * (t.val % 8) + s.val)

include hb hu in
theorem blk0 (k : Fin 1024) : iblk m c 0 t (ix3 0 s k) = m ((c : Thread nD τ).loc main_arg0) (ix3 b u k) := by
  have hb' := hb; have hu' := hu
  blk_ext [iblk, V, idx0 t]

include hb hu in
theorem blk1 (k : Fin 2048) : iblk m c 1 t (ix3 0 s k) = m ((c : Thread nD τ).loc main_arg1) (ix3 b u k) := by
  have hb' := hb; have hu' := hu
  blk_ext [iblk, V, idx1 t]

include hb hu in
theorem blk2 (k : Fin 2048) : iblk m c 2 t (ix3 0 s k) = m ((c : Thread nD τ).loc main_arg2) (ix3 b u k) := by
  have hb' := hb; have hu' := hu
  blk_ext [iblk, V, idx2 t]

include hb in
theorem blk4 (i : Fin 6) (k : Fin 1024) : iblk m c 4 t (ix3 0 i k) = m ((c : Thread nD τ).loc main_arg3) (ix3 b i k) := by
  have hb' := hb
  blk_ext [iblk, V, idx4 t]

theorem blk3 (k : Fin 2048) : iblk m c 3 t (ix2 0 k) = m ((c : Thread nD τ).loc main_arg4) (ix2 0 k) := by
  have e : iblk m c 3 t (ix2 0 k) = V m c main_v9 (ix2 0 k) := by blk_ext [iblk, idx3 t]
  rw [e]
  entry_read
  pointwise

theorem blk5 (i : Fin 2048) (k : Fin 1024) : iblk m c 5 t (ix2 i k) = m ((c : Thread nD τ).loc main_arg5) (ix3 0 i k) := by
  have e : iblk m c 5 t (ix2 i k) = V m c main_v6 (ix2 i k) := by blk_ext [iblk, idx5 t]
  rw [e]
  entry_read
  pointwise

theorem blk6 (k : Fin 1024) : iblk m c 6 t (ix2 0 k) = m ((c : Thread nD τ).loc main_arg6) (ix2 1 k) := by
  have e : iblk m c 6 t (ix2 0 k) = V m c main_v7 (ix2 0 k) := by blk_ext [iblk, idx6 t]
  rw [e]
  entry_read
  pointwise

theorem blk7 (d : Fin 1024) (k : Fin 2816) : iblk m c 7 t (ix3 0 d k) = m ((c : Thread nD τ).loc main_arg7) (ix3 1 d k) := by
  have e : iblk m c 7 t (ix3 0 d k) = V m c main_v0 (ix3 1 d k) := by blk_ext [iblk, idx7 t]
  rw [e]
  entry_read
  pointwise

theorem blk8 (d : Fin 1024) (k : Fin 2816) : iblk m c 8 t (ix3 0 d k) = m ((c : Thread nD τ).loc main_arg8) (ix3 1 d k) := by
  have e : iblk m c 8 t (ix3 0 d k) = V m c main_v1 (ix3 1 d k) := by blk_ext [iblk, idx8 t]
  rw [e]
  entry_read
  pointwise

theorem blk9 (k : Fin 2816) (d : Fin 1024) : iblk m c 9 t (ix3 0 k d) = m ((c : Thread nD τ).loc main_arg9) (ix3 1 k d) := by
  have e : iblk m c 9 t (ix3 0 k d) = V m c main_v2 (ix3 1 k d) := by blk_ext [iblk, idx9 t]
  rw [e]
  entry_read
  pointwise

theorem blk10 (k : Fin 1024) : iblk m c 10 t (ix2 0 k) = m ((c : Thread nD τ).loc main_arg10) (ix1 k) := by
  have e : iblk m c 10 t (ix2 0 k) = V m c main_v10 (ix2 0 k) := by blk_ext [iblk, idx10 t]
  rw [e]
  entry_read
  pointwise

include hb hu in
theorem point (k : Fin 1024) :
    out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 s k)
      = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b u k := by
  rw [block_apply]
  unfold row layer
  simp only [blk0 m c t b s u hb hu, blk1 m c t b s u hb hu, blk2 m c t b s u hb hu, blk3 m c t, blk4 m c t b hb, blk5 m c t, blk6 m c t, blk7 m c t,
    blk8 m c t, blk9 m c t, blk10 m c t]

end Blocks

theorem final (c : Dev nD) : (dats m 0 c).arrAt 11 (cfgs 0).N
    = fun y : S4x4096x1024.Idx => layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (y 1) (y 2) := by
  refine (dats m 0 c).arrAt_eq_of_covers 11 _ (by decide +kernel) fun t _ y => ?_
  blk_simp
  rw [after0_11]
  idx_vars y
  rw [show y0 = 0 from Subsingleton.elim _ _]
  have ht : t.val < 32 := lt_of_lt_of_eq t.isLt (by decide +kernel)
  have e : ((View.whole main_v11).slice (win0_11.rect t)).emb (ix3 0 y1 y2)
      = (ix3 (⟨t.val / 8, by omega⟩ : Fin 4) (⟨512 * (t.val % 8) + y1.val, by omega⟩ : Fin 4096) y2 : S4x4096x1024.Idx) := by
    blk_ext [idx11 t]
  rw [e]
  exact point m c t _ y1 _ rfl rfl y2

end Cert.PostSsdIdeal.Row

end
-- ==== Proof.SsdRef.lean ====
/- The plain end of the second layer, stage by stage, read at an index. -/
module

public import proofs.«01_k».proof.Proof.SsdOut
public import proofs.«01_k».proof.Proof.Gen.LayerEndIdeal
public import Idealize.ShloMosaic.Lib.Pointwise

@[expose] public section

set_option maxRecDepth 16384

noncomputable section

namespace Cert.LayerEndIdeal.Row

open Idealize.ShloMosaic Idealize.ShloMosaic.TcCoe Idealize.SL.Sem
open Cert.LayerEndIdeal Cert.LayerEndIdeal.Gen Cert.RowMath

/-- The root-mean-square normalisation of every row of 2048. -/
def wideRms (y : FVec Ideal S4x4096x2048 .f32) (w : FVec Ideal S2048 .f32) : FVec Ideal S4x4096x2048 .f32 :=
  mulf (mulf y (broadcastInDim S4x4096x2048 ![0, 1, 2] bcast_S4x4096x1_S4x4096x2048_0_1_2 (Host.rsqrt (addf (Host.divf
    (broadcastInDim S4x4096x1 ![0, 1] bcast_S4x4096_S4x4096x1_0_1 (Host.reduceAdd (mulf y y) (constant S_ .f32 0x00000000#32) reducesTo_S4x4096x2048_S4x4096_d2 h_S_))
    (broadcastInDim S4x4096x1 ![] bcast_S_S4x4096x1 (constant S_ .f32 0x45000000#32))) (broadcastInDim S4x4096x1 ![] bcast_S_S4x4096x1 (constant S_ .f32 0x358637BD#32))))))
    (broadcastInDim S4x4096x2048 ![0, 1, 2] bcast_S1x1x2048_S4x4096x2048_0_1_2 (broadcastInDim S1x1x2048 ![2] bcast_S2048_S1x1x2048_2 w))

/-- The root-mean-square normalisation of every row of 1024. -/
def rowRms (y : FVec Ideal S4x4096x1024 .f32) (w : FVec Ideal S1024 .f32) : FVec Ideal S4x4096x1024 .f32 :=
  mulf (mulf y (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf y y) (constant S_ .f32 0x00000000#32) reducesTo_S4x4096x1024_S4x4096_d2 h_S_))
    (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 w))

/-- The product the state-space row is gated with, before its normalisation. -/
def gateProd (Y Z : FVec Ideal S4x4096x2048 .bf16) : FVec Ideal S4x4096x2048 .f32 :=
  mulf (extf .f32 Y bitsLt_bf16_f32) (mulf (extf .f32 Z bitsLt_bf16_f32) (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf (extf .f32 Z bitsLt_bf16_f32))))))

/-- The residual row plus the gated output projection. -/
def projRow (X : FVec Ideal S4x4096x1024 .f32) (A : FVec Ideal S4x4096x2048 .f32) (M : FVec Ideal S4x6x1024 .f32) (WO : FVec Ideal S1x2048x1024 .f32) : FVec Ideal S4x4096x1024 .f32 :=
  addf X (mulf (broadcastInDim S4x4096x1024 ![0, 1, 2] bcast_S4x1x1024_S4x4096x1024_0_1_2 (extractStridedSlice S4x1x1024 ![0, 2, 0] M slices_S4x6x1024_S4x1x1024_0_2_0))
    (Host.dotGeneral dot_S4x4096x2048_S2048x1024_S4x4096x1024_2_0_01_1_n_n none A (shapeCast S2048x1024 WO shapeCasts_S1x2048x1024_S2048x1024)))

/-- The scaled and shifted normalised row. -/
def modRow (N : FVec Ideal S4x4096x1024 .f32) (M : FVec Ideal S4x6x1024 .f32) : FVec Ideal S4x4096x1024 .f32 :=
  addf (mulf N (broadcastInDim S4x4096x1024 ![0, 1, 2] bcast_S4x1x1024_S4x4096x1024_0_1_2
    (addf (broadcastInDim S4x1x1024 ![] bcast_S_S4x1x1024 (constant S_ .f32 0x3F800000#32)) (extractStridedSlice S4x1x1024 ![0, 4, 0] M slices_S4x6x1024_S4x1x1024_0_4_0))))
    (broadcastInDim S4x4096x1024 ![0, 1, 2] bcast_S4x1x1024_S4x4096x1024_0_1_2 (extractStridedSlice S4x1x1024 ![0, 3, 0] M slices_S4x6x1024_S4x1x1024_0_3_0))

/-- A row times the second layer's first or third weight. -/
def upRow (H : FVec Ideal S4x4096x1024 .f32) (W : FVec Ideal S2x1024x2816 .f32) : FVec Ideal S4x4096x2816 .f32 :=
  Host.dotGeneral dot_S4x4096x1024_S1024x2816_S4x4096x2816_2_0_01_1_n_n none H
    (shapeCast S1024x2816 (extractStridedSlice S1x1024x2816 ![1, 0, 0] W slices_S2x1024x2816_S1x1024x2816_1_0_0) shapeCasts_S1x1024x2816_S1024x2816)

/-- The hidden row. -/
def hidRow (U T : FVec Ideal S4x4096x2816 .f32) : FVec Ideal S4x4096x2816 .f32 :=
  mulf (mulf U (Host.divf (broadcastInDim S4x4096x2816 ![] bcast_S_S4x4096x2816 (constant S_ .f32 0x3F800000#32))
    (addf (broadcastInDim S4x4096x2816 ![] bcast_S_S4x4096x2816 (constant S_ .f32 0x3F800000#32)) (Host.exp (Host.negf U))))) T

/-- The row plus the gated down projection. -/
def downRow (X : FVec Ideal S4x4096x1024 .f32) (H : FVec Ideal S4x4096x2816 .f32) (M : FVec Ideal S4x6x1024 .f32) (W : FVec Ideal S2x2816x1024 .f32) : FVec Ideal S4x4096x1024 .f32 :=
  addf X (mulf (broadcastInDim S4x4096x1024 ![0, 1, 2] bcast_S4x1x1024_S4x4096x1024_0_1_2 (extractStridedSlice S4x1x1024 ![0, 5, 0] M slices_S4x6x1024_S4x1x1024_0_5_0))
    (Host.dotGeneral dot_S4x4096x2816_S2816x1024_S4x4096x1024_2_0_01_1_n_n none H
      (shapeCast S2816x1024 (extractStridedSlice S1x2816x1024 ![1, 0, 0] W slices_S2x2816x1024_S1x2816x1024_1_0_0) shapeCasts_S1x2816x1024_S2816x1024)))

/-- The feed-forward half of the layer. -/
def ffnRow (X : FVec Ideal S4x4096x1024 .f32) (M : FVec Ideal S4x6x1024 .f32) (NF : FVec Ideal S2x1024 .f32) (W1 W3 : FVec Ideal S2x1024x2816 .f32)
    (W2 : FVec Ideal S2x2816x1024 .f32) : FVec Ideal S4x4096x1024 .f32 :=
  downRow X (hidRow (upRow (modRow (rowRms X (shapeCast S1024 (extractStridedSlice S1x1024 ![1, 0] NF slices_S2x1024_S1x1024_1_0) shapeCasts_S1x1024_S1024)) M) W1)
    (upRow (modRow (rowRms X (shapeCast S1024 (extractStridedSlice S1x1024 ![1, 0] NF slices_S2x1024_S1x1024_1_0) shapeCasts_S1x1024_S1024)) M) W3)) M W2

/-- The whole end of the second layer. -/
def whole (X : FVec Ideal S4x4096x1024 .f32) (Y Z : FVec Ideal S4x4096x2048 .bf16) (M : FVec Ideal S4x6x1024 .f32) (SN : FVec Ideal S1x2048 .f32)
    (WO : FVec Ideal S1x2048x1024 .f32) (NF : FVec Ideal S2x1024 .f32) (W1 W3 : FVec Ideal S2x1024x2816 .f32) (W2 : FVec Ideal S2x2816x1024 .f32)
    (FN : FVec Ideal S1024 .f32) : FVec Ideal S4x4096x1024 .f32 :=
  rowRms (ffnRow (projRow X (wideRms (gateProd Y Z) (shapeCast S2048 SN shapeCasts_S1x2048_S2048)) M WO) M NF W1 W3 W2) FN

variable (b : Fin 4) (t : Fin 4096)

theorem wideRms_apply (y : FVec Ideal S4x4096x2048 .f32) (w : FVec Ideal S2048 .f32) (j : Fin 2048) :
    wideRms y w (ix3 b t j) = rms (Ideal.ofBits .f32 0x45000000#32) (fun j => w (ix1 j)) (fun j => y (ix3 b t j)) j := by
  unfold rms
  pointwise [wideRms]

theorem rowRms_apply (y : FVec Ideal S4x4096x1024 .f32) (w : FVec Ideal S1024 .f32) (j : Fin 1024) :
    rowRms y w (ix3 b t j) = rms (Ideal.ofBits .f32 0x44800000#32) (fun j => w (ix1 j)) (fun j => y (ix3 b t j)) j := by
  unfold rms
  pointwise [rowRms]

theorem gateProd_apply (Y Z : FVec Ideal S4x4096x2048 .bf16) (j : Fin 2048) :
    gateProd Y Z (ix3 b t j) = Y (ix3 b t j) * silu (Z (ix3 b t j)) := by
  unfold silu
  simp only [zero_sub]
  pointwise [gateProd]

theorem projRow_apply (X : FVec Ideal S4x4096x1024 .f32) (A : FVec Ideal S4x4096x2048 .f32) (M : FVec Ideal S4x6x1024 .f32) (WO : FVec Ideal S1x2048x1024 .f32) (c : Fin 1024) :
    projRow X A M WO (ix3 b t c) = gated (fun c => M (ix3 b 2 c)) (fun k c => WO (ix3 0 k c)) (fun c => X (ix3 b t c)) (fun k => A (ix3 b t k)) c := by
  unfold gated
  pointwise [projRow]

theorem modRow_apply (N : FVec Ideal S4x4096x1024 .f32) (M : FVec Ideal S4x6x1024 .f32) (c : Fin 1024) :
    modRow N M (ix3 b t c) = N (ix3 b t c) * (1 + M (ix3 b 4 c)) + M (ix3 b 3 c) := by
  pointwise [modRow]

theorem upRow_apply (H : FVec Ideal S4x4096x1024 .f32) (W : FVec Ideal S2x1024x2816 .f32) (k : Fin 2816) :
    upRow H W (ix3 b t k) = ∑ d : Fin 1024, H (ix3 b t d) * W (ix3 1 d k) := by
  pointwise [upRow]

theorem hidRow_apply (U T : FVec Ideal S4x4096x2816 .f32) (k : Fin 2816) :
    hidRow U T (ix3 b t k) = silu (U (ix3 b t k)) * T (ix3 b t k) := by
  unfold silu
  simp only [zero_sub]
  pointwise [hidRow]

theorem downRow_apply (X : FVec Ideal S4x4096x1024 .f32) (H : FVec Ideal S4x4096x2816 .f32) (M : FVec Ideal S4x6x1024 .f32) (W : FVec Ideal S2x2816x1024 .f32) (c : Fin 1024) :
    downRow X H M W (ix3 b t c) = gated (fun c => M (ix3 b 5 c)) (fun k c => W (ix3 1 k c)) (fun c => X (ix3 b t c)) (fun k => H (ix3 b t k)) c := by
  unfold gated
  pointwise [downRow]

theorem norm_apply (NF : FVec Ideal S2x1024 .f32) (c : Fin 1024) :
    shapeCast S1024 (extractStridedSlice S1x1024 ![1, 0] NF slices_S2x1024_S1x1024_1_0) shapeCasts_S1x1024_S1024 (ix1 c) = NF (ix2 1 c) := by
  pointwise

theorem wideNorm_apply (SN : FVec Ideal S1x2048 .f32) (j : Fin 2048) :
    shapeCast S2048 SN shapeCasts_S1x2048_S2048 (ix1 j) = SN (ix2 0 j) := by
  pointwise

theorem ffnRow_apply (X : FVec Ideal S4x4096x1024 .f32) (M : FVec Ideal S4x6x1024 .f32) (NF : FVec Ideal S2x1024 .f32) (W1 W3 : FVec Ideal S2x1024x2816 .f32)
    (W2 : FVec Ideal S2x2816x1024 .f32) (c : Fin 1024) :
    ffnRow X M NF W1 W3 W2 (ix3 b t c) = ffn (fun c => NF (ix2 1 c)) (fun i c => M (ix3 b i c)) (fun d k => W1 (ix3 1 d k)) (fun d k => W3 (ix3 1 d k))
      (fun k c => W2 (ix3 1 k c)) (fun c => X (ix3 b t c)) c := by
  unfold ffnRow
  simp only [downRow_apply, hidRow_apply, upRow_apply, modRow_apply, rowRms_apply, norm_apply]
  rfl

theorem whole_apply (X : FVec Ideal S4x4096x1024 .f32) (Y Z : FVec Ideal S4x4096x2048 .bf16) (M : FVec Ideal S4x6x1024 .f32) (SN : FVec Ideal S1x2048 .f32)
    (WO : FVec Ideal S1x2048x1024 .f32) (NF : FVec Ideal S2x1024 .f32) (W1 W3 : FVec Ideal S2x1024x2816 .f32) (W2 : FVec Ideal S2x2816x1024 .f32)
    (FN : FVec Ideal S1024 .f32) (c : Fin 1024) :
    whole X Y Z M SN WO NF W1 W3 W2 FN (ix3 b t c) = Cert.PostSsdIdeal.Row.layer X Y Z M SN WO NF W1 W3 W2 FN b t c := by
  unfold whole
  simp only [rowRms_apply, ffnRow_apply, projRow_apply, wideRms_apply, gateProd_apply, wideNorm_apply]
  rfl

end Cert.LayerEndIdeal.Row

end
-- ==== Proof.SsdClaim.lean ====
/- The second post kernel and the plain end of the second layer end with the same array. -/
module

public import proofs.«01_k».proof.Proof.SsdRef
public import proofs.«01_k».proof.Defs
public import Idealize.ShloMosaic.Lib.Claim

@[expose] public section

set_option maxRecDepth 16384

noncomputable section

namespace Cert.PostSsdIdeal.Row

open Idealize.ShloMosaic Idealize.ShloMosaic.TcCoe Idealize.SL.Sem
open Cert.PostSsdIdeal Cert.PostSsdIdeal.Gen

set_option maxHeartbeats 40000000 in
theorem algebraic : Cert.algebraic_PostSsdIdeal_LayerEndIdeal := by
  pair_intro
  · run_from run_main m g
  · hlo_run
    rw [final m c]
    refine Eq.trans (b := Cert.LayerEndIdeal.Row.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) ?_ ?_
    · rfl
    · funext y
      idx_vars y
      exact Cert.LayerEndIdeal.Row.whole_apply y0 y1 _ _ _ _ _ _ _ _ _ _ _ y2

end Cert.PostSsdIdeal.Row

end
-- ==== Proof.MlaPoint.lean ====
/- The first block's kernel payloads read at an index, as the row-wise mathematics. -/
module

public import proofs.«01_k».proof.Proof.RowMath
public import proofs.«01_k».proof.Proof.Gen.PostMlaIdeal.Frame
public import Idealize.ShloMosaic.Lib.Pipeline.ValueKit

@[expose] public section

set_option maxRecDepth 16384

noncomputable section

namespace Cert.PostMlaIdeal.Row

open Idealize.ShloMosaic Idealize.ShloMosaic.TcCoe Idealize.SL.Sem
open Cert.PostMlaIdeal Cert.PostMlaIdeal.Gen Cert.RowMath

theorem out_apply (x : FVec Ideal S256x1024 .f32) (a : FVec Ideal S256x2816 .bf16) (g : Vec Ideal S1x1x1024 .f32) (w : Vec Ideal S1x2816x1024 .bf16)
    (r : Fin 256) (c : Fin 1024) :
    k0_pay1 (F := Ideal) x a g w (ix3 0 r c) = gated (fun c => g (ix3 0 0 c)) (fun k c => w (ix3 0 k c)) (fun c => x (ix2 r c)) (fun k => a (ix2 r k)) c := by
  unfold gated
  pointwise [k0_pay1]

theorem out_apply' (x : FVec Ideal S256x1024 .f32) (a : FVec Ideal S256x2816 .bf16) (g : Vec Ideal S1x1x1024 .f32) (w : Vec Ideal S1x2816x1024 .bf16)
    (r : Fin 256) (c : Fin 1024) :
    k0_pay2 (F := Ideal) x a g w (ix3 0 r c) = gated (fun c => g (ix3 0 0 c)) (fun k c => w (ix3 0 k c)) (fun c => x (ix2 r c)) (fun k => a (ix2 r k)) c := by
  unfold gated
  pointwise [k0_pay2]

theorem proj_apply (a : Vec Ideal S1x256x1024 .bf16) (x : Vec Ideal S1x256x1024 .f32) (g : Vec Ideal S1x1x1024 .f32) (w : Vec Ideal S1024x1024 .bf16)
    (r : Fin 256) (c : Fin 1024) :
    k0_pay3 (F := Ideal) a x g w (ix2 r c) = gated (fun c => g (ix3 0 0 c)) (fun k c => w (ix2 k c)) (fun c => x (ix3 0 r c)) (fun k => a (ix3 0 r k)) c := by
  unfold gated
  pointwise [k0_pay3]

theorem proj_apply' (a : Vec Ideal S1x256x1024 .bf16) (x : Vec Ideal S1x256x1024 .f32) (g : Vec Ideal S1x1x1024 .f32) (w : Vec Ideal S1024x1024 .bf16)
    (r : Fin 256) (c : Fin 1024) :
    k0_pay4 (F := Ideal) a x g w (ix2 r c) = gated (fun c => g (ix3 0 0 c)) (fun k c => w (ix2 k c)) (fun c => x (ix3 0 r c)) (fun k => a (ix3 0 r k)) c := by
  unfold gated
  pointwise [k0_pay4]

theorem sq_apply (a : Vec Ideal S1x256x1024 .bf16) (x : Vec Ideal S1x256x1024 .f32) (g : Vec Ideal S1x1x1024 .f32) (w : Vec Ideal S1024x1024 .bf16)
    (r : Fin 256) : k0_pay6 (F := Ideal) a x g w (ix2 r 0) = ∑ i : Fin 1024, k0_pay3 (F := Ideal) a x g w (ix2 r i) * k0_pay3 (F := Ideal) a x g w (ix2 r i) := by
  unfold k0_pay6
  generalize k0_pay3 (F := Ideal) a x g w = y
  pointwise

theorem mod_apply (x : FVec Ideal S256x1024 .f32) (w : Vec Ideal S1x1024 .f32) (q : FVec Ideal S256x1 .f32) (s b : Vec Ideal S1x1x1024 .f32) (r : Fin 256)
    (hq : q (ix2 r 0) = ∑ i : Fin 1024, x (ix2 r i) * x (ix2 r i)) (c : Fin 1024) :
    k0_pay8 (F := Ideal) x (k0_pay5 (F := Ideal) w) q (k0_pay7 (F := Ideal)) s b (ix2 r c)
      = modulate (fun c => w (ix2 0 c)) (fun c => s (ix3 0 0 c)) (fun c => b (ix3 0 0 c)) (fun c => x (ix2 r c)) c := by
  unfold modulate rms
  rw [← hq]
  pointwise [k0_pay8, k0_pay5, k0_pay7]

theorem mod_apply' (x : FVec Ideal S256x1024 .f32) (w : Vec Ideal S1x1024 .f32) (s b : Vec Ideal S1x1x1024 .f32) (r : Fin 256) (c : Fin 1024) :
    k0_pay9 (F := Ideal) x w s (ix2 r c) + b (ix3 0 0 c)
      = modulate (fun c => w (ix2 0 c)) (fun c => s (ix3 0 0 c)) (fun c => b (ix3 0 0 c)) (fun c => x (ix2 r c)) c := by
  unfold modulate rms
  pointwise [k0_pay9]

theorem hidden_apply (h : FVec Ideal S256x1024 .bf16) (w1 w3 : Vec Ideal S1x1024x2816 .bf16) (r : Fin 256) (k : Fin 2816) :
    k0_pay10 (F := Ideal) h w1 w3 (ix2 r k) = hid (fun d k => w1 (ix3 0 d k)) (fun d k => w3 (ix3 0 d k)) (fun d => h (ix2 r d)) k := by
  unfold hid silu
  pointwise [k0_pay10]

theorem hidden_apply' (h : FVec Ideal S256x1024 .f32) (b : Vec Ideal S1x1x1024 .f32) (w1 w3 : Vec Ideal S1x1024x2816 .bf16) (r : Fin 256) (k : Fin 2816) :
    k0_pay11 (F := Ideal) h b w1 w3 (ix2 r k)
      = hid (fun d k => w1 (ix3 0 d k)) (fun d k => w3 (ix3 0 d k)) (fun d => h (ix2 r d) + b (ix3 0 0 d)) k := by
  unfold hid silu
  pointwise [k0_pay11]

end Cert.PostMlaIdeal.Row

end
-- ==== Proof.MlaBlock.lean ====
/- One block of the first post kernel's result: every row is the row-wise mathematics of its input rows. -/
module

public import proofs.«01_k».proof.Proof.MlaPoint

@[expose] public section

set_option maxRecDepth 16384

noncomputable section

namespace Cert.PostMlaIdeal.Row

open Idealize.ShloMosaic Idealize.ShloMosaic.TcCoe Idealize.SL.Sem
open Cert.PostMlaIdeal Cert.PostMlaIdeal.Gen Cert.RowMath

variable (x0 : Vec Ideal S1x512x1024 .f32) (x1 : Vec Ideal S1x512x1024 .bf16) (x2 : Vec Ideal S1x6x1024 .f32) (x3 : Vec Ideal S1024x1024 .bf16)
  (x4 : Vec Ideal S1x1024 .f32) (x5 x6 : Vec Ideal S1x1024x2816 .bf16) (x7 : Vec Ideal S1x2816x1024 .bf16)

theorem ld2 (c : Fin 1024) : View.ld x2 r0_2 (ix3 0 0 c) = x2 (ix3 0 2 c) := by pointwise
theorem ld3 (k c : Fin 1024) : View.ld x3 r0_3 (ix2 k c) = x3 (ix2 k c) := by pointwise
theorem ld4 (c : Fin 1024) : View.ld x4 r0_4 (ix2 0 c) = x4 (ix2 0 c) := by pointwise
theorem ld5 (c : Fin 1024) : View.ld x2 r0_5 (ix3 0 0 c) = x2 (ix3 0 4 c) := by pointwise
theorem ld6 (c : Fin 1024) : View.ld x2 r0_6 (ix3 0 0 c) = x2 (ix3 0 3 c) := by pointwise
theorem ld7 (d : Fin 1024) (k : Fin 2816) : View.ld x5 r0_7 (ix3 0 d k) = x5 (ix3 0 d k) := by pointwise
theorem ld8 (c : Fin 1024) : View.ld x2 r0_8 (ix3 0 0 c) = x2 (ix3 0 5 c) := by pointwise
theorem ld9 (k : Fin 2816) (c : Fin 1024) : View.ld x7 r0_9 (ix3 0 k c) = x7 (ix3 0 k c) := by pointwise
theorem ldx (s : Fin 512) (r : Fin 256) (h : s.val = r.val) (c : Fin 1024) : View.ld x0 r0_0 (ix3 0 r c) = x0 (ix3 0 s c) := by rw [show s = ⟨r.val, by omega⟩ from Fin.ext h]; pointwise
theorem lda (s : Fin 512) (r : Fin 256) (h : s.val = r.val) (c : Fin 1024) : View.ld x1 r0_0 (ix3 0 r c) = x1 (ix3 0 s c) := by rw [show s = ⟨r.val, by omega⟩ from Fin.ext h]; pointwise
theorem ldx' (s : Fin 512) (r : Fin 256) (h : s.val = 256 + r.val) (c : Fin 1024) : View.ld x0 r0_1 (ix3 0 r c) = x0 (ix3 0 s c) := by rw [show s = ⟨256 + r.val, by omega⟩ from Fin.ext h]; pointwise
theorem lda' (s : Fin 512) (r : Fin 256) (h : s.val = 256 + r.val) (c : Fin 1024) : View.ld x1 r0_1 (ix3 0 r c) = x1 (ix3 0 s c) := by rw [show s = ⟨256 + r.val, by omega⟩ from Fin.ext h]; pointwise

/-- Row `s` of the block's result. -/
def row (s : Fin 512) : Fin 1024 → EReal :=
  mid (fun c => x4 (ix2 0 c)) (fun i c => x2 (ix3 0 i c)) (fun k c => x3 (ix2 k c)) (fun d k => x5 (ix3 0 d k)) (fun d k => x6 (ix3 0 d k))
    (fun k c => x7 (ix3 0 k c)) (fun c => x0 (ix3 0 s c)) (fun c => x1 (ix3 0 s c))

theorem low (s : Fin 512) (r : Fin 256) (h : s.val = r.val) (c : Fin 1024) :
    k0_pay1 (F := Ideal) (k0_pay12 (F := Ideal) x0 x1 x2 x3 x4 x5 x6 x7) (k0_pay10 (F := Ideal) (k0_pay8 (F := Ideal) (k0_pay12 (F := Ideal) x0 x1 x2 x3 x4 x5 x6 x7) (k0_pay5 (F := Ideal) (View.ld x4 r0_4)) (k0_pay6 (F := Ideal) (View.ld x1 r0_0) (View.ld x0 r0_0) (View.ld x2 r0_2) (View.ld x3 r0_3)) (k0_pay7 (F := Ideal)) (View.ld x2 r0_5) (View.ld x2 r0_6)) (View.ld x5 r0_7) (View.ld x6 r0_7)) (View.ld x2 r0_8) (View.ld x7 r0_9) (ix3 0 r c)
      = row x0 x1 x2 x3 x4 x5 x6 x7 s c := by
  have e : ∀ i, k0_pay12 (F := Ideal) x0 x1 x2 x3 x4 x5 x6 x7 (ix2 r i)
      = gated (fun c => x2 (ix3 0 2 c)) (fun k c => x3 (ix2 k c)) (fun c => x0 (ix3 0 s c)) (fun c => x1 (ix3 0 s c)) i := fun i => by
    unfold k0_pay12
    rw [proj_apply]
    simp only [ld2 x2, ld3 x3, ldx x0 s r h, lda x1 s r h]
  have hq : k0_pay6 (F := Ideal) (View.ld x1 r0_0) (View.ld x0 r0_0) (View.ld x2 r0_2) (View.ld x3 r0_3) (ix2 r 0)
      = ∑ i : Fin 1024, k0_pay12 (F := Ideal) x0 x1 x2 x3 x4 x5 x6 x7 (ix2 r i) * k0_pay12 (F := Ideal) x0 x1 x2 x3 x4 x5 x6 x7 (ix2 r i) := sq_apply _ _ _ _ r
  rw [out_apply]
  simp only [hidden_apply, mod_apply _ _ _ _ _ r hq, e, ld4 x4, ld5 x2, ld6 x2, ld7 x5, ld7 x6, ld8 x2, ld9 x7]
  rfl

theorem high (s : Fin 512) (r : Fin 256) (h : s.val = 256 + r.val) (c : Fin 1024) :
    k0_pay2 (F := Ideal) (k0_pay13 (F := Ideal) x0 x1 x2 x3 x4 x5 x6 x7) (k0_pay11 (F := Ideal) (k0_pay9 (F := Ideal) (k0_pay13 (F := Ideal) x0 x1 x2 x3 x4 x5 x6 x7) (View.ld x4 r0_4) (View.ld x2 r0_5)) (View.ld x2 r0_6) (View.ld x5 r0_7) (View.ld x6 r0_7)) (View.ld x2 r0_8) (View.ld x7 r0_9) (ix3 0 r c)
      = row x0 x1 x2 x3 x4 x5 x6 x7 s c := by
  have e : ∀ i, k0_pay13 (F := Ideal) x0 x1 x2 x3 x4 x5 x6 x7 (ix2 r i)
      = gated (fun c => x2 (ix3 0 2 c)) (fun k c => x3 (ix2 k c)) (fun c => x0 (ix3 0 s c)) (fun c => x1 (ix3 0 s c)) i := fun i => by
    unfold k0_pay13
    rw [proj_apply']
    simp only [ld2 x2, ld3 x3, ldx' x0 s r h, lda' x1 s r h]
  have mod9 : ∀ d, k0_pay9 (F := Ideal) (k0_pay13 (F := Ideal) x0 x1 x2 x3 x4 x5 x6 x7) (View.ld x4 r0_4) (View.ld x2 r0_5) (ix2 r d) + (View.ld x2 r0_6 : Vec Ideal S1x1x1024 .f32) (ix3 0 0 d) = _ :=
    mod_apply' _ _ _ _ r
  rw [out_apply']
  simp only [hidden_apply', mod9]
  simp only [e, ld4 x4, ld5 x2, ld6 x2, ld7 x5, ld7 x6, ld8 x2, ld9 x7]
  rfl

theorem block_apply (s : Fin 512) (c : Fin 1024) :
    out0_8 (F := Ideal) x0 x1 x2 x3 x4 x5 x6 x7 (ix3 0 s c) = row x0 x1 x2 x3 x4 x5 x6 x7 s c := by
  unfold out0_8
  canon_tiles u h
  all_goals idx_vars u
  all_goals rw [show u0 = 0 from Subsingleton.elim _ _, show c = u2 from Fin.ext (by simpa using h2)]
  · exact high x0 x1 x2 x3 x4 x5 x6 x7 s u1 (by simpa using h1) u2
  · exact low x0 x1 x2 x3 x4 x5 x6 x7 s u1 (by simpa using h1) u2

end Cert.PostMlaIdeal.Row

end
-- ==== Proof.MlaOut.lean ====
/- The first post kernel's result array, row by row. -/
module

public import proofs.«01_k».proof.Proof.MlaBlock
public import proofs.«01_k».proof.Proof.Gen.PostMlaIdeal.Value
public import Idealize.ShloMosaic.Lib.Claim

@[expose] public section

set_option maxRecDepth 16384

noncomputable section

namespace Cert.PostMlaIdeal.Row

open Idealize.ShloMosaic Idealize.ShloMosaic.TcCoe Idealize.SL.Sem
open Cert.PostMlaIdeal Cert.PostMlaIdeal.Gen Cert.RowMath

/-- Row `t` of batch `b` of the layer's end, from the arguments. -/
def layer (X : FVec Ideal S4x4096x1024 .f32) (A : FVec Ideal S4x4096x1024 .bf16) (M : FVec Ideal S4x6x1024 .f32) (WO : FVec Ideal S1x1024x1024 .f32)
    (NF : FVec Ideal S2x1024 .f32) (W1 W3 : FVec Ideal S2x1024x2816 .f32) (W2 : FVec Ideal S2x2816x1024 .f32) (b : Fin 4) (t : Fin 4096) : Fin 1024 → EReal :=
  mid (fun c => NF (ix2 0 c)) (fun i c => M (ix3 b i c)) (fun k c => WO (ix3 0 k c)) (fun d k => W1 (ix3 0 d k)) (fun d k => W3 (ix3 0 d k))
    (fun k c => W2 (ix3 0 k c)) (fun c => X (ix3 b t c)) (fun c => A (ix3 b t c))

variable (m : (ℓ : Loc nD τ sig) → Buf (Elt Ideal) ℓ)

theorem idx0 : ∀ t : Fin grid0.N, win0_0.index t = ![t.val / 8, t.val % 8, 0] := by decide +kernel
theorem idx1 : ∀ t : Fin grid0.N, win0_1.index t = ![t.val / 8, t.val % 8, 0] := by decide +kernel
theorem idx2 : ∀ t : Fin grid0.N, win0_2.index t = ![t.val / 8, 0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0, 0] := by decide +kernel
theorem idx6 : ∀ t : Fin grid0.N, win0_6.index t = ![0, 0, 0] := by decide +kernel
theorem idx7 : ∀ t : Fin grid0.N, win0_7.index t = ![0, 0, 0] := by decide +kernel
theorem idx8 : ∀ t : Fin grid0.N, win0_8.index t = ![t.val / 8, t.val % 8, 0] := by decide +kernel

section Blocks

variable (c : Dev nD) (t : Fin cfg0.N) (b : Fin 4) (s : Fin 512) (u : Fin 4096) (hb : b.val = t.val / 8) (hu : u.val = 512 * (t.val % 8) + s.val)

include hb hu in
theorem blk0 (k : Fin 1024) : iblk m c 0 t (ix3 0 s k) = m ((c : Thread nD τ).loc main_arg0) (ix3 b u k) := by
  have hb' := hb; have hu' := hu
  blk_ext [iblk, V, idx0 t]

include hb hu in
theorem blk1 (k : Fin 1024) : iblk m c 1 t (ix3 0 s k) = m ((c : Thread nD τ).loc main_arg1) (ix3 b u k) := by
  have hb' := hb; have hu' := hu
  blk_ext [iblk, V, idx1 t]

include hb in
theorem blk2 (i : Fin 6) (k : Fin 1024) : iblk m c 2 t (ix3 0 i k) = m ((c : Thread nD τ).loc main_arg2) (ix3 b i k) := by
  have hb' := hb
  blk_ext [iblk, V, idx2 t]

theorem blk3 (i k : Fin 1024) : iblk m c 3 t (ix2 i k) = m ((c : Thread nD τ).loc main_arg3) (ix3 0 i k) := by
  have e : iblk m c 3 t (ix2 i k) = V m c main_v6 (ix2 i k) := by blk_ext [iblk, idx3 t]
  rw [e]
  entry_read
  pointwise

theorem blk4 (k : Fin 1024) : iblk m c 4 t (ix2 0 k) = m ((c : Thread nD τ).loc main_arg4) (ix2 0 k) := by
  have e : iblk m c 4 t (ix2 0 k) = V m c main_v7 (ix2 0 k) := by blk_ext [iblk, idx4 t]
  rw [e]
  entry_read
  pointwise

theorem blk5 (d : Fin 1024) (k : Fin 2816) : iblk m c 5 t (ix3 0 d k) = m ((c : Thread nD τ).loc main_arg5) (ix3 0 d k) := by
  have e : iblk m c 5 t (ix3 0 d k) = V m c main_v0 (ix3 0 d k) := by blk_ext [iblk, idx5 t]
  rw [e]
  entry_read
  pointwise

theorem blk6 (d : Fin 1024) (k : Fin 2816) : iblk m c 6 t (ix3 0 d k) = m ((c : Thread nD τ).loc main_arg6) (ix3 0 d k) := by
  have e : iblk m c 6 t (ix3 0 d k) = V m c main_v1 (ix3 0 d k) := by blk_ext [iblk, idx6 t]
  rw [e]
  entry_read
  pointwise

theorem blk7 (k : Fin 2816) (d : Fin 1024) : iblk m c 7 t (ix3 0 k d) = m ((c : Thread nD τ).loc main_arg7) (ix3 0 k d) := by
  have e : iblk m c 7 t (ix3 0 k d) = V m c main_v2 (ix3 0 k d) := by blk_ext [iblk, idx7 t]
  rw [e]
  entry_read
  pointwise

include hb hu in
theorem point (k : Fin 1024) :
    out0_8 (F := Ideal) (iblk m c 0 t) (iblk m c 1 t) (iblk m c 2 t) (iblk m c 3 t) (iblk m c 4 t) (iblk m c 5 t) (iblk m c 6 t) (iblk m c 7 t) (ix3 0 s k)
      = layer (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) b u k := by
  rw [block_apply]
  unfold row layer
  simp only [blk0 m c t b s u hb hu, blk1 m c t b s u hb hu, blk2 m c t b hb, blk3 m c t, blk4 m c t, blk5 m c t, blk6 m c t, blk7 m c t]

end Blocks

theorem final (c : Dev nD) : (dats m 0 c).arrAt 8 (cfgs 0).N
    = fun y : S4x4096x1024.Idx => layer (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) (y 0) (y 1) (y 2) := by
  refine (dats m 0 c).arrAt_eq_of_covers 8 _ (by decide +kernel) fun t _ y => ?_
  blk_simp
  rw [after0_8]
  idx_vars y
  rw [show y0 = 0 from Subsingleton.elim _ _]
  have ht : t.val < 32 := lt_of_lt_of_eq t.isLt (by decide +kernel)
  have e : ((View.whole main_v8).slice (win0_8.rect t)).emb (ix3 0 y1 y2)
      = (ix3 (⟨t.val / 8, by omega⟩ : Fin 4) (⟨512 * (t.val % 8) + y1.val, by omega⟩ : Fin 4096) y2 : S4x4096x1024.Idx) := by
    blk_ext [idx8 t]
  rw [e]
  exact point m c t _ y1 _ rfl rfl y2

end Cert.PostMlaIdeal.Row

end
-- ==== Proof.MlaClaim.lean ====
/- The first post kernel and the plain end of the first layer end with the same array. -/
module

public import proofs.«01_k».proof.Proof.MlaOut
public import proofs.«01_k».proof.Proof.Gen.LayerMidIdeal
public import proofs.«01_k».proof.Proof.Gen.LayerMidIdeal.Run
public import proofs.«01_k».proof.Proof.Gen.LayerMidIdeal.Read
public import proofs.«01_k».proof.Defs
public import Idealize.ShloMosaic.Lib.Pointwise
public import Idealize.ShloMosaic.Lib.Claim

@[expose] public section

set_option maxRecDepth 16384

noncomputable section

namespace Cert.LayerMidIdeal.Row

open Idealize.ShloMosaic Idealize.ShloMosaic.TcCoe Idealize.SL.Sem
open Cert.LayerMidIdeal Cert.LayerMidIdeal.Gen Cert.LayerMidIdeal.Read Cert.RowMath

variable (X : FVec Ideal S4x4096x1024 .f32) (A : FVec Ideal S4x4096x1024 .bf16) (M : FVec Ideal S4x6x1024 .f32) (WO : FVec Ideal S1x1024x1024 .f32)
    (NF : FVec Ideal S2x1024 .f32) (W1 W3 : FVec Ideal S2x1024x2816 .f32) (W2 : FVec Ideal S2x2816x1024 .f32) (b : Fin 4) (t : Fin 4096)

theorem proj_apply (c : Fin 1024) : val_main_v11 (F := Ideal) X A M WO (ix3 b t c)
    = gated (fun c => M (ix3 b 2 c)) (fun k c => WO (ix3 0 k c)) (fun c => X (ix3 b t c)) (fun c => A (ix3 b t c)) c := by
  unfold gated
  pointwise [val_main_v11, val_main_v10, val_main_v9, val_main_v8, val_main_v7, val_main_v6, val_main_v2]

theorem mod_apply (c : Fin 1024) : val_main_v32 (F := Ideal) X A M WO NF (ix3 b t c)
    = modulate (fun c => NF (ix2 0 c)) (fun c => M (ix3 b 4 c)) (fun c => M (ix3 b 3 c)) (fun c => val_main_v11 (F := Ideal) X A M WO (ix3 b t c)) c := by
  unfold modulate rms
  pointwise [val_main_v32, val_main_v31, val_main_v30, val_main_v29, val_main_v28, val_main_v27, val_main_cst_2, val_main_v26, val_main_v25, val_main_v24,
    val_main_v23, val_main_v22, val_main_v21, val_main_v20, val_main_v19, val_main_cst_1, val_main_v18, val_main_v17, val_main_cst_0, val_main_v16,
    val_main_v15, val_main_cst, val_main_v14, val_main_v13, val_main_v12, val_main_v4, val_main_v3]

theorem hid_apply (k : Fin 2816) : val_main_v42 (F := Ideal) X A M WO NF W1 W3 (ix3 b t k)
    = hid (fun d k => W1 (ix3 0 d k)) (fun d k => W3 (ix3 0 d k)) (fun c => val_main_v32 (F := Ideal) X A M WO NF (ix3 b t c)) k := by
  unfold hid silu
  simp only [zero_sub]
  pointwise [val_main_v42, val_main_v41, val_main_v40, val_main_v39, val_main_v36, val_main_v35, val_main_v34, val_main_v33, val_main_call0_v0,
    val_main_call0_v1, val_main_call0_cst, val_main_call0_v2, val_main_call0_v3, val_main_call0_cst_0, val_main_call0_v4, val_main_call0_v5]

theorem out_apply (c : Fin 1024) : val_main_v46 (F := Ideal) X A M WO NF W1 W3 W2 (ix3 b t c)
    = gated (fun c => M (ix3 b 5 c)) (fun k c => W2 (ix3 0 k c)) (fun c => val_main_v11 (F := Ideal) X A M WO (ix3 b t c))
        (fun k => val_main_v42 (F := Ideal) X A M WO NF W1 W3 (ix3 b t k)) c := by
  unfold gated
  pointwise [val_main_v46, val_main_v45, val_main_v44, val_main_v43, val_main_v38, val_main_v37, val_main_v5]

theorem layer_eq (c : Fin 1024) : val_main_v46 (F := Ideal) X A M WO NF W1 W3 W2 (ix3 b t c) = Cert.PostMlaIdeal.Row.layer X A M WO NF W1 W3 W2 b t c := by
  rw [out_apply]
  simp only [hid_apply, mod_apply, proj_apply]
  rfl

end Cert.LayerMidIdeal.Row

namespace Cert.PostMlaIdeal.Row

open Idealize.ShloMosaic Idealize.ShloMosaic.TcCoe Idealize.SL.Sem
open Cert.PostMlaIdeal Cert.PostMlaIdeal.Gen

theorem algebraic : Cert.algebraic_PostMlaIdeal_LayerMidIdeal := by
  pair_intro
  · run_from run_main m g
  · run_from Cert.LayerMidIdeal.Value.run m' g'
    refine (Cert.LayerMidIdeal.Read.val_main_v46_eq m' c).trans ?_
    rw [final m c]
    obtain ⟨a0, a1, a2, a3, a4, a5, a6, a7⟩ := hagree c
    rw [a0, a1, a2, a3, a4, a5, a6, a7]
    funext y
    idx_vars y
    exact Cert.LayerMidIdeal.Row.layer_eq _ _ _ _ _ _ _ _ y0 y1 y2

end Cert.PostMlaIdeal.Row

end
-- ==== Proof.InBlock.lean ====
/- One block of the input projection: every row of the two results is its modulated row times a matrix. -/
module

public import proofs.«01_k».proof.Proof.RowMath
public import proofs.«01_k».proof.Proof.Gen.SsdInIdeal.Frame
public import Idealize.ShloMosaic.Lib.Pipeline.ValueKit

@[expose] public section

set_option maxRecDepth 16384

noncomputable section

namespace Cert.SsdInIdeal.Row

open Idealize.ShloMosaic Idealize.ShloMosaic.TcCoe Idealize.SL.Sem
open Cert.SsdInIdeal Cert.SsdInIdeal.Gen Cert.RowMath

/-- A row times a column. -/
def proj (w : Fin 1024 → EReal) (h : Fin 1024 → EReal) : EReal := ∑ d, h d * w d

section Payloads

variable (x : Vec Ideal S1x256x1024 .f32) (w : Vec Ideal S1x1024 .f32) (s b : Vec Ideal S1x1x1024 .f32)

theorem low_mod (r : Fin 256) (c : Fin 1024) : k0_pay1 (F := Ideal) x w s b (ix2 r c)
    = modulate (fun c => w (ix2 0 c)) (fun c => s (ix3 0 0 c)) (fun c => b (ix3 0 0 c)) (fun c => x (ix3 0 r c)) c := by
  unfold modulate rms
  pointwise [k0_pay1]

theorem high_mod (r : Fin 256) (c : Fin 1024) :
    k0_pay5 (F := Ideal) (k0_pay2 (F := Ideal) x) (k0_pay3 (F := Ideal) w) (k0_pay4 (F := Ideal) x) (Scalar.ofBits .f32 0x358637BD#32) s b (ix2 r c)
      = modulate (fun c => w (ix2 0 c)) (fun c => s (ix3 0 0 c)) (fun c => b (ix3 0 0 c)) (fun c => x (ix3 0 r c)) c := by
  unfold modulate rms
  pointwise [k0_pay5, k0_pay2, k0_pay3, k0_pay4]

theorem low_z (h : FVec Ideal S256x1024 .f32) (v : Vec Ideal S1024x2048 .bf16) (r : Fin 256) (k : Fin 2048) :
    k0_pay8 (F := Ideal) h v (ix3 0 r k) = proj (fun d => v (ix2 d k)) (fun d => h (ix2 r d)) := by
  unfold proj
  pointwise [k0_pay8, k0_pay6]

theorem high_z (h : FVec Ideal S256x1024 .f32) (g : FVec Ideal S1x1024 .f32) (q : FVec Ideal S256x1 .f32) (e : Ideal .f32)
    (v : Vec Ideal S1024x2048 .bf16) (r : Fin 256) (k : Fin 2048) :
    k0_pay9 (F := Ideal) h g q e s b v (ix3 0 r k) = proj (fun d => v (ix2 d k)) (fun d => k0_pay5 (F := Ideal) h g q e s b (ix2 r d)) := by
  unfold proj k0_pay9 k0_pay7
  generalize k0_pay5 (F := Ideal) h g q e s b = y
  pointwise

theorem low_u (h : FVec Ideal S256x1024 .f32) (v : Vec Ideal S1024x3072 .bf16) (r : Fin 256) (k : Fin 3072) :
    k0_pay11 (F := Ideal) (k0_pay10 (F := Ideal) h v) (ix3 0 r k) = proj (fun d => v (ix2 d k)) (fun d => h (ix2 r d)) := by
  unfold proj
  pointwise [k0_pay11, k0_pay10, k0_pay6]

theorem high_u (h : FVec Ideal S256x1024 .bf16) (v : Vec Ideal S1024x3072 .bf16) (r : Fin 256) (k : Fin 3072) :
    k0_pay12 (F := Ideal) h v (ix3 0 r k) = proj (fun d => v (ix2 d k)) (fun d => h (ix2 r d)) := by
  unfold proj
  pointwise [k0_pay12]

end Payloads

variable (x0 : Vec Ideal S1x512x1024 .f32) (x1 : Vec Ideal S1x6x1024 .f32) (x2 : Vec Ideal S1x1024 .f32) (x3 : Vec Ideal S1024x2048 .bf16)
  (x4 : Vec Ideal S1024x3072 .bf16) (x5 x6 : Vec Ideal S1024x128 .bf16) (x7 : Vec Ideal S1x128 .f32)

theorem ld1 (c : Fin 1024) : View.ld x2 r0_1 (ix2 0 c) = x2 (ix2 0 c) := by pointwise
theorem ld2 (c : Fin 1024) : View.ld x1 r0_2 (ix3 0 0 c) = x1 (ix3 0 1 c) := by pointwise
theorem ld3 (c : Fin 1024) : View.ld x1 r0_3 (ix3 0 0 c) = x1 (ix3 0 0 c) := by pointwise
theorem ld5 (d : Fin 1024) (k : Fin 2048) : View.ld x3 r0_5 (ix2 d k) = x3 (ix2 d k) := by pointwise
theorem ld8 (d : Fin 1024) (k : Fin 3072) : View.ld x4 r0_8 (ix2 d k) = x4 (ix2 d k) := by pointwise
theorem ldx (s : Fin 512) (r : Fin 256) (h : s.val = r.val) (c : Fin 1024) : View.ld x0 r0_0 (ix3 0 r c) = x0 (ix3 0 s c) := by rw [show s = ⟨r.val, by omega⟩ from Fin.ext h]; pointwise
theorem ldx' (s : Fin 512) (r : Fin 256) (h : s.val = 256 + r.val) (c : Fin 1024) : View.ld x0 r0_4 (ix3 0 r c) = x0 (ix3 0 s c) := by rw [show s = ⟨256 + r.val, by omega⟩ from Fin.ext h]; pointwise

/-- The modulated row `s` of the block. -/
def hrow (s : Fin 512) : Fin 1024 → EReal :=
  modulate (fun c => x2 (ix2 0 c)) (fun c => x1 (ix3 0 1 c)) (fun c => x1 (ix3 0 0 c)) (fun c => x0 (ix3 0 s c))

theorem low (s : Fin 512) (r : Fin 256) (h : s.val = r.val) (d : Fin 1024) :
    k0_pay18 (F := Ideal) x0 x1 x2 x3 x4 x5 x6 x7 (ix2 r d) = hrow x0 x1 x2 s d := by
  unfold k0_pay18 hrow
  rw [low_mod]
  simp only [ld1 x2, ld2 x1, ld3 x1, ldx x0 s r h]

theorem high (s : Fin 512) (r : Fin 256) (h : s.val = 256 + r.val) (d : Fin 1024) :
    k0_pay5 (F := Ideal) (k0_pay19 (F := Ideal) x0 x1 x2 x3 x4 x5 x6 x7) (k0_pay20 (F := Ideal) x0 x1 x2 x3 x4 x5 x6 x7)
      (k0_pay21 (F := Ideal) x0 x1 x2 x3 x4 x5 x6 x7) (Scalar.ofBits .f32 0x358637BD#32) (View.ld x1 r0_2) (View.ld x1 r0_3) (ix2 r d)
      = hrow x0 x1 x2 s d := by
  unfold k0_pay19 k0_pay20 k0_pay21 hrow
  rw [high_mod]
  simp only [ld1 x2, ld2 x1, ld3 x1, ldx' x0 s r h]

theorem block_z (s : Fin 512) (k : Fin 2048) :
    out0_8 (F := Ideal) x0 x1 x2 x3 x4 x5 x6 x7 (ix3 0 s k) = proj (fun d => x3 (ix2 d k)) (hrow x0 x1 x2 s) := by
  unfold out0_8
  canon_tiles u h
  all_goals idx_vars u
  all_goals rw [show u0 = 0 from Subsingleton.elim _ _, show k = u2 from Fin.ext (by simpa using h2)]
  · rw [high_z]
    simp only [high x0 x1 x2 x3 x4 x5 x6 x7 s u1 (by simpa using h1), ld5 x3]
  · rw [low_z]
    simp only [low x0 x1 x2 x3 x4 x5 x6 x7 s u1 (by simpa using h1), ld5 x3]

theorem block_u (s : Fin 512) (k : Fin 3072) :
    out0_9 (F := Ideal) x0 x1 x2 x3 x4 x5 x6 x7 (ix3 0 s k) = proj (fun d => x4 (ix2 d k)) (hrow x0 x1 x2 s) := by
  unfold out0_9
  canon_tiles u h
  all_goals idx_vars u
  all_goals rw [show u0 = 0 from Subsingleton.elim _ _, show k = u2 from Fin.ext (by simpa using h2)]
  · rw [high_u]
    have e : ∀ d, k0_pay23 (F := Ideal) x0 x1 x2 x3 x4 x5 x6 x7 (ix2 u1 d) = hrow x0 x1 x2 s d := fun d =>
      high x0 x1 x2 x3 x4 x5 x6 x7 s u1 (by simpa using h1) d
    simp only [e, ld8 x4]
  · rw [low_u]
    simp only [low x0 x1 x2 x3 x4 x5 x6 x7 s u1 (by simpa using h1), ld8 x4]

end Cert.SsdInIdeal.Row

end
-- ==== Proof.InOut.lean ====
/- The input projection's two result arrays, row by row. -/
module

public import proofs.«01_k».proof.Proof.InBlock
public import proofs.«01_k».proof.Proof.Gen.SsdInIdeal.Value
public import Idealize.ShloMosaic.Lib.Claim

@[expose] public section

set_option maxRecDepth 16384

noncomputable section

namespace Cert.SsdInIdeal.Row

open Idealize.ShloMosaic Idealize.ShloMosaic.TcCoe Idealize.SL.Sem
open Cert.SsdInIdeal Cert.SsdInIdeal.Gen Cert.RowMath

/-- Column `k` of the projection of row `t` of batch `b`, from the arguments. -/
def entry (X : FVec Ideal S4x4096x1024 .f32) (M : FVec Ideal S4x6x1024 .f32) (G : FVec Ideal S2x1024 .f32) (W : FVec Ideal S1x1024x5184 .f32)
    (b : Fin 4) (t : Fin 4096) (k : Fin 5184) : EReal :=
  proj (fun d => W (ix3 0 d k)) (modulate (fun c => G (ix2 1 c)) (fun c => M (ix3 b 1 c)) (fun c => M (ix3 b 0 c)) (fun c => X (ix3 b t c)))

/-- The first result's array: columns 0 to 2047. -/
def zArr (X : FVec Ideal S4x4096x1024 .f32) (M : FVec Ideal S4x6x1024 .f32) (G : FVec Ideal S2x1024 .f32) (W : FVec Ideal S1x1024x5184 .f32) :
    S4x4096x2048.Idx → EReal :=
  fun y => entry X M G W (y 0) (y 1) ⟨(y 2).val, lt_trans (y 2).isLt (by decide)⟩

/-- The second result's array: columns 2048 to 5119. -/
def uArr (X : FVec Ideal S4x4096x1024 .f32) (M : FVec Ideal S4x6x1024 .f32) (G : FVec Ideal S2x1024 .f32) (W : FVec Ideal S1x1024x5184 .f32) :
    S4x4096x3072.Idx → EReal :=
  fun y => entry X M G W (y 0) (y 1) ⟨2048 + (y 2).val, lt_of_lt_of_le (Nat.add_lt_add_left (y 2).isLt 2048) (by decide)⟩

variable (m : (ℓ : Loc nD τ sig) → Buf (Elt Ideal) ℓ)

theorem idx0 : ∀ t : Fin grid0.N, win0_0.index t = ![t.val / 8, t.val % 8, 0] := by decide +kernel
theorem idx1 : ∀ t : Fin grid0.N, win0_1.index t = ![t.val / 8, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx8 : ∀ t : Fin grid0.N, win0_8.index t = ![t.val / 8, t.val % 8, 0] := by decide +kernel
theorem idx9 : ∀ t : Fin grid0.N, win0_9.index t = ![t.val / 8, t.val % 8, 0] := by decide +kernel

section Blocks

variable (c : Dev nD) (t : Fin cfg0.N) (b : Fin 4) (s : Fin 512) (u : Fin 4096) (hb : b.val = t.val / 8) (hu : u.val = 512 * (t.val % 8) + s.val)

include hb hu in
theorem blk0 (k : Fin 1024) : iblk m c 0 t (ix3 0 s k) = m ((c : Thread nD τ).loc main_arg0) (ix3 b u k) := by
  have hb' := hb; have hu' := hu
  blk_ext [iblk, V, idx0 t]

include hb in
theorem blk1 (i : Fin 6) (k : Fin 1024) : iblk m c 1 t (ix3 0 i k) = m ((c : Thread nD τ).loc main_arg1) (ix3 b i k) := by
  have hb' := hb
  blk_ext [iblk, V, idx1 t]

theorem blk2 (k : Fin 1024) : iblk m c 2 t (ix2 0 k) = m ((c : Thread nD τ).loc main_arg2) (ix2 1 k) := by
  have e : iblk m c 2 t (ix2 0 k) = V m c main_v12 (ix2 0 k) := by blk_ext [iblk, idx2 t]
  rw [e]
  unfold V
  simp only [hostOps0, hostOps0_1, hostOps0_2, hostOps0_3, hostOps0_4, List.flatten_cons, List.flatten_nil, List.append_nil, List.cons_append, List.nil_append]
  entry_read
  pointwise

theorem blk3 (d : Fin 1024) (k : Fin 2048) (k' : Fin 5184) (hk : k'.val = k.val) : iblk m c 3 t (ix2 d k) = m ((c : Thread nD τ).loc main_arg3) (ix3 0 d k') := by
  have e : iblk m c 3 t (ix2 d k) = V m c main_v14 (ix2 d k) := by blk_ext [iblk, idx3 t]
  rw [e, show k' = ⟨k.val, by omega⟩ from Fin.ext hk]
  unfold V
  simp only [hostOps0, hostOps0_1, hostOps0_2, hostOps0_3, hostOps0_4, List.flatten_cons, List.flatten_nil, List.append_nil, List.cons_append, List.nil_append]
  entry_read
  pointwise

theorem blk4 (d : Fin 1024) (k : Fin 3072) (k' : Fin 5184) (hk : k'.val = 2048 + k.val) : iblk m c 4 t (ix2 d k) = m ((c : Thread nD τ).loc main_arg3) (ix3 0 d k') := by
  have e : iblk m c 4 t (ix2 d k) = V m c main_v16 (ix2 d k) := by blk_ext [iblk, idx4 t]
  rw [e, show k' = ⟨2048 + k.val, by omega⟩ from Fin.ext hk]
  unfold V
  simp only [hostOps0, hostOps0_1, hostOps0_2, hostOps0_3, hostOps0_4, List.flatten_cons, List.flatten_nil, List.append_nil, List.cons_append, List.nil_append]
  entry_read
  pointwise

include hb hu in
theorem point_z (k : Fin 2048) :
    out0_8 (F := Ideal) (iblk m c 0 t) (iblk m c 1 t) (iblk m c 2 t) (iblk m c 3 t) (iblk m c 4 t) (iblk m c 5 t) (iblk m c 6 t) (iblk m c 7 t) (ix3 0 s k)
      = entry (m ((c : Thread nD τ).loc main_arg0)) (m ((c : Thread nD τ).loc main_arg1)) (m ((c : Thread nD τ).loc main_arg2)) (m ((c : Thread nD τ).loc main_arg3))
          b u ⟨k.val, by omega⟩ := by
  rw [block_z]
  unfold hrow entry
  simp only [blk0 m c t b s u hb hu, blk1 m c t b hb, blk2 m c t, blk3 m c t _ k ⟨k.val, by omega⟩ rfl]

include hb hu in
theorem point_u (k : Fin 3072) :
    out0_9 (F := Ideal) (iblk m c 0 t) (iblk m c 1 t) (iblk m c 2 t) (iblk m c 3 t) (iblk m c 4 t) (iblk m c 5 t) (iblk m c 6 t) (iblk m c 7 t) (ix3 0 s k)
      = entry (m ((c : Thread nD τ).loc main_arg0)) (m ((c : Thread nD τ).loc main_arg1)) (m ((c : Thread nD τ).loc main_arg2)) (m ((c : Thread nD τ).loc main_arg3))
          b u ⟨2048 + k.val, by omega⟩ := by
  rw [block_u]
  unfold hrow entry
  simp only [blk0 m c t b s u hb hu, blk1 m c t b hb, blk2 m c t, blk4 m c t _ k ⟨2048 + k.val, by omega⟩ rfl]

end Blocks

theorem final_z (c : Dev nD) : (dats m 0 c).arrAt 8 (cfgs 0).N
    = zArr (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]
  idx_vars y
  rw [show y0 = 0 from Subsingleton.elim _ _]
  have ht : t.val < 32 := lt_of_lt_of_eq t.isLt (by decide +kernel)
  have e : ((View.whole main_v17_0).slice (win0_8.rect t)).emb (ix3 0 y1 y2)
      = (ix3 (⟨t.val / 8, by omega⟩ : Fin 4) (⟨512 * (t.val % 8) + y1.val, by omega⟩ : Fin 4096) y2 : S4x4096x2048.Idx) := by
    blk_ext [idx8 t]
  rw [e]
  exact point_z m c t _ y1 _ rfl rfl y2

theorem final_u (c : Dev nD) : (dats m 0 c).arrAt 9 (cfgs 0).N
    = uArr (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  idx_vars y
  rw [show y0 = 0 from Subsingleton.elim _ _]
  have ht : t.val < 32 := lt_of_lt_of_eq t.isLt (by decide +kernel)
  have e : ((View.whole main_v17_1).slice (win0_9.rect t)).emb (ix3 0 y1 y2)
      = (ix3 (⟨t.val / 8, by omega⟩ : Fin 4) (⟨512 * (t.val % 8) + y1.val, by omega⟩ : Fin 4096) y2 : S4x4096x3072.Idx) := by
    blk_ext [idx9 t]
  rw [e]
  exact point_u m c t _ y1 _ rfl rfl y2

end Cert.SsdInIdeal.Row

end
-- ==== Proof.InClaim.lean ====
/- The input projection and its plain form end with the same two arrays. -/
module

public import proofs.«01_k».proof.Proof.InOut
public import proofs.«01_k».proof.Proof.Gen.SsdIn
public import proofs.«01_k».proof.Proof.Gen.SsdIn.Frame
public import proofs.«01_k».proof.Proof.Gen.SsdProjIdeal
public import proofs.«01_k».proof.Proof.Gen.SsdProjIdeal.Run
public import proofs.«01_k».proof.Proof.Gen.SsdProjIdeal.Read
public import proofs.«01_k».proof.Defs
public import Idealize.ShloMosaic.Lib.Pointwise
public import Idealize.ShloMosaic.Lib.Claim

@[expose] public section

set_option maxRecDepth 16384

noncomputable section

namespace Cert.SsdProjIdeal.Row

open Idealize.ShloMosaic Idealize.ShloMosaic.TcCoe Idealize.SL.Sem
open Cert.SsdProjIdeal Cert.SsdProjIdeal.Gen Cert.SsdProjIdeal.Read Cert.RowMath
open Cert.SsdInIdeal.Row (proj entry)

variable (X : FVec Ideal S4x4096x1024 .f32) (M : FVec Ideal S4x6x1024 .f32) (G : FVec Ideal S2x1024 .f32) (W : FVec Ideal S1x1024x5184 .f32)
  (b : Fin 4) (t : Fin 4096)

theorem mod_apply (c : Fin 1024) : val_main_v26 (F := Ideal) X M G (ix3 b t c)
    = modulate (fun c => G (ix2 1 c)) (fun c => M (ix3 b 1 c)) (fun c => M (ix3 b 0 c)) (fun c => X (ix3 b t c)) c := by
  unfold modulate rms
  pointwise [val_main_v26, val_main_v25, val_main_v24, val_main_v23, val_main_v22, val_main_v21, val_main_cst_2, val_main_v20, val_main_v19,
    val_main_v18, val_main_v17, val_main_v16, val_main_v15, val_main_v14, val_main_v13, val_main_cst_1, val_main_v12, val_main_v11, val_main_cst_0,
    val_main_v10, val_main_v9, val_main_cst, val_main_v8, val_main_v7, val_main_v6, val_main_v1, val_main_v0]

theorem proj_apply (k : Fin 5184) : val_main_v28 (F := Ideal) X M G W (ix3 b t k) = entry X M G W b t k := by
  have e : val_main_v28 (F := Ideal) X M G W (ix3 b t k) = ∑ d : Fin 1024, val_main_v26 (F := Ideal) X M G (ix3 b t d) * W (ix3 0 d k) := by
    unfold val_main_v28
    generalize val_main_v26 (F := Ideal) X M G = y
    pointwise [val_main_v27]
  rw [e]
  simp only [mod_apply]
  rfl

theorem z_apply (k : Fin 2048) : val_main_v32 (F := Ideal) X M G W (ix3 b t k) = entry X M G W b t ⟨k.val, by omega⟩ := by
  rw [← proj_apply]
  unfold val_main_v32 val_main_v29
  generalize val_main_v28 (F := Ideal) X M G W = y
  pointwise

theorem u_apply (k : Fin 3072) : val_main_v33 (F := Ideal) X M G W (ix3 b t k) = entry X M G W b t ⟨2048 + k.val, by omega⟩ := by
  rw [← proj_apply]
  unfold val_main_v33 val_main_v30
  generalize val_main_v28 (F := Ideal) X M G W = y
  pointwise

theorem frame : Cert.quiescent_SsdProjIdeal := by
  intro m g _
  run_from Cert.SsdProjIdeal.Value.run m g
  · exact fun _ => by simp only [and_self]
  · exact sem_eq_zero_of_no_sems (sig := Cert.SsdProjIdeal.sig) (by decide) _

end Cert.SsdProjIdeal.Row

namespace Cert.SsdInIdeal.Row

open Idealize.ShloMosaic Idealize.ShloMosaic.TcCoe Idealize.SL.Sem
open Cert.SsdInIdeal Cert.SsdInIdeal.Gen

theorem frame_bits : Cert.quiescent_SsdIn := fun m g _ => Cert.SsdIn.Gen.frame m g

theorem frame_ideal : Cert.quiescent_SsdInIdeal := fun m g _ => Cert.SsdInIdeal.Gen.frame m g

theorem algebraic : Cert.algebraic_SsdInIdeal_SsdProjIdeal := by
  pair_intro
  · run_from run_main m g
    all_goals first | exact V_main_arg2 m c | exact V_main_arg3 m c | exact V_main_arg4 m c
  · run_from Cert.SsdProjIdeal.Value.run m' g'
    · refine (Cert.SsdProjIdeal.Read.val_main_v32_eq _ _ _ _).trans ?_
      rw [final_z m c]
      funext y
      idx_vars y
      exact Cert.SsdProjIdeal.Row.z_apply _ _ _ _ y0 y1 y2
    · refine (Cert.SsdProjIdeal.Read.val_main_v33_eq _ _ _ _).trans ?_
      rw [final_u m c]
      funext y
      idx_vars y
      exact Cert.SsdProjIdeal.Row.u_apply _ _ _ _ y0 y1 y2

end Cert.SsdInIdeal.Row

end
-- ==== Proof.QkvPoint.lean ====
/- The latent projection's stored pieces, one at a time, as rows of plain mathematics. -/
module

public import proofs.«01_k».proof.Proof.RowMath
public import proofs.«01_k».proof.Proof.Gen.MlaProjIdeal.Frame
public import Idealize.ShloMosaic.Lib.Pipeline.ValueKit

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

/-- A row times a column. -/
def dot {n : ℕ} (h w : Fin n → EReal) : EReal := ∑ d, h d * w d

section Payloads

variable (x : Vec Ideal S1x256x1024 .f32) (w : Vec Ideal S1x1024 .f32) (s b : Vec Ideal S1x1x1024 .f32) (p : FVec Ideal S256x1024 .f32)

theorem low_mod (r : Fin 256) (c : Fin 1024) : k0_pay2 (F := Ideal) x w s b (ix2 r c)
    = modulate (fun c => w (ix2 0 c)) (fun c => s (ix3 0 0 c)) (fun c => b (ix3 0 0 c)) (fun c => x (ix3 0 r c)) c := by
  unfold modulate rms
  pointwise [k0_pay2]

theorem low_p (h : FVec Ideal S256x1024 .bf16) (v : Vec Ideal S1024x1024 .bf16) (r : Fin 256) (c : Fin 1024) :
    k0_pay6 (F := Ideal) h v (ix2 r c) = dot (fun d => h (ix2 r d)) (fun d => v (ix2 d c)) := by
  unfold dot
  pointwise [k0_pay6]

theorem high_p (v : Vec Ideal S1024x1024 .bf16) (r : Fin 256) (c : Fin 1024) :
    k0_pay7 (F := Ideal) (k0_pay3 (F := Ideal) x) (k0_pay4 (F := Ideal) w) (k0_pay5 (F := Ideal) x) s b v (ix2 r c)
      = dot (modulate (fun c => w (ix2 0 c)) (fun c => s (ix3 0 0 c)) (fun c => b (ix3 0 0 c)) (fun c => x (ix3 0 r c))) (fun d => v (ix2 d c)) := by
  unfold dot modulate rms
  pointwise [k0_pay7, k0_pay3, k0_pay4, k0_pay5]

theorem low_cq (h : FVec Ideal S256x1024 .bf16) (v : Vec Ideal S1024x1024 .bf16) (g : Vec Ideal S1x512 .f32) (r : Fin 256) (i : Fin 512) :
    k0_pay8 (F := Ideal) h v g (ix2 r i)
      = rms (Ideal.ofBits .f32 0x44000000#32) (fun i => g (ix2 0 i)) (fun i => k0_pay6 (F := Ideal) h v (ix2 r ⟨i.val, by omega⟩)) i := by
  unfold rms k0_pay8
  generalize k0_pay6 (F := Ideal) h v = y
  pointwise

theorem high_cq (h : FVec Ideal S256x1024 .f32) (g1 : FVec Ideal S1x1024 .f32) (q : FVec Ideal S256x1 .f32) (v : Vec Ideal S1024x1024 .bf16)
    (g : Vec Ideal S1x512 .f32) (r : Fin 256) (i : Fin 512) :
    k0_pay10 (F := Ideal) (k0_pay9 (F := Ideal) h g1 q s b v) g (ix2 r i)
      = rms (Ideal.ofBits .f32 0x44000000#32) (fun i => g (ix2 0 i)) (fun i => k0_pay7 (F := Ideal) h g1 q s b v (ix2 r ⟨i.val, by omega⟩)) i := by
  unfold rms k0_pay9
  generalize k0_pay7 (F := Ideal) h g1 q s b v = y
  pointwise [k0_pay10]

theorem low_ckv (g : Vec Ideal S1x256 .f32) (r : Fin 256) (i : Fin 256) : k0_pay11 (F := Ideal) p g (ix2 r i)
    = rms (Ideal.ofBits .f32 0x43800000#32) (fun i => g (ix2 0 i)) (fun i => p (ix2 r ⟨512 + i.val, by omega⟩)) i := by
  unfold rms
  pointwise [k0_pay11]

theorem high_ckv (g : Vec Ideal S1x256 .f32) (r : Fin 256) (i : Fin 256) :
    k0_pay14 (F := Ideal) (k0_pay12 (F := Ideal) p) (k0_pay13 (F := Ideal) g) (ix2 r i)
      = rms (Ideal.ofBits .f32 0x43800000#32) (fun i => g (ix2 0 i)) (fun i => p (ix2 r ⟨512 + i.val, by omega⟩)) i := by
  unfold rms
  pointwise [k0_pay14, k0_pay12, k0_pay13]

theorem low_qf (a : FVec Ideal S256x512 .bf16) (v : Vec Ideal S512x2048 .bf16) (r : Fin 256) (c : Fin 2048) :
    k0_pay15 (F := Ideal) a v (ix2 r c) = dot (fun i => a (ix2 r i)) (fun i => v (ix2 i c)) := by
  unfold dot
  pointwise [k0_pay15]

theorem high_qf (a : FVec Ideal S256x512 .bf16) (v : Vec Ideal S512x2048 .bf16) (r : Fin 256) (c : Fin 2048) :
    k0_pay57 (F := Ideal) a v (ix2 r c) = dot (fun i => a (ix2 r i)) (fun i => v (ix2 i c)) := by
  unfold dot
  pointwise [k0_pay57]

theorem low_kf (a : FVec Ideal S256x256 .bf16) (v : Vec Ideal S256x2048 .bf16) (r : Fin 256) (c : Fin 2048) :
    k0_pay16 (F := Ideal) a v (ix2 r c) = dot (fun i => a (ix2 r i)) (fun i => v (ix2 i c)) := by
  unfold dot
  pointwise [k0_pay16]

theorem high_kf (a : FVec Ideal S256x256 .bf16) (v : Vec Ideal S256x2048 .bf16) (r : Fin 256) (c : Fin 2048) :
    k0_pay58 (F := Ideal) a v (ix2 r c) = dot (fun i => a (ix2 r i)) (fun i => v (ix2 i c)) := by
  unfold dot
  pointwise [k0_pay58]

theorem low_v (a : FVec Ideal S256x256 .bf16) (v : Vec Ideal S256x1024 .bf16) (r : Fin 256) (c : Fin 1024) :
    k0_pay55 (F := Ideal) a v (ix3 0 r c) = dot (fun i => a (ix2 r i)) (fun i => v (ix2 i c)) := by
  unfold dot
  pointwise [k0_pay55]

theorem high_v (a : FVec Ideal S256x256 .bf16) (v : Vec Ideal S256x1024 .bf16) (r : Fin 256) (c : Fin 1024) :
    k0_pay1 (F := Ideal) a v (ix3 0 r c) = dot (fun i => a (ix2 r i)) (fun i => v (ix2 i c)) := by
  unfold dot
  pointwise [k0_pay1]

theorem low_kr (c1 s1 : Vec Ideal S256x128 .f32) (r : Fin 256) (l : Fin 128) : k0_pay17 (F := Ideal) p c1 s1 (ix2 r l)
    = p (ix2 r ⟨768 + l.val, by omega⟩) * c1 (ix2 r l) + p (ix2 r ⟨896 + l.val, by omega⟩) * s1 (ix2 r l) := by
  pointwise [k0_pay17]

theorem high_kr (c1 s1 : Vec Ideal S256x128 .f32) (r : Fin 256) (l : Fin 128) :
    k0_pay61 (F := Ideal) (k0_pay56 (F := Ideal) p) (k0_pay59 (F := Ideal) p c1) (k0_pay60 (F := Ideal) s1) (ix2 r l)
      = p (ix2 r ⟨768 + l.val, by omega⟩) * c1 (ix2 r l) + p (ix2 r ⟨896 + l.val, by omega⟩) * s1 (ix2 r l) := by
  pointwise [k0_pay61, k0_pay56, k0_pay59, k0_pay60]

theorem low_tq (v : Vec Ideal S256x128 .f32) (r : Fin 256) (l : Fin 128) : k0_pay18 (F := Ideal) v (ix2 r l) = v (ix2 r l) := by
  pointwise [k0_pay18]

theorem high_tq (v : Vec Ideal S256x128 .f32) (r : Fin 256) (l : Fin 128) : k0_pay62 (F := Ideal) v (ix2 r l) = v (ix2 r l) := by
  pointwise [k0_pay62]

end Payloads

section Heads

variable (o : ℕ) (hs : S256x2048.Slices ![0, o] S256x128) (P : FVec Ideal S256x2048 .f32) (T : FVec Ideal S256x128 .f32)
  (r : Fin 256) (l : Fin 128) (c : Fin 2048) (hc : c.val = o + l.val)

include hc in
/-- A head of the queries: its columns of the product of all heads, times the table. -/
theorem head_mul : shapeCast S1x1x256x128 (truncf (F := Ideal) .bf16 (mulf (F := Ideal) (extractStridedSlice S256x128 ![0, o] P hs) T) bitsLt_bf16_f32) shapeCasts_S256x128_S1x1x256x128 (ix4 0 0 r l)
    = P (ix2 r c) * T (ix2 r l) := by
  rw [show c = ⟨o + l.val, by omega⟩ from Fin.ext hc]
  pointwise

include hc in
/-- A head of the keys: its columns of the product of all heads, plus the rotary part. -/
theorem head_add : shapeCast S1x1x256x128 (truncf (F := Ideal) .bf16 (addf (F := Ideal) (extractStridedSlice S256x128 ![0, o] P hs) T) bitsLt_bf16_f32) shapeCasts_S256x128_S1x1x256x128 (ix4 0 0 r l)
    = P (ix2 r c) + T (ix2 r l) := by
  rw [show c = ⟨o + l.val, by omega⟩ from Fin.ext hc]
  pointwise

end Heads

end Cert.MlaProjIdeal.Row

end
-- ==== Proof.QkvBlock.lean ====
/- One block of the latent projection: queries, keys and values of its rows. -/
module

public import proofs.«01_k».proof.Proof.QkvPoint

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

variable (x0 : Vec Ideal S1x512x1024 .f32) (x1 : Vec Ideal S1x6x1024 .f32) (x2 : Vec Ideal S1x1024 .f32) (x3 : Vec Ideal S1024x1024 .bf16)
  (x4 : Vec Ideal S1x512 .f32) (x5 : Vec Ideal S512x2048 .bf16) (x6 : Vec Ideal S1x256 .f32) (x7 : Vec Ideal S256x2048 .bf16)
  (x8 : Vec Ideal S256x1024 .bf16) (x9 x10 x11 : Vec Ideal S512x128 .f32)

theorem ld1 (c : Fin 1024) : View.ld x2 r0_1 (ix2 0 c) = x2 (ix2 0 c) := by pointwise
theorem ld2 (c : Fin 1024) : View.ld x1 r0_2 (ix3 0 0 c) = x1 (ix3 0 1 c) := by pointwise
theorem ld3 (c : Fin 1024) : View.ld x1 r0_3 (ix3 0 0 c) = x1 (ix3 0 0 c) := by pointwise
theorem ld5 (d : Fin 1024) (k : Fin 1024) : View.ld x3 r0_5 (ix2 d k) = x3 (ix2 d k) := by pointwise
theorem ld6 (i : Fin 512) : View.ld x4 r0_6 (ix2 0 i) = x4 (ix2 0 i) := by pointwise
theorem ld7 (i : Fin 256) : View.ld x6 r0_7 (ix2 0 i) = x6 (ix2 0 i) := by pointwise
theorem ld8 (i : Fin 512) (k : Fin 2048) : View.ld x5 r0_8 (ix2 i k) = x5 (ix2 i k) := by pointwise
theorem ld9 (i : Fin 256) (k : Fin 2048) : View.ld x7 r0_9 (ix2 i k) = x7 (ix2 i k) := by pointwise
theorem ld27 (i : Fin 256) (k : Fin 1024) : View.ld x8 r0_27 (ix2 i k) = x8 (ix2 i k) := by pointwise
theorem ldx (s : Fin 512) (r : Fin 256) (h : s.val = r.val) (c : Fin 1024) : View.ld x0 r0_0 (ix3 0 r c) = x0 (ix3 0 s c) := by rw [show s = ⟨r.val, by omega⟩ from Fin.ext h]; pointwise
theorem ldx' (s : Fin 512) (r : Fin 256) (h : s.val = 256 + r.val) (c : Fin 1024) : View.ld x0 r0_4 (ix3 0 r c) = x0 (ix3 0 s c) := by rw [show s = ⟨256 + r.val, by omega⟩ from Fin.ext h]; pointwise
theorem ldt (s : Fin 512) (r : Fin 256) (h : s.val = r.val) (l : Fin 128) : View.ld x9 r0_10 (ix2 r l) = x9 (ix2 s l) := by rw [show s = ⟨r.val, by omega⟩ from Fin.ext h]; pointwise
theorem ldt' (s : Fin 512) (r : Fin 256) (h : s.val = 256 + r.val) (l : Fin 128) : View.ld x9 r0_28 (ix2 r l) = x9 (ix2 s l) := by rw [show s = ⟨256 + r.val, by omega⟩ from Fin.ext h]; pointwise

/-- The modulated row `s` of the block. -/
def hrow (s : Fin 512) : Fin 1024 → EReal :=
  modulate (fun c => x2 (ix2 0 c)) (fun c => x1 (ix3 0 1 c)) (fun c => x1 (ix3 0 0 c)) (fun c => x0 (ix3 0 s c))

/-- Its projection onto the latent and rotary columns. -/
def prow (s : Fin 512) (c : Fin 1024) : EReal := dot (hrow x0 x1 x2 s) (fun d => x3 (ix2 d c))

/-- The normalised latent row of the queries. -/
def cq (s : Fin 512) : Fin 512 → EReal :=
  rms (Ideal.ofBits .f32 0x44000000#32) (fun i => x4 (ix2 0 i)) (fun i => prow x0 x1 x2 x3 s ⟨i.val, by omega⟩)

/-- The normalised latent row of the keys and values. -/
def ckv (s : Fin 512) : Fin 256 → EReal :=
  rms (Ideal.ofBits .f32 0x43800000#32) (fun i => x6 (ix2 0 i)) (fun i => prow x0 x1 x2 x3 s ⟨512 + i.val, by omega⟩)

/-- The rotary part of the keys, common to the heads. -/
def rot (s : Fin 512) (l : Fin 128) : EReal :=
  prow x0 x1 x2 x3 s ⟨768 + l.val, by omega⟩ * x10 (ix2 s l) + prow x0 x1 x2 x3 s ⟨896 + l.val, by omega⟩ * x11 (ix2 s l)

section Low

variable (s : Fin 512) (r : Fin 256) (h : s.val = r.val)
include h

theorem p_low (c : Fin 1024) : k0_pay103 (F := Ideal) x0 x1 x2 x3 x4 x5 x6 x7 x8 x9 x10 x11 (ix2 r c) = prow x0 x1 x2 x3 s c := by
  unfold k0_pay103 k0_pay99 prow hrow
  rw [low_p]
  simp only [low_mod, ld1 x2, ld2 x1, ld3 x1, ld5 x3, ldx x0 s r h]

theorem cq_low (i : Fin 512) : k0_pay105 (F := Ideal) x0 x1 x2 x3 x4 x5 x6 x7 x8 x9 x10 x11 (ix2 r i) = cq x0 x1 x2 x3 x4 s i := by
  unfold k0_pay105 cq
  rw [low_cq]
  have e := p_low x0 x1 x2 x3 x4 x5 x6 x7 x8 x9 x10 x11 s r h
  unfold k0_pay103 at e
  simp only [e, ld6 x4]

theorem ckv_low (i : Fin 256) : k0_pay106 (F := Ideal) x0 x1 x2 x3 x4 x5 x6 x7 x8 x9 x10 x11 (ix2 r i) = ckv x0 x1 x2 x3 x6 s i := by
  unfold k0_pay106 ckv
  rw [low_ckv]
  simp only [p_low x0 x1 x2 x3 x4 x5 x6 x7 x8 x9 x10 x11 s r h, ld7 x6]

theorem qf_low (k : Fin 2048) : k0_pay108 (F := Ideal) x0 x1 x2 x3 x4 x5 x6 x7 x8 x9 x10 x11 (ix2 r k) = dot (cq x0 x1 x2 x3 x4 s) (fun i => x5 (ix2 i k)) := by
  unfold k0_pay108
  rw [low_qf]
  simp only [cq_low x0 x1 x2 x3 x4 x5 x6 x7 x8 x9 x10 x11 s r h, ld8 x5]

theorem kf_low (k : Fin 2048) : k0_pay109 (F := Ideal) x0 x1 x2 x3 x4 x5 x6 x7 x8 x9 x10 x11 (ix2 r k) = dot (ckv x0 x1 x2 x3 x6 s) (fun i => x7 (ix2 i k)) := by
  unfold k0_pay109
  rw [low_kf]
  simp only [ckv_low x0 x1 x2 x3 x4 x5 x6 x7 x8 x9 x10 x11 s r h, ld9 x7]

theorem kr_low (l : Fin 128) : k0_pay110 (F := Ideal) x0 x1 x2 x3 x4 x5 x6 x7 x8 x9 x10 x11 (ix2 r l) = rot x0 x1 x2 x3 x10 x11 s l := by
  unfold k0_pay110 rot
  rw [low_kr]
  simp only [p_low x0 x1 x2 x3 x4 x5 x6 x7 x8 x9 x10 x11 s r h, ldt x10 s r h, ldt x11 s r h]

theorem tq_low (l : Fin 128) : k0_pay111 (F := Ideal) x0 x1 x2 x3 x4 x5 x6 x7 x8 x9 x10 x11 (ix2 r l) = x9 (ix2 s l) := by
  unfold k0_pay111
  rw [low_tq, ldt x9 s r h]

end Low

section High

variable (s : Fin 512) (r : Fin 256) (h : s.val = 256 + r.val)
include h

theorem p_high (c : Fin 1024) : k0_pay104 (F := Ideal) x0 x1 x2 x3 x4 x5 x6 x7 x8 x9 x10 x11 (ix2 r c) = prow x0 x1 x2 x3 s c := by
  unfold k0_pay104 k0_pay100 k0_pay101 k0_pay102 prow hrow
  rw [high_p]
  simp only [ld1 x2, ld2 x1, ld3 x1, ld5 x3, ldx' x0 s r h]

theorem ckv_high (i : Fin 256) : k0_pay107 (F := Ideal) x0 x1 x2 x3 x4 x5 x6 x7 x8 x9 x10 x11 (ix2 r i) = ckv x0 x1 x2 x3 x6 s i := by
  unfold k0_pay107 ckv
  rw [high_ckv]
  simp only [p_high x0 x1 x2 x3 x4 x5 x6 x7 x8 x9 x10 x11 s r h, ld7 x6]

theorem qf_high (k : Fin 2048) : k0_pay113 (F := Ideal) x0 x1 x2 x3 x4 x5 x6 x7 x8 x9 x10 x11 (ix2 r k) = dot (cq x0 x1 x2 x3 x4 s) (fun i => x5 (ix2 i k)) := by
  unfold k0_pay113 cq
  rw [high_qf]
  have e := p_high x0 x1 x2 x3 x4 x5 x6 x7 x8 x9 x10 x11 s r h
  unfold k0_pay104 at e
  simp only [high_cq, e, ld6 x4, ld8 x5]

theorem kf_high (k : Fin 2048) : k0_pay114 (F := Ideal) x0 x1 x2 x3 x4 x5 x6 x7 x8 x9 x10 x11 (ix2 r k) = dot (ckv x0 x1 x2 x3 x6 s) (fun i => x7 (ix2 i k)) := by
  unfold k0_pay114
  rw [high_kf]
  simp only [ckv_high x0 x1 x2 x3 x4 x5 x6 x7 x8 x9 x10 x11 s r h, ld9 x7]

theorem kr_high (l : Fin 128) : k0_pay117 (F := Ideal) x0 x1 x2 x3 x4 x5 x6 x7 x8 x9 x10 x11 (ix2 r l) = rot x0 x1 x2 x3 x10 x11 s l := by
  unfold k0_pay117 k0_pay112 k0_pay115 k0_pay116 rot
  rw [high_kr]
  simp only [p_high x0 x1 x2 x3 x4 x5 x6 x7 x8 x9 x10 x11 s r h, ldt' x10 s r h, ldt' x11 s r h]

theorem tq_high (l : Fin 128) : k0_pay118 (F := Ideal) x0 x1 x2 x3 x4 x5 x6 x7 x8 x9 x10 x11 (ix2 r l) = x9 (ix2 s l) := by
  unfold k0_pay118
  rw [high_tq, ldt' x9 s r h]

end High

theorem block_v (s : Fin 512) (k : Fin 1024) : out0_14 (F := Ideal) x0 x1 x2 x3 x4 x5 x6 x7 x8 x9 x10 x11 (ix3 0 s k)
    = dot (ckv x0 x1 x2 x3 x6 s) (fun i => x8 (ix2 i k)) := by
  unfold out0_14
  canon_tiles u h
  all_goals idx_vars u
  all_goals rw [show u0 = 0 from Subsingleton.elim _ _, show k = u2 from Fin.ext (by simpa using h2)]
  · rw [high_v]
    simp only [ckv_high x0 x1 x2 x3 x4 x5 x6 x7 x8 x9 x10 x11 s u1 (by simpa using h1), ld27 x8]
  · rw [low_v]
    simp only [ckv_low x0 x1 x2 x3 x4 x5 x6 x7 x8 x9 x10 x11 s u1 (by simpa using h1), ld27 x8]

end Cert.MlaProjIdeal.Row

end
-- ==== Proof.QkvHeads.lean ====
/- The queries and keys of one block: every head is read the same way out of the products of all heads. -/
module

public import proofs.«01_k».proof.Proof.QkvBlock

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

variable (x0 : Vec Ideal S1x512x1024 .f32) (x1 : Vec Ideal S1x6x1024 .f32) (x2 : Vec Ideal S1x1024 .f32) (x3 : Vec Ideal S1024x1024 .bf16)
  (x4 : Vec Ideal S1x512 .f32) (x5 : Vec Ideal S512x2048 .bf16) (x6 : Vec Ideal S1x256 .f32) (x7 : Vec Ideal S256x2048 .bf16)
  (x8 : Vec Ideal S256x1024 .bf16) (x9 x10 x11 : Vec Ideal S512x128 .f32)

set_option maxHeartbeats 1000000 in
theorem block_q (n : Fin 16) (s : Fin 512) (l : Fin 128) (k : Fin 2048) (hk : k.val = 128 * n.val + l.val) :
    out0_12 (F := Ideal) x0 x1 x2 x3 x4 x5 x6 x7 x8 x9 x10 x11 (ix4 0 n s l)
      = dot (cq x0 x1 x2 x3 x4 s) (fun i => x5 (ix2 i k)) * x9 (ix2 s l) := by
  unfold out0_12
  canon_tiles u h
  all_goals idx_vars u
  all_goals rw [show u0 = 0 from Subsingleton.elim _ _, show u1 = 0 from Subsingleton.elim _ _, show l = u3 from Fin.ext (by simpa using h3)]
  all_goals simp only [k0_pay19, k0_pay21, k0_pay22, k0_pay24, k0_pay26, k0_pay28, k0_pay29, k0_pay31, k0_pay33, k0_pay36, k0_pay38, k0_pay40, k0_pay42, k0_pay44, k0_pay46, k0_pay47, k0_pay49, k0_pay51, k0_pay53, k0_pay63, k0_pay65, k0_pay67, k0_pay69, k0_pay71, k0_pay73, k0_pay74, k0_pay76, k0_pay78, k0_pay81, k0_pay83, k0_pay85, k0_pay88, k0_pay90, k0_pay92, k0_pay93, k0_pay95, k0_pay97]
  all_goals refine (head_mul _ _ _ _ u2 u3 k (by omega)).trans ?_
  all_goals first
    | have hs : s.val = u2.val := by simpa using h2
      exact congrArg₂ (· * ·) (qf_low x0 x1 x2 x3 x4 x5 x6 x7 x8 x9 x10 x11 s u2 hs k) (tq_low x0 x1 x2 x3 x4 x5 x6 x7 x8 x9 x10 x11 s u2 hs u3)
    | have hs : s.val = 256 + u2.val := by simpa using h2
      exact congrArg₂ (· * ·) (qf_high x0 x1 x2 x3 x4 x5 x6 x7 x8 x9 x10 x11 s u2 hs k) (tq_high x0 x1 x2 x3 x4 x5 x6 x7 x8 x9 x10 x11 s u2 hs u3)

set_option maxHeartbeats 1000000 in
theorem block_k (n : Fin 16) (s : Fin 512) (l : Fin 128) (k : Fin 2048) (hk : k.val = 128 * n.val + l.val) :
    out0_13 (F := Ideal) x0 x1 x2 x3 x4 x5 x6 x7 x8 x9 x10 x11 (ix4 0 n s l)
      = dot (ckv x0 x1 x2 x3 x6 s) (fun i => x7 (ix2 i k)) + rot x0 x1 x2 x3 x10 x11 s l := by
  unfold out0_13
  canon_tiles u h
  all_goals idx_vars u
  all_goals rw [show u0 = 0 from Subsingleton.elim _ _, show u1 = 0 from Subsingleton.elim _ _, show l = u3 from Fin.ext (by simpa using h3)]
  all_goals simp only [k0_pay20, k0_pay23, k0_pay25, k0_pay27, k0_pay30, k0_pay32, k0_pay34, k0_pay35, k0_pay37, k0_pay39, k0_pay41, k0_pay43, k0_pay45, k0_pay48, k0_pay50, k0_pay52, k0_pay54, k0_pay64, k0_pay66, k0_pay68, k0_pay70, k0_pay72, k0_pay75, k0_pay77, k0_pay79, k0_pay80, k0_pay82, k0_pay84, k0_pay86, k0_pay87, k0_pay89, k0_pay91, k0_pay94, k0_pay96, k0_pay98]
  all_goals refine (head_add _ _ _ _ u2 u3 k (by omega)).trans ?_
  all_goals first
    | have hs : s.val = u2.val := by simpa using h2
      exact congrArg₂ (· + ·) (kf_low x0 x1 x2 x3 x4 x5 x6 x7 x8 x9 x10 x11 s u2 hs k) (kr_low x0 x1 x2 x3 x4 x5 x6 x7 x8 x9 x10 x11 s u2 hs u3)
    | have hs : s.val = 256 + u2.val := by simpa using h2
      exact congrArg₂ (· + ·) (kf_high x0 x1 x2 x3 x4 x5 x6 x7 x8 x9 x10 x11 s u2 hs k) (kr_high x0 x1 x2 x3 x4 x5 x6 x7 x8 x9 x10 x11 s u2 hs u3)

end Cert.MlaProjIdeal.Row

end
-- ==== Proof.QkvHost.lean ====
/- The host steps before the latent projection, one at a time. -/
module

public import proofs.«01_k».proof.Proof.RowMath
public import proofs.«01_k».proof.Proof.Gen.MlaProjIdeal.Value
public import Idealize.ShloMosaic.Lib.Claim
public import Idealize.ShloMosaic.Lib.Pointwise

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

/-- The rotary lane paired with lane `j`: eight lanes up or down. -/
def partner (j : Fin 32) : Fin 32 := ⟨if j.val % 16 < 8 then j.val + 8 else j.val - 8, by split <;> omega⟩

/-- The table of paired lanes as the program spells it. -/
abbrev lanes : IVec S32x1 32 :=
  broadcastInDim S32x1 ![0] bcast_S32_S32x1_0
    (select (constantI S32 1 0#1) (addi (fun i => lit0 (S32.rowMajor i)) (broadcastInDim S32 ![] bcast_S_S32 (constantI S_ 32 32#32))) (fun i => lit0 (S32.rowMajor i)))

theorem lit_partner : ∀ j : Fin 32, min (lit0 j).toInt.toNat 31 = (partner j).val := by decide +kernel

theorem lanes_apply (j : Fin 32) : lanes (ix2 j 0) = lit0 j := by
  have e : lanes (ix2 j 0) = lit0 (S32.rowMajor (ix1 j)) := by
    unfold lanes
    rw [broadcastInDim_apply _ bcast_S32_S32x1_0 _ (ix2 j 0) (ix1 j) (fun a => match a with | ⟨0, _⟩ => rfl)]
    rfl
  rw [e]
  exact congrArg lit0 (Fin.ext (by revert j; decide +kernel))

theorem gather_cols (x : FVec Ideal S1024x32 .f32) (d : Fin 1024) (j : Fin 32) :
    Host.gather gather_S1024x32_S32x1_S1024x32_0_1_n_n_1_1_10241 x lanes (ix2 d j) = x (ix2 d (partner j)) := by
  have hs : gather_S1024x32_S32x1_S1024x32_0_1_n_n_1_1_10241.siIdx (ix2 d j) ⟨0, by decide⟩ = ix2 j 0 := by
    funext b
    match b with
    | ⟨0, _⟩ => rfl
    | ⟨1, _⟩ => rfl
  unfold Host.gather
  congr 1
  funext a
  refine Fin.ext ?_
  match a with
  | ⟨0, _⟩ => exact Nat.zero_add _
  | ⟨1, _⟩ =>
    refine Eq.trans ?_ (lit_partner j)
    rw [← lanes_apply, ← hs]
    rfl

theorem gather_lanes (x : FVec Ideal S512x16x32 .f32) (i : Fin 512) (n : Fin 16) (j : Fin 32) :
    Host.gather gather_S512x16x32_S32x1_S512x16x32_01_2_n_n_2_1_512161 x lanes (ix3 i n j) = x (ix3 i n (partner j)) := by
  have hs : gather_S512x16x32_S32x1_S512x16x32_01_2_n_n_2_1_512161.siIdx (ix3 i n j) ⟨0, by decide⟩ = ix2 j 0 := by
    funext b
    match b with
    | ⟨0, _⟩ => rfl
    | ⟨1, _⟩ => rfl
  unfold Host.gather
  congr 1
  funext a
  refine Fin.ext ?_
  match a with
  | ⟨0, _⟩ => exact Nat.zero_add _
  | ⟨1, _⟩ => exact Nat.zero_add _
  | ⟨2, _⟩ =>
    refine Eq.trans ?_ (lit_partner j)
    rw [← lanes_apply, ← hs]
    rfl

variable (m : (ℓ : Loc nD τ sig) → Buf (Elt Ideal) ℓ) (c : Dev nD)

/-- The buffers that the operations before the kernel write, in order, each once. -/
abbrev written : List (Ref sig .tc) :=
  [main_c, main_c_0, main_c_1, main_v0, main_v1, main_v2, main_v3, main_v4, main_v5, main_c_2, main_v6, main_v7, main_v8, main_v9, main_v10,
   main_cst, main_v11, main_v12, main_v13, main_v14, main_v15, main_c_3, main_v16, main_v17, main_v18, main_v19, main_v20, main_v21,
   main_v22, main_v23, main_v24, main_cst_4, main_v25, main_v26, main_v27, main_v28, main_v29, main_v30, main_v31, main_v32, main_v33,
   main_v34, main_v35, main_v36, main_v37, main_v38, main_v39, main_v40, main_v41, main_v42, main_v43, main_v44, main_v45, main_v46,
   main_v47, main_v48, main_v49, main_v50, main_cst_5, main_v51, main_cst_6, main_v52, main_v53, main_v54, main_v55]

theorem written_eq : (hostOps0 (F := Ideal)).map (fun o => o.writes) = written.map (fun r => ({Proc.devRef .tc r} : Finset (DevRef τ sig))) := rfl

theorem app : ∀ (l₁ l₂ : List (HloOp τ sig (Elt Ideal))) (σ : Valuation τ sig (Elt Ideal)),
    StableHlo.after (l₁ ++ l₂) σ = StableHlo.after l₂ (StableHlo.after l₁ σ)
  | [], _, _ => rfl
  | _ :: l, l₂, _ => app l l₂ _

/-- A buffer that no operation from the `k`-th on writes is the one of the first `k` operations. -/
theorem keep (k : ℕ) (x : Ref sig .tc) (hx : x ∉ written.drop k) :
    StableHlo.after ((hostOps0 (F := Ideal)).take k) (fun b => m (c, b)) (Proc.devRef .tc x) = V m c x := by
  have e : (hostOps0 (F := Ideal)) = hostOps0.take k ++ hostOps0.drop k := (List.take_append_drop k _).symm
  have hn : ∀ o ∈ (hostOps0 (F := Ideal)).drop k, (Proc.devRef .tc x : DevRef τ sig) ∉ o.writes := by
    intro o ho hb
    have h1 : o.writes ∈ ((hostOps0 (F := Ideal)).map (fun o => o.writes)).drop k := by
      rw [← List.map_drop]
      exact List.mem_map_of_mem ho
    rw [written_eq, ← List.map_drop] at h1
    obtain ⟨r, hr, h2⟩ := List.mem_map.mp h1
    rw [← h2, Finset.mem_singleton] at hb
    by_cases h3 : x = r
    · exact hx (h3 ▸ hr)
    · exact StableHlo.devRef_ne_of_ne h3 hb
  show _ = StableHlo.after hostOps0 (fun b => m (c, b)) (Proc.devRef .tc x)
  conv_rhs => rw [e, app]
  exact (StableHlo.after_of_forall_not_mem _ _ hn).symm

/-- What the `k`-th operation writes is what it computes from the first `k` operations' buffers. -/
theorem read_op (k : ℕ) (o : HloOp τ sig (Elt Ideal)) (ho : (hostOps0 (F := Ideal)).take (k + 1) = hostOps0.take k ++ [o]) (y : Ref sig .tc) (hy : y ∉ written.drop (k + 1)) :
    V m c y = o.result (StableHlo.after ((hostOps0 (F := Ideal)).take k) (fun b => m (c, b))) (Proc.devRef .tc y) := by
  rw [← keep m c (k + 1) y hy, ho, app]
  rfl

theorem v27_eq : V m c main_v27 = truncf (F := Ideal) .bf16 (V m c main_v13) bitsLt_bf16_f32 := by
  refine (read_op m c 34 _ rfl main_v27 (by decide)).trans ?_
  rw [StableHlo.unary_result, keep m c 34 main_v13 (by decide)]

theorem v13_eq : V m c main_v13 = concatenate S1024x1024 1 [⟨S1024x768, V m c main_v12⟩, ⟨S1024x64, V m c main_v11⟩, ⟨S1024x32, V m c main_v5⟩, ⟨S1024x32, V m c main_v5⟩,
    ⟨S1024x64, V m c main_v11⟩, ⟨S1024x32, V m c main_v10⟩, ⟨S1024x32, V m c main_v10⟩] concatenates_S1024x768_S1024x64_S1024x32_S1024x32_S1024x64_S1024x32_S1024x32_S1024x1024_d1 := by
  refine (read_op m c 18 _ rfl main_v13 (by decide)).trans ?_
  rw [StableHlo.nary_result, ← keep m c 18 main_v12 (by decide), ← keep m c 18 main_v11 (by decide),
    ← keep m c 18 main_v5 (by decide), ← keep m c 18 main_v10 (by decide)]
  rfl

theorem v43_eq : V m c main_v43 = concatenate S4096x32 1 [⟨S4096x8, V m c main_v39⟩, ⟨S4096x8, V m c main_v40⟩, ⟨S4096x8, V m c main_v41⟩, ⟨S4096x8, V m c main_v42⟩] concatenates_S4096x8_S4096x8_S4096x8_S4096x8_S4096x32_d1 := by
  refine (read_op m c 50 _ rfl main_v43 (by decide)).trans ?_
  rw [StableHlo.nary_result, ← keep m c 50 main_v39 (by decide), ← keep m c 50 main_v40 (by decide), ← keep m c 50 main_v41 (by decide), ← keep m c 50 main_v42 (by decide)]
  rfl

theorem v50_eq : V m c main_v50 = concatenate S4096x32 1 [⟨S4096x8, V m c main_v45⟩, ⟨S4096x8, V m c main_v46⟩, ⟨S4096x8, V m c main_v48⟩, ⟨S4096x8, V m c main_v49⟩] concatenates_S4096x8_S4096x8_S4096x8_S4096x8_S4096x32_d1 := by
  refine (read_op m c 57 _ rfl main_v50 (by decide)).trans ?_
  rw [StableHlo.nary_result, ← keep m c 57 main_v45 (by decide), ← keep m c 57 main_v46 (by decide), ← keep m c 57 main_v48 (by decide), ← keep m c 57 main_v49 (by decide)]
  rfl

theorem v53_eq : V m c main_v53 = concatenate S4096x128 1 [⟨S4096x64, V m c main_v51⟩, ⟨S4096x32, V m c main_v43⟩, ⟨S4096x32, V m c main_v50⟩] concatenates_S4096x64_S4096x32_S4096x32_S4096x128_d1 := by
  refine (read_op m c 62 _ rfl main_v53 (by decide)).trans ?_
  rw [StableHlo.nary_result, ← keep m c 62 main_v51 (by decide), ← keep m c 62 main_v43 (by decide), ← keep m c 62 main_v50 (by decide)]
  rfl

theorem v54_eq : V m c main_v54 = concatenate S4096x128 1 [⟨S4096x64, V m c main_v52⟩, ⟨S4096x32, V m c main_v43⟩, ⟨S4096x32, V m c main_v43⟩] concatenates_S4096x64_S4096x32_S4096x32_S4096x128_d1 := by
  refine (read_op m c 63 _ rfl main_v54 (by decide)).trans ?_
  rw [StableHlo.nary_result, ← keep m c 63 main_v52 (by decide), ← keep m c 63 main_v43 (by decide)]
  rfl

theorem v55_eq : V m c main_v55 = concatenate S4096x128 1 [⟨S4096x64, V m c main_v52⟩, ⟨S4096x32, V m c main_v50⟩, ⟨S4096x32, V m c main_v50⟩] concatenates_S4096x64_S4096x32_S4096x32_S4096x128_d1 := by
  refine (read_op m c 64 _ rfl main_v55 (by decide)).trans ?_
  rw [StableHlo.nary_result, ← keep m c 64 main_v52 (by decide), ← keep m c 64 main_v50 (by decide)]
  rfl

end Cert.MlaProjIdeal.Row

end
-- ==== Proof.QkvWide.lean ====
/- The latent projection's matrices as the kernel takes them, read at an index from the arguments. -/
module

public import proofs.«01_k».proof.Proof.QkvHost
public import Idealize.ShloMosaic.Lib.Claim
public import Idealize.ShloMosaic.Lib.Pointwise

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

variable (m : (ℓ : Loc nD τ sig) → Buf (Elt Ideal) ℓ) (c : Dev nD)

section Pieces

variable (a : FVec Ideal S1024x768 .f32) (z z' : FVec Ideal S1024x64 .f32) (k k' p p' : FVec Ideal S1024x32 .f32) (d : Fin 1024) (j : Fin 32)
  (u : FVec Ideal S4096x64 .f32) (v w : FVec Ideal S4096x32 .f32) (a₁ a₂ a₃ a₄ : FVec Ideal S4096x8 .f32) (t : Fin 4096)

/-- The matrix onto the latent and rotary columns. -/
abbrev wcat : FVec Ideal S1024x1024 .f32 := concatenate S1024x1024 1 [⟨S1024x768, a⟩, ⟨S1024x64, z⟩, ⟨S1024x32, k⟩, ⟨S1024x32, k'⟩, ⟨S1024x64, z'⟩, ⟨S1024x32, p⟩, ⟨S1024x32, p'⟩]
  concatenates_S1024x768_S1024x64_S1024x32_S1024x32_S1024x64_S1024x32_S1024x32_S1024x1024_d1

theorem wcat_a (i : Fin 768) : wcat a z z' k k' p p' (ix2 d ⟨i.val, by omega⟩) = a (ix2 d i) := by
  unfold wcat; pointwise

theorem wcat_k : wcat a z z' k k' p p' (ix2 d ⟨832 + j.val, by omega⟩) = k (ix2 d j) := by
  unfold wcat; pointwise
  rw [dif_neg (by omega), dif_neg (by omega), dif_pos (by omega)]
  exact congrArg k (congrArg (ix2 d) (Fin.ext (by simp only; omega)))

theorem wcat_k' : wcat a z z' k k' p p' (ix2 d ⟨864 + j.val, by omega⟩) = k' (ix2 d j) := by
  unfold wcat; pointwise
  rw [dif_neg (by omega), dif_neg (by omega), dif_neg (by omega), dif_pos (by omega)]
  exact congrArg k' (congrArg (ix2 d) (Fin.ext (by simp only; omega)))

theorem wcat_p : wcat a z z' k k' p p' (ix2 d ⟨960 + j.val, by omega⟩) = p (ix2 d j) := by
  unfold wcat; pointwise
  rw [dif_neg (by omega), dif_neg (by omega), dif_neg (by omega), dif_neg (by omega), dif_neg (by omega), dif_pos (by omega)]
  exact congrArg p (congrArg (ix2 d) (Fin.ext (by simp only; omega)))

theorem wcat_p' : wcat a z z' k k' p p' (ix2 d ⟨992 + j.val, by omega⟩) = p' (ix2 d j) := by
  unfold wcat; pointwise
  rw [dif_neg (by omega), dif_neg (by omega), dif_neg (by omega), dif_neg (by omega), dif_neg (by omega), dif_neg (by omega)]
  exact congrArg p' (congrArg (ix2 d) (Fin.ext (by simp only; omega)))

/-- A rotary table of 128 lanes. -/
abbrev tcat : FVec Ideal S4096x128 .f32 := concatenate S4096x128 1 [⟨S4096x64, u⟩, ⟨S4096x32, v⟩, ⟨S4096x32, w⟩] concatenates_S4096x64_S4096x32_S4096x32_S4096x128_d1

theorem tcat_u (l : Fin 64) : tcat u v w (ix2 t ⟨l.val, by omega⟩) = u (ix2 t l) := by
  unfold tcat; pointwise

theorem tcat_v : tcat u v w (ix2 t ⟨64 + j.val, by omega⟩) = v (ix2 t j) := by
  unfold tcat; pointwise

theorem tcat_w : tcat u v w (ix2 t ⟨96 + j.val, by omega⟩) = w (ix2 t j) := by
  unfold tcat; pointwise
  rw [dif_neg (by omega), dif_neg (by omega)]
  exact congrArg w (congrArg (ix2 t) (Fin.ext (by simp only; omega)))

/-- Its 32 rotary lanes. -/
abbrev rcat : FVec Ideal S4096x32 .f32 := concatenate S4096x32 1 [⟨S4096x8, a₁⟩, ⟨S4096x8, a₂⟩, ⟨S4096x8, a₃⟩, ⟨S4096x8, a₄⟩] concatenates_S4096x8_S4096x8_S4096x8_S4096x8_S4096x32_d1

theorem rcat_1 (e : Fin 8) : rcat a₁ a₂ a₃ a₄ (ix2 t ⟨e.val, by omega⟩) = a₁ (ix2 t e) := by
  unfold rcat; pointwise

theorem rcat_2 (e : Fin 8) : rcat a₁ a₂ a₃ a₄ (ix2 t ⟨8 + e.val, by omega⟩) = a₂ (ix2 t e) := by
  unfold rcat; pointwise

theorem rcat_3 (e : Fin 8) : rcat a₁ a₂ a₃ a₄ (ix2 t ⟨16 + e.val, by omega⟩) = a₃ (ix2 t e) := by
  unfold rcat; pointwise
  rw [dif_neg (by omega), dif_neg (by omega), dif_pos (by omega)]
  exact congrArg a₃ (congrArg (ix2 t) (Fin.ext (by simp only; omega)))

theorem rcat_4 (e : Fin 8) : rcat a₁ a₂ a₃ a₄ (ix2 t ⟨24 + e.val, by omega⟩) = a₄ (ix2 t e) := by
  unfold rcat; pointwise
  rw [dif_neg (by omega), dif_neg (by omega), dif_neg (by omega)]
  exact congrArg a₄ (congrArg (ix2 t) (Fin.ext (by simp only; omega)))

end Pieces

theorem v12_apply (d : Fin 1024) (i : Fin 768) : V m c main_v12 (ix2 d i) = m ((c : Thread nD τ).loc main_arg3) (ix3 0 d ⟨i.val, by omega⟩) := by
  entry_read
  pointwise

theorem v5_apply (d : Fin 1024) (j : Fin 32) : V m c main_v5 (ix2 d j) = m ((c : Thread nD τ).loc main_arg3) (ix3 0 d ⟨768 + j.val, by omega⟩) := by
  entry_read
  pointwise

theorem v9_eq : V m c main_v9 = lanes := by
  entry_read
  rfl

theorem v10_apply (d : Fin 1024) (j : Fin 32) : V m c main_v10 (ix2 d j) = m ((c : Thread nD τ).loc main_arg3) (ix3 0 d ⟨768 + (partner j).val, by omega⟩) := by
  have e : V m c main_v10 = Host.gather gather_S1024x32_S32x1_S1024x32_0_1_n_n_1_1_10241 (V m c main_v5) (V m c main_v9) := by
    refine (read_op m c 14 _ rfl main_v10 (by decide)).trans ?_
    rw [StableHlo.binary_result, keep m c 14 main_v5 (by decide), keep m c 14 main_v9 (by decide)]
  rw [e, v9_eq, gather_cols, v5_apply]

theorem v19_eq : V m c main_v19 = lanes := by
  entry_read
  rfl

theorem v20_eq : V m c main_v20 = Host.gather gather_S512x16x32_S32x1_S512x16x32_01_2_n_n_2_1_512161 (V m c main_v15) (V m c main_v19) := by
  refine (read_op m c 26 _ rfl main_v20 (by decide)).trans ?_
  rw [StableHlo.binary_result, keep m c 26 main_v15 (by decide), keep m c 26 main_v19 (by decide)]

theorem v21_eq : V m c main_v21 = concatenate S512x16x128 2 [⟨S512x16x96, V m c main_v14⟩, ⟨S512x16x32, V m c main_v20⟩] concatenates_S512x16x96_S512x16x32_S512x16x128_d2 := by
  refine (read_op m c 27 _ rfl main_v21 (by decide)).trans ?_
  rw [StableHlo.binary_result, keep m c 27 main_v14 (by decide), keep m c 27 main_v20 (by decide)]

theorem v22_eq : V m c main_v22 = shapeCast S512x2048 (V m c main_v21) shapeCasts_S512x16x128_S512x2048 := by
  refine (read_op m c 28 _ rfl main_v22 (by decide)).trans ?_
  rw [StableHlo.reshape_result, keep m c 28 main_v21 (by decide)]
  rfl

theorem v29_eq : V m c main_v29 = truncf (F := Ideal) .bf16 (V m c main_v22) bitsLt_bf16_f32 := by
  refine (read_op m c 36 _ rfl main_v29 (by decide)).trans ?_
  rw [StableHlo.unary_result, keep m c 36 main_v22 (by decide)]

theorem v14_apply (i : Fin 512) (n : Fin 16) (l : Fin 96) : V m c main_v14 (ix3 i n l) = m ((c : Thread nD τ).loc main_arg5) (ix3 0 i ⟨96 * n.val + l.val, by omega⟩) := by
  entry_read
  pointwise
  congr 1
  congr 1
  ext
  simp only
  omega

theorem v15_apply (i : Fin 512) (n : Fin 16) (j : Fin 32) : V m c main_v15 (ix3 i n j) = m ((c : Thread nD τ).loc main_arg5) (ix3 0 i ⟨96 * n.val + (64 + j.val), by omega⟩) := by
  have e : V m c main_v15 = extractStridedSlice S512x16x32 ![0, 0, 64] (V m c main_v14) slices_S512x16x96_S512x16x32_0_0_64 := by
    refine (read_op m c 20 _ rfl main_v15 (by decide)).trans ?_
    rw [StableHlo.unary_result, keep m c 20 main_v14 (by decide)]
  rw [e]
  refine Eq.trans ?_ (v14_apply m c i n ⟨64 + j.val, by omega⟩)
  generalize V m c main_v14 = y
  pointwise

/-- A head's columns of the queries' matrix: its own, then the rotary ones once more in their partners' order. -/

theorem wq_head (A : FVec Ideal S512x16x96 .f32) (B : FVec Ideal S512x16x32 .f32) (i : Fin 512) (n : Fin 16) (l : Fin 128) (k : Fin 2048) (hk : k.val = 128 * n.val + l.val) :
    shapeCast S512x2048 (concatenate S512x16x128 2 [⟨S512x16x96, A⟩, ⟨S512x16x32, B⟩] concatenates_S512x16x96_S512x16x32_S512x16x128_d2) shapeCasts_S512x16x128_S512x2048 (ix2 i k)
      = concatenate S512x16x128 2 [⟨S512x16x96, A⟩, ⟨S512x16x32, B⟩] concatenates_S512x16x96_S512x16x32_S512x16x128_d2 (ix3 i n l) := by
  generalize concatenate S512x16x128 2 [⟨S512x16x96, A⟩, ⟨S512x16x32, B⟩] concatenates_S512x16x96_S512x16x32_S512x16x128_d2 = y
  pointwise
  exact congrArg y (congrArg₂ (ix3 i) (Fin.ext (by simp only [hk]; omega)) (Fin.ext (by simp only [hk]; omega)))

theorem wq_own (i : Fin 512) (n : Fin 16) (l : Fin 96) (k : Fin 2048) (hk : k.val = 128 * n.val + l.val) :
    V m c main_v29 (ix2 i k) = m ((c : Thread nD τ).loc main_arg5) (ix3 0 i ⟨96 * n.val + l.val, by omega⟩) := by
  rw [v29_eq, v22_eq, v21_eq, ← v14_apply m c i n l]
  refine Eq.trans (wq_head _ _ i n ⟨l.val, by omega⟩ k hk) ?_
  generalize V m c main_v14 = y
  generalize V m c main_v20 = y'
  pointwise

theorem wq_partner (i : Fin 512) (n : Fin 16) (j : Fin 32) (k : Fin 2048) (hk : k.val = 128 * n.val + (96 + j.val)) :
    V m c main_v29 (ix2 i k) = m ((c : Thread nD τ).loc main_arg5) (ix3 0 i ⟨96 * n.val + (64 + (partner j).val), by omega⟩) := by
  rw [v29_eq, v22_eq, v21_eq, ← v15_apply m c i n (partner j), ← gather_lanes (V m c main_v15), ← v19_eq m c, ← v20_eq]
  refine Eq.trans (wq_head _ _ i n ⟨96 + j.val, by omega⟩ k hk) ?_
  generalize V m c main_v14 = y
  generalize V m c main_v20 = y'
  pointwise

theorem wk_own (i : Fin 256) (n : Fin 16) (l : Fin 64) (k : Fin 2048) (hk : k.val = 128 * n.val + l.val) :
    V m c main_v32 (ix2 i k) = m ((c : Thread nD τ).loc main_arg7) (ix3 0 i ⟨128 * n.val + l.val, by omega⟩) := by
  obtain ⟨k, h⟩ := k
  obtain rfl : k = 128 * n.val + l.val := hk
  entry_read
  pointwise
  rw [dif_pos (by omega)]
  exact congrArg (fun q => m ((c : Thread nD τ).loc main_arg7) (ix3 0 i q)) (Fin.ext (by simp only; omega))

theorem wk_rest (i : Fin 256) (n : Fin 16) (l : Fin 64) (k : Fin 2048) (hk : k.val = 128 * n.val + (64 + l.val)) : V m c main_v32 (ix2 i k) = (0 : EReal) := by
  obtain ⟨k, h⟩ := k
  obtain rfl : k = 128 * n.val + (64 + l.val) := hk
  entry_read
  pointwise
  rw [dif_neg (by omega)]

theorem wv_own (i : Fin 256) (n : Fin 16) (e : Fin 64) (k : Fin 1024) (hk : k.val = 64 * n.val + e.val) :
    V m c main_v35 (ix2 i k) = m ((c : Thread nD τ).loc main_arg7) (ix3 0 i ⟨128 * n.val + (64 + e.val), by omega⟩) := by
  obtain ⟨k, h⟩ := k
  obtain rfl : k = 64 * n.val + e.val := hk
  entry_read
  pointwise
  exact congrArg (fun q => m ((c : Thread nD τ).loc main_arg7) (ix3 0 i q)) (Fin.ext (by simp only; omega))

theorem win_low (d : Fin 1024) (i : Fin 768) (k : Fin 1024) (hk : k.val = i.val) : V m c main_v27 (ix2 d k) = m ((c : Thread nD τ).loc main_arg3) (ix3 0 d ⟨i.val, by omega⟩) := by
  rw [v27_eq, v13_eq, ← v12_apply m c d i, show k = ⟨i.val, by omega⟩ from Fin.ext hk]
  exact wcat_a _ _ _ _ _ _ _ d i

theorem win_key (d : Fin 1024) (j : Fin 32) (k : Fin 1024) (hk : k.val = 832 + j.val ∨ k.val = 864 + j.val) :
    V m c main_v27 (ix2 d k) = m ((c : Thread nD τ).loc main_arg3) (ix3 0 d ⟨768 + j.val, by omega⟩) := by
  rw [v27_eq, v13_eq, ← v5_apply m c d j]
  rcases hk with hk | hk
  · rw [show k = ⟨832 + j.val, by omega⟩ from Fin.ext hk]
    exact wcat_k _ _ _ _ _ _ _ d j
  · rw [show k = ⟨864 + j.val, by omega⟩ from Fin.ext hk]
    exact wcat_k' _ _ _ _ _ _ _ d j

theorem win_partner (d : Fin 1024) (j : Fin 32) (k : Fin 1024) (hk : k.val = 960 + j.val ∨ k.val = 992 + j.val) :
    V m c main_v27 (ix2 d k) = m ((c : Thread nD τ).loc main_arg3) (ix3 0 d ⟨768 + (partner j).val, by omega⟩) := by
  rw [v27_eq, v13_eq, ← v10_apply m c d j]
  rcases hk with hk | hk
  · rw [show k = ⟨960 + j.val, by omega⟩ from Fin.ext hk]
    exact wcat_p _ _ _ _ _ _ _ d j
  · rw [show k = ⟨992 + j.val, by omega⟩ from Fin.ext hk]
    exact wcat_p' _ _ _ _ _ _ _ d j

end Cert.MlaProjIdeal.Row

end
-- ==== Proof.QkvTables.lean ====
/- The latent projection's rotary tables as the kernel takes them, read at an index from the arguments. -/
module

public import proofs.«01_k».proof.Proof.QkvWide
public import Idealize.ShloMosaic.Lib.Claim
public import Idealize.ShloMosaic.Lib.Pointwise

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

/-- The column of the given tables for a rotary lane. -/
def freq (j : Fin 32) : Fin 16 := ⟨j.val / 16 * 8 + j.val % 8, by omega⟩

/-- What holds on the four blocks of eight lanes holds on every rotary lane. -/
theorem lane_cases {P : Fin 32 → Prop} (h₁ : ∀ e : Fin 8, P ⟨e.val, by omega⟩) (h₂ : ∀ e : Fin 8, P ⟨8 + e.val, by omega⟩)
    (h₃ : ∀ e : Fin 8, P ⟨16 + e.val, by omega⟩) (h₄ : ∀ e : Fin 8, P ⟨24 + e.val, by omega⟩) (j : Fin 32) : P j := by
  by_cases a : j.val < 8
  · exact h₁ ⟨j.val, a⟩
  by_cases b : j.val < 16
  · rw [show j = ⟨8 + (j.val - 8), by omega⟩ from Fin.ext (by simp only; omega)]
    exact h₂ ⟨j.val - 8, by omega⟩
  by_cases d : j.val < 24
  · rw [show j = ⟨16 + (j.val - 16), by omega⟩ from Fin.ext (by simp only; omega)]
    exact h₃ ⟨j.val - 16, by omega⟩
  · rw [show j = ⟨24 + (j.val - 24), by omega⟩ from Fin.ext (by simp only; omega)]
    exact h₄ ⟨j.val - 24, by omega⟩

/-- A table's rotary lanes: the first column of a pair is subtracted, the second added. -/
def sines (x : S4096x16.Idx → EReal) (t : Fin 4096) (j : Fin 32) : EReal := if j.val % 16 < 8 then -x (ix2 t (freq j)) else x (ix2 t (freq j))

variable (m : (ℓ : Loc nD τ sig) → Buf (Elt Ideal) ℓ) (c : Dev nD) (t : Fin 4096) (e : Fin 8)

theorem v39_apply : V m c main_v39 (ix2 t e) = m ((c : Thread nD τ).loc main_arg8) (ix2 t ⟨e.val, by omega⟩) := by
  entry_read
  pointwise

theorem v40_apply : V m c main_v40 (ix2 t e) = m ((c : Thread nD τ).loc main_arg8) (ix2 t ⟨e.val, by omega⟩) := by
  entry_read
  pointwise

theorem v41_apply : V m c main_v41 (ix2 t e) = m ((c : Thread nD τ).loc main_arg8) (ix2 t ⟨8 + e.val, by omega⟩) := by
  entry_read
  pointwise

theorem v42_apply : V m c main_v42 (ix2 t e) = m ((c : Thread nD τ).loc main_arg8) (ix2 t ⟨8 + e.val, by omega⟩) := by
  entry_read
  pointwise

theorem v45_apply : V m c main_v45 (ix2 t e) = Neg.neg (α := EReal) (m ((c : Thread nD τ).loc main_arg9) (ix2 t ⟨e.val, by omega⟩)) := by
  entry_read
  pointwise

theorem v46_apply : V m c main_v46 (ix2 t e) = m ((c : Thread nD τ).loc main_arg9) (ix2 t ⟨e.val, by omega⟩) := by
  entry_read
  pointwise

theorem v48_apply : V m c main_v48 (ix2 t e) = Neg.neg (α := EReal) (m ((c : Thread nD τ).loc main_arg9) (ix2 t ⟨8 + e.val, by omega⟩)) := by
  entry_read
  pointwise

theorem v49_apply : V m c main_v49 (ix2 t e) = m ((c : Thread nD τ).loc main_arg9) (ix2 t ⟨8 + e.val, by omega⟩) := by
  entry_read
  pointwise

theorem v43_apply (j : Fin 32) : V m c main_v43 (ix2 t j) = m ((c : Thread nD τ).loc main_arg8) (ix2 t (freq j)) := by
  rw [v43_eq]
  revert j
  refine lane_cases (fun e => ?_) (fun e => ?_) (fun e => ?_) (fun e => ?_)
  · exact (rcat_1 _ _ _ _ t e).trans ((v39_apply m c t e).trans (congrArg (fun q => m ((c : Thread nD τ).loc main_arg8) (ix2 t q)) (Fin.ext (by simp only [freq]; omega))))
  · exact (rcat_2 _ _ _ _ t e).trans ((v40_apply m c t e).trans (congrArg (fun q => m ((c : Thread nD τ).loc main_arg8) (ix2 t q)) (Fin.ext (by simp only [freq]; omega))))
  · exact (rcat_3 _ _ _ _ t e).trans ((v41_apply m c t e).trans (congrArg (fun q => m ((c : Thread nD τ).loc main_arg8) (ix2 t q)) (Fin.ext (by simp only [freq]; omega))))
  · exact (rcat_4 _ _ _ _ t e).trans ((v42_apply m c t e).trans (congrArg (fun q => m ((c : Thread nD τ).loc main_arg8) (ix2 t q)) (Fin.ext (by simp only [freq]; omega))))

theorem sines_first (x : S4096x16.Idx → EReal) (j : Fin 32) (q : Fin 16) (h : j.val % 16 < 8) (hq : q.val = j.val / 16 * 8 + j.val % 8) : -x (ix2 t q) = sines x t j := by
  rw [sines, if_pos h, show freq j = q from Fin.ext hq.symm]

theorem sines_second (x : S4096x16.Idx → EReal) (j : Fin 32) (q : Fin 16) (h : ¬ j.val % 16 < 8) (hq : q.val = j.val / 16 * 8 + j.val % 8) : x (ix2 t q) = sines x t j := by
  rw [sines, if_neg h, show freq j = q from Fin.ext hq.symm]

theorem v50_apply (j : Fin 32) : V m c main_v50 (ix2 t j) = sines (m ((c : Thread nD τ).loc main_arg9)) t j := by
  rw [v50_eq]
  revert j
  refine lane_cases (fun e => ?_) (fun e => ?_) (fun e => ?_) (fun e => ?_)
  · exact (rcat_1 _ _ _ _ t e).trans ((v45_apply m c t e).trans (sines_first t _ _ _ (by simp only; omega) (by simp only; omega)))
  · exact (rcat_2 _ _ _ _ t e).trans ((v46_apply m c t e).trans (sines_second t _ _ _ (by simp only; omega) (by simp only; omega)))
  · exact (rcat_3 _ _ _ _ t e).trans ((v48_apply m c t e).trans (sines_first t _ _ _ (by simp only; omega) (by simp only; omega)))
  · exact (rcat_4 _ _ _ _ t e).trans ((v49_apply m c t e).trans (sines_second t _ _ _ (by simp only; omega) (by simp only; omega)))

variable (l : Fin 64) (j : Fin 32) (k : Fin 128)

theorem tq_own (hk : k.val = l.val) : V m c main_v53 (ix2 t k) = (1 : EReal) := by
  rw [show k = ⟨l.val, by omega⟩ from Fin.ext hk]
  rw [v53_eq]
  refine (tcat_u _ _ _ t l).trans ?_
  entry_read
  pointwise

theorem tq_cos (hk : k.val = 64 + j.val) : V m c main_v53 (ix2 t k) = m ((c : Thread nD τ).loc main_arg8) (ix2 t (freq j)) := by
  rw [show k = ⟨64 + j.val, by omega⟩ from Fin.ext hk]
  rw [v53_eq]
  exact (tcat_v j _ _ _ t).trans (v43_apply m c t j)

theorem tq_sin (hk : k.val = 96 + j.val) : V m c main_v53 (ix2 t k) = sines (m ((c : Thread nD τ).loc main_arg9)) t j := by
  rw [show k = ⟨96 + j.val, by omega⟩ from Fin.ext hk]
  rw [v53_eq]
  exact (tcat_w j _ _ _ t).trans (v50_apply m c t j)

theorem tc_own (hk : k.val = l.val) : V m c main_v54 (ix2 t k) = (0 : EReal) := by
  rw [show k = ⟨l.val, by omega⟩ from Fin.ext hk]
  rw [v54_eq]
  refine (tcat_u _ _ _ t l).trans ?_
  entry_read
  pointwise

theorem tc_cos (hk : k.val = 64 + j.val ∨ k.val = 96 + j.val) : V m c main_v54 (ix2 t k) = m ((c : Thread nD τ).loc main_arg8) (ix2 t (freq j)) := by
  rw [v54_eq]
  rcases hk with hk | hk
  · rw [show k = ⟨64 + j.val, by omega⟩ from Fin.ext hk]
    exact (tcat_v j _ _ _ t).trans (v43_apply m c t j)
  · rw [show k = ⟨96 + j.val, by omega⟩ from Fin.ext hk]
    exact (tcat_w j _ _ _ t).trans (v43_apply m c t j)

theorem ts_own (hk : k.val = l.val) : V m c main_v55 (ix2 t k) = (0 : EReal) := by
  rw [show k = ⟨l.val, by omega⟩ from Fin.ext hk]
  rw [v55_eq]
  refine (tcat_u _ _ _ t l).trans ?_
  entry_read
  pointwise

theorem ts_sin (hk : k.val = 64 + j.val ∨ k.val = 96 + j.val) : V m c main_v55 (ix2 t k) = sines (m ((c : Thread nD τ).loc main_arg9)) t j := by
  rw [v55_eq]
  rcases hk with hk | hk
  · rw [show k = ⟨64 + j.val, by omega⟩ from Fin.ext hk]
    exact (tcat_v j _ _ _ t).trans (v50_apply m c t j)
  · rw [show k = ⟨96 + j.val, by omega⟩ from Fin.ext hk]
    exact (tcat_w j _ _ _ t).trans (v50_apply m c t j)

end Cert.MlaProjIdeal.Row

end
-- ==== Proof.QkvOut.lean ====
/- The latent projection's three result arrays, row by row. -/
module

public import proofs.«01_k».proof.Proof.QkvHeads
public import proofs.«01_k».proof.Proof.QkvTables
public import Idealize.ShloMosaic.Lib.Claim

@[expose] public section

set_option maxRecDepth 16384

noncomputable section

namespace Cert.MlaProjIdeal.Row

open Idealize.ShloMosaic Idealize.ShloMosaic.TcCoe Idealize.SL.Sem
open Cert.MlaProjIdeal Cert.MlaProjIdeal.Gen Cert.RowMath

section Entries

variable (X : S4x4096x1024.Idx → EReal) (M : S4x6x1024.Idx → EReal) (G : S2x1024.Idx → EReal) (W : S1x1024x800.Idx → EReal)
  (QN : S1x512.Idx → EReal) (UQ : S1x512x1536.Idx → EReal) (KN : S1x256.Idx → EReal) (UK : S1x256x2048.Idx → EReal)
  (C S : S4096x16.Idx → EReal) (b : Fin 4) (t : Fin 4096)

/-- Column `k` of the projection of row `t` of batch `b` onto the latent and rotary columns. -/
def lat (k : Fin 800) : EReal :=
  dot (modulate (fun c => G (ix2 0 c)) (fun c => M (ix3 b 1 c)) (fun c => M (ix3 b 0 c)) (fun c => X (ix3 b t c))) (fun d => W (ix3 0 d k))

/-- Column `k` of the row's queries. -/
def qcol (k : Fin 1536) : EReal :=
  dot (rms (Ideal.ofBits .f32 0x44000000#32) (fun i => QN (ix2 0 i)) (fun i => lat X M G W b t ⟨i.val, by omega⟩)) (fun i => UQ (ix3 0 i k))

/-- Column `k` of the row's keys and values. -/
def kvcol (k : Fin 2048) : EReal :=
  dot (rms (Ideal.ofBits .f32 0x43800000#32) (fun i => KN (ix2 0 i)) (fun i => lat X M G W b t ⟨512 + i.val, by omega⟩)) (fun i => UK (ix3 0 i k))

/-- The row's queries of head `n`: the plain lanes, the rotary lanes times the cosines, their partners times the signed sines. -/
def qhead (n : Fin 16) (l : Fin 128) : EReal :=
  if h : l.val < 64 then qcol X M G W QN UQ b t ⟨96 * n.val + l.val, by omega⟩
  else if h' : l.val < 96 then qcol X M G W QN UQ b t ⟨96 * n.val + l.val, by omega⟩ * C (ix2 t (freq ⟨l.val - 64, by omega⟩))
  else qcol X M G W QN UQ b t ⟨96 * n.val + (64 + (partner ⟨l.val - 96, by omega⟩).val), by omega⟩ * sines S t ⟨l.val - 96, by omega⟩

/-- The row's turned keys, common to the heads. -/
def turned (j : Fin 32) : EReal :=
  lat X M G W b t ⟨768 + j.val, by omega⟩ * C (ix2 t (freq j)) + lat X M G W b t ⟨768 + (partner j).val, by omega⟩ * sines S t j

/-- The row's keys of head `n`: the plain lanes, then the turned keys twice. -/
def khead (n : Fin 16) (l : Fin 128) : EReal :=
  if h : l.val < 64 then kvcol X M G W KN UK b t ⟨128 * n.val + l.val, by omega⟩
  else turned X M G W C S b t ⟨(l.val - 64) % 32, by omega⟩

/-- The row's value in column `k`. -/
def vcol (k : Fin 1024) : EReal := kvcol X M G W KN UK b t ⟨128 * (k.val / 64) + (64 + k.val % 64), by omega⟩

/-- The first result's array. -/
def qArr : S4x16x4096x128.Idx → EReal := fun y => qhead X M G W QN UQ C S (y 0) (y 2) (y 1) (y 3)

/-- The second result's array. -/
def kArr : S4x16x4096x128.Idx → EReal := fun y => khead X M G W KN UK C S (y 0) (y 2) (y 1) (y 3)

/-- The third result's array. -/
def vArr : S4x4096x1024.Idx → EReal := fun y => vcol X M G W KN UK (y 0) (y 1) (y 2)

end Entries

variable (m : (ℓ : Loc nD τ sig) → Buf (Elt Ideal) ℓ)

theorem idx0 : ∀ t : Fin grid0.N, win0_0.index t = ![t.val / 8, t.val % 8, 0] := by decide +kernel
theorem idx1 : ∀ t : Fin grid0.N, win0_1.index t = ![t.val / 8, 0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![t.val % 8, 0] := by decide +kernel
theorem idx10 : ∀ t : Fin grid0.N, win0_10.index t = ![t.val % 8, 0] := by decide +kernel
theorem idx11 : ∀ t : Fin grid0.N, win0_11.index t = ![t.val % 8, 0] := by decide +kernel
theorem idx12 : ∀ t : Fin grid0.N, win0_12.index t = ![t.val / 8, 0, t.val % 8, 0] := by decide +kernel
theorem idx13 : ∀ t : Fin grid0.N, win0_13.index t = ![t.val / 8, 0, t.val % 8, 0] := by decide +kernel
theorem idx14 : ∀ t : Fin grid0.N, win0_14.index t = ![t.val / 8, t.val % 8, 0] := by decide +kernel

section Blocks

variable (c : Dev nD) (t : Fin cfg0.N) (b : Fin 4) (s : Fin 512) (u : Fin 4096) (hb : b.val = t.val / 8) (hu : u.val = 512 * (t.val % 8) + s.val)

include hb hu in
theorem blk0 (k : Fin 1024) : iblk m c 0 t (ix3 0 s k) = m ((c : Thread nD τ).loc main_arg0) (ix3 b u k) := by
  have hb' := hb; have hu' := hu
  blk_ext [iblk, V, idx0 t]

include hb in
theorem blk1 (i : Fin 6) (k : Fin 1024) : iblk m c 1 t (ix3 0 i k) = m ((c : Thread nD τ).loc main_arg1) (ix3 b i k) := by
  have hb' := hb
  blk_ext [iblk, V, idx1 t]

theorem blk2 (k : Fin 1024) : iblk m c 2 t (ix2 0 k) = m ((c : Thread nD τ).loc main_arg2) (ix2 0 k) := by
  have e : iblk m c 2 t (ix2 0 k) = V m c main_v38 (ix2 0 k) := by blk_ext [iblk, idx2 t]
  rw [e]
  entry_read
  pointwise

theorem blk4 (k : Fin 512) : iblk m c 4 t (ix2 0 k) = m ((c : Thread nD τ).loc main_arg4) (ix2 0 k) := by
  have e : iblk m c 4 t (ix2 0 k) = V m c main_v28 (ix2 0 k) := by blk_ext [iblk, idx4 t]
  rw [e]
  entry_read
  pointwise

theorem blk6 (k : Fin 256) : iblk m c 6 t (ix2 0 k) = m ((c : Thread nD τ).loc main_arg6) (ix2 0 k) := by
  have e : iblk m c 6 t (ix2 0 k) = V m c main_v30 (ix2 0 k) := by blk_ext [iblk, idx6 t]
  rw [e]
  entry_read
  pointwise

theorem blk3 (d k : Fin 1024) : iblk m c 3 t (ix2 d k) = V m c main_v27 (ix2 d k) := by blk_ext [iblk, idx3 t]
theorem blk5 (i : Fin 512) (k : Fin 2048) : iblk m c 5 t (ix2 i k) = V m c main_v29 (ix2 i k) := by blk_ext [iblk, idx5 t]
theorem blk7 (i : Fin 256) (k : Fin 2048) : iblk m c 7 t (ix2 i k) = V m c main_v32 (ix2 i k) := by blk_ext [iblk, idx7 t]
theorem blk8 (i : Fin 256) (k : Fin 1024) : iblk m c 8 t (ix2 i k) = V m c main_v35 (ix2 i k) := by blk_ext [iblk, idx8 t]

include hu in
theorem blk9 (l : Fin 128) : iblk m c 9 t (ix2 s l) = V m c main_v53 (ix2 u l) := by
  have hu' := hu
  blk_ext [iblk, idx9 t]

include hu in
theorem blk10 (l : Fin 128) : iblk m c 10 t (ix2 s l) = V m c main_v54 (ix2 u l) := by
  have hu' := hu
  blk_ext [iblk, idx10 t]

include hu in
theorem blk11 (l : Fin 128) : iblk m c 11 t (ix2 s l) = V m c main_v55 (ix2 u l) := by
  have hu' := hu
  blk_ext [iblk, idx11 t]

/-- The arguments' latent columns, at the row that the block's row `s` is. -/
abbrev latm (k : Fin 800) : EReal :=
  lat (m ((c : Thread nD τ).loc main_arg0)) (m ((c : Thread nD τ).loc main_arg1)) (m ((c : Thread nD τ).loc main_arg2)) (m ((c : Thread nD τ).loc main_arg3)) b u k

/-- The block's latent columns. -/
abbrev prowm (k : Fin 1024) : EReal := prow (iblk m c 0 t) (iblk m c 1 t) (iblk m c 2 t) (iblk m c 3 t) s k

include hb hu in
/-- A column of the block is the column of the arguments whose matrix column it was given. -/
theorem prow_eq (k : Fin 1024) (k' : Fin 800) (h : ∀ d, V m c main_v27 (ix2 d k) = m ((c : Thread nD τ).loc main_arg3) (ix3 0 d k')) :
    prowm m c t s k = latm m c b u k' := by
  unfold prowm latm prow lat hrow
  simp only [blk0 m c t b s u hb hu, blk1 m c t b hb, blk2 m c t, blk3 m c t, h]

include hb hu in
theorem cq_eq (i : Fin 512) : cq (iblk m c 0 t) (iblk m c 1 t) (iblk m c 2 t) (iblk m c 3 t) (iblk m c 4 t) s i
    = rms (Ideal.ofBits .f32 0x44000000#32) (fun i => (m ((c : Thread nD τ).loc main_arg4) : S1x512.Idx → EReal) (ix2 0 i)) (fun i => latm m c b u ⟨i.val, by omega⟩) i := by
  have h : ∀ i : Fin 512, prowm m c t s ⟨i.val, by omega⟩ = latm m c b u ⟨i.val, by omega⟩ :=
    fun i => prow_eq m c t b s u hb hu _ _ fun d => win_low m c d ⟨i.val, by omega⟩ _ rfl
  unfold cq
  simp only [h, blk4 m c t]

include hb hu in
theorem ckv_eq (i : Fin 256) : ckv (iblk m c 0 t) (iblk m c 1 t) (iblk m c 2 t) (iblk m c 3 t) (iblk m c 6 t) s i
    = rms (Ideal.ofBits .f32 0x43800000#32) (fun i => (m ((c : Thread nD τ).loc main_arg6) : S1x256.Idx → EReal) (ix2 0 i)) (fun i => latm m c b u ⟨512 + i.val, by omega⟩) i := by
  have h : ∀ i : Fin 256, prowm m c t s ⟨512 + i.val, by omega⟩ = latm m c b u ⟨512 + i.val, by omega⟩ :=
    fun i => prow_eq m c t b s u hb hu _ _ fun d => win_low m c d ⟨512 + i.val, by omega⟩ _ rfl
  unfold ckv
  simp only [h, blk6 m c t]

/-- The arguments' columns of the queries. -/
abbrev qcolm (k : Fin 1536) : EReal :=
  qcol (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) b u k

/-- The arguments' columns of the keys and values. -/
abbrev kvcolm (k : Fin 2048) : EReal :=
  kvcol (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg7)) b u k

include hb hu in
theorem dot_q (k : Fin 2048) (k' : Fin 1536) (h : ∀ i, V m c main_v29 (ix2 i k) = m ((c : Thread nD τ).loc main_arg5) (ix3 0 i k')) :
    dot (cq (iblk m c 0 t) (iblk m c 1 t) (iblk m c 2 t) (iblk m c 3 t) (iblk m c 4 t) s) (fun i => (iblk m c 5 t : Vec Ideal S512x2048 .bf16) (ix2 i k)) = qcolm m c b u k' := by
  unfold qcolm qcol dot
  simp only [cq_eq m c t b s u hb hu, blk5 m c t, h]

include hb hu in
theorem dot_k (k : Fin 2048) (k' : Fin 2048) (h : ∀ i, V m c main_v32 (ix2 i k) = m ((c : Thread nD τ).loc main_arg7) (ix3 0 i k')) :
    dot (ckv (iblk m c 0 t) (iblk m c 1 t) (iblk m c 2 t) (iblk m c 3 t) (iblk m c 6 t) s) (fun i => (iblk m c 7 t : Vec Ideal S256x2048 .bf16) (ix2 i k)) = kvcolm m c b u k' := by
  unfold kvcolm kvcol dot
  simp only [ckv_eq m c t b s u hb hu, blk7 m c t, h]

theorem dot_k_zero (k : Fin 2048) (h : ∀ i, V m c main_v32 (ix2 i k) = (0 : EReal)) :
    dot (ckv (iblk m c 0 t) (iblk m c 1 t) (iblk m c 2 t) (iblk m c 3 t) (iblk m c 6 t) s) (fun i => (iblk m c 7 t : Vec Ideal S256x2048 .bf16) (ix2 i k)) = 0 := by
  unfold dot
  simp only [blk7 m c t, h, mul_zero, Finset.sum_const_zero]

include hb hu in
theorem dot_v (k : Fin 1024) (k' : Fin 2048) (h : ∀ i, V m c main_v35 (ix2 i k) = m ((c : Thread nD τ).loc main_arg7) (ix3 0 i k')) :
    dot (ckv (iblk m c 0 t) (iblk m c 1 t) (iblk m c 2 t) (iblk m c 3 t) (iblk m c 6 t) s) (fun i => (iblk m c 8 t : Vec Ideal S256x1024 .bf16) (ix2 i k)) = kvcolm m c b u k' := by
  unfold kvcolm kvcol dot
  simp only [ckv_eq m c t b s u hb hu, blk8 m c t, h]

include hb hu in
theorem point_v (k : Fin 1024) :
    out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 s k)
      = vcol (m ((c : Thread nD τ).loc main_arg0)) (m ((c : Thread nD τ).loc main_arg1)) (m ((c : Thread nD τ).loc main_arg2)) (m ((c : Thread nD τ).loc main_arg3))
          (m ((c : Thread nD τ).loc main_arg6)) (m ((c : Thread nD τ).loc main_arg7)) b u k := by
  rw [block_v]
  exact dot_v m c t b s u hb hu k _ fun i => wv_own m c i ⟨k.val / 64, by omega⟩ ⟨k.val % 64, by omega⟩ k (by simp only; omega)

include hb hu in
theorem point_q (n : Fin 16) (l : Fin 128) :
    out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 n s l)
      = qhead (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg8)) (m ((c : Thread nD τ).loc main_arg9)) b u n l := by
  have hk : 128 * n.val + l.val < 2048 := by omega
  rw [block_q _ _ _ _ _ _ _ _ _ _ _ _ n s l ⟨128 * n.val + l.val, hk⟩ rfl, blk9 m c t s u hu]
  unfold qhead
  by_cases h : l.val < 64
  · rw [dif_pos h, tq_own m c u ⟨l.val, h⟩ l rfl, mul_one]
    exact dot_q m c t b s u hb hu _ _ fun i => wq_own m c i n ⟨l.val, by omega⟩ ⟨128 * n.val + l.val, hk⟩ rfl
  rw [dif_neg h]
  by_cases h' : l.val < 96
  · rw [dif_pos h']
    exact congrArg₂ (· * ·) (dot_q m c t b s u hb hu _ _ fun i => wq_own m c i n ⟨l.val, by omega⟩ ⟨128 * n.val + l.val, hk⟩ rfl) (tq_cos m c u ⟨l.val - 64, by omega⟩ l (by simp only; omega))
  · rw [dif_neg h']
    exact congrArg₂ (· * ·) (dot_q m c t b s u hb hu _ _ fun i => wq_partner m c i n ⟨l.val - 96, by omega⟩ ⟨128 * n.val + l.val, hk⟩ (by simp only; omega))
      (tq_sin m c u ⟨l.val - 96, by omega⟩ l (by simp only; omega))

include hb hu in
theorem rot_eq (l : Fin 128) (j : Fin 32) (h : l.val = 64 + j.val ∨ l.val = 96 + j.val) :
    rot (iblk m c 0 t) (iblk m c 1 t) (iblk m c 2 t) (iblk m c 3 t) (iblk m c 10 t) (iblk m c 11 t) s l
      = turned (m ((c : Thread nD τ).loc main_arg0)) (m ((c : Thread nD τ).loc main_arg1)) (m ((c : Thread nD τ).loc main_arg2)) (m ((c : Thread nD τ).loc main_arg3))
          (m ((c : Thread nD τ).loc main_arg8)) (m ((c : Thread nD τ).loc main_arg9)) b u j := by
  have e : prowm m c t s ⟨768 + l.val, by omega⟩ = latm m c b u ⟨768 + j.val, by omega⟩ :=
    prow_eq m c t b s u hb hu _ _ fun d => win_key m c d j _ (by simp only; omega)
  have e' : prowm m c t s ⟨896 + l.val, by omega⟩ = latm m c b u ⟨768 + (partner j).val, by omega⟩ :=
    prow_eq m c t b s u hb hu _ _ fun d => win_partner m c d j _ (by simp only; omega)
  unfold rot turned
  rw [blk10 m c t s u hu, blk11 m c t s u hu, tc_cos m c u j l h, ts_sin m c u j l h]
  exact congrArg₂ (· + ·) (congrArg (· * _) e) (congrArg (· * _) e')

theorem rot_zero (u : Fin 4096) (hu : u.val = 512 * (t.val % 8) + s.val) (l : Fin 128) (h : l.val < 64) :
    rot (iblk m c 0 t) (iblk m c 1 t) (iblk m c 2 t) (iblk m c 3 t) (iblk m c 10 t) (iblk m c 11 t) s l = 0 := by
  unfold rot
  rw [blk10 m c t s u hu, blk11 m c t s u hu, tc_own m c u ⟨l.val, h⟩ l rfl, ts_own m c u ⟨l.val, h⟩ l rfl, mul_zero, mul_zero, add_zero]

include hb hu in
theorem point_k (n : Fin 16) (l : Fin 128) :
    out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix4 0 n s l)
      = khead (m ((c : Thread nD τ).loc main_arg0)) (m ((c : Thread nD τ).loc main_arg1)) (m ((c : Thread nD τ).loc main_arg2)) (m ((c : Thread nD τ).loc main_arg3))
          (m ((c : Thread nD τ).loc main_arg6)) (m ((c : Thread nD τ).loc main_arg7)) (m ((c : Thread nD τ).loc main_arg8)) (m ((c : Thread nD τ).loc main_arg9)) b u n l := by
  have hk : 128 * n.val + l.val < 2048 := by omega
  rw [block_k _ _ _ _ _ _ _ _ _ _ _ _ n s l ⟨128 * n.val + l.val, hk⟩ rfl]
  unfold khead
  by_cases h : l.val < 64
  · rw [dif_pos h, rot_zero m c t s u hu l h, add_zero]
    exact dot_k m c t b s u hb hu _ _ fun i => wk_own m c i n ⟨l.val, h⟩ ⟨128 * n.val + l.val, hk⟩ rfl
  · rw [dif_neg h, dot_k_zero m c t s _ fun i => wk_rest m c i n ⟨l.val - 64, by omega⟩ _ (by simp only; omega),
      rot_eq m c t b s u hb hu l ⟨(l.val - 64) % 32, by omega⟩ (by simp only; omega), zero_add]

end Blocks

theorem final_q (c : Dev nD) : (dats m 0 c).arrAt 12 (cfgs 0).N
    = qArr (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg8)) (m ((c : Thread nD τ).loc main_arg9)) := by
  refine (dats m 0 c).arrAt_eq_of_covers 12 _ (by decide +kernel) fun t _ y => ?_
  blk_simp
  rw [after0_12]
  idx_vars y
  rw [show y0 = 0 from Subsingleton.elim _ _]
  have ht : t.val < 32 := lt_of_lt_of_eq t.isLt (by decide +kernel)
  have e : ((View.whole main_v56_0).slice (win0_12.rect t)).emb (ix4 0 y1 y2 y3)
      = (ix4 (⟨t.val / 8, by omega⟩ : Fin 4) y1 (⟨512 * (t.val % 8) + y2.val, by omega⟩ : Fin 4096) y3 : S4x16x4096x128.Idx) := by
    blk_ext [idx12 t]
  rw [e]
  exact point_q m c t _ y2 _ rfl rfl y1 y3

theorem final_k (c : Dev nD) : (dats m 0 c).arrAt 13 (cfgs 0).N
    = kArr (m ((c : Thread nD τ).loc main_arg0)) (m ((c : Thread nD τ).loc main_arg1)) (m ((c : Thread nD τ).loc main_arg2)) (m ((c : Thread nD τ).loc main_arg3))
        (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t _ y => ?_
  blk_simp
  rw [after0_13]
  idx_vars y
  rw [show y0 = 0 from Subsingleton.elim _ _]
  have ht : t.val < 32 := lt_of_lt_of_eq t.isLt (by decide +kernel)
  have e : ((View.whole main_v56_1).slice (win0_13.rect t)).emb (ix4 0 y1 y2 y3)
      = (ix4 (⟨t.val / 8, by omega⟩ : Fin 4) y1 (⟨512 * (t.val % 8) + y2.val, by omega⟩ : Fin 4096) y3 : S4x16x4096x128.Idx) := by
    blk_ext [idx13 t]
  rw [e]
  exact point_k m c t _ y2 _ rfl rfl y1 y3

theorem final_v (c : Dev nD) : (dats m 0 c).arrAt 14 (cfgs 0).N
    = vArr (m ((c : Thread nD τ).loc main_arg0)) (m ((c : Thread nD τ).loc main_arg1)) (m ((c : Thread nD τ).loc main_arg2)) (m ((c : Thread nD τ).loc main_arg3))
        (m ((c : Thread nD τ).loc main_arg6)) (m ((c : Thread nD τ).loc main_arg7)) := by
  refine (dats m 0 c).arrAt_eq_of_covers 14 _ (by decide +kernel) fun t _ y => ?_
  blk_simp
  rw [after0_14]
  idx_vars y
  rw [show y0 = 0 from Subsingleton.elim _ _]
  have ht : t.val < 32 := lt_of_lt_of_eq t.isLt (by decide +kernel)
  have e : ((View.whole main_v56_2).slice (win0_14.rect t)).emb (ix3 0 y1 y2)
      = (ix3 (⟨t.val / 8, by omega⟩ : Fin 4) (⟨512 * (t.val % 8) + y1.val, by omega⟩ : Fin 4096) y2 : S4x4096x1024.Idx) := by
    blk_ext [idx14 t]
  rw [e]
  exact point_v m c t _ y1 _ rfl rfl y2

end Cert.MlaProjIdeal.Row

end
-- ==== Proof.QkvRef.lean ====
/- The latent projection's plain form, read at an index: its latent columns, queries, keys and values. -/
module

public import proofs.«01_k».proof.Proof.QkvOut
public import proofs.«01_k».proof.Proof.Gen.LatentQkvIdeal
public import proofs.«01_k».proof.Proof.Gen.LatentQkvIdeal.Read
public import Idealize.ShloMosaic.Lib.Pointwise

@[expose] public section

set_option maxRecDepth 16384

noncomputable section

namespace Cert.LatentQkvIdeal.Row

open Idealize.ShloMosaic Idealize.ShloMosaic.TcCoe Idealize.SL.Sem
open Cert.LatentQkvIdeal Cert.LatentQkvIdeal.Gen Cert.LatentQkvIdeal.Read Cert.RowMath
open Cert.MlaProjIdeal.Row (dot lat qcol kvcol qhead khead vcol turned sines freq partner lane_cases)

variable (X : FVec Ideal S4x4096x1024 .f32) (M : FVec Ideal S4x6x1024 .f32) (G : FVec Ideal S2x1024 .f32) (W : FVec Ideal S1x1024x800 .f32)
  (QN : FVec Ideal S1x512 .f32) (UQ : FVec Ideal S1x512x1536 .f32) (KN : FVec Ideal S1x256 .f32) (UK : FVec Ideal S1x256x2048 .f32)
  (C S : FVec Ideal S4096x16 .f32) (b : Fin 4) (t : Fin 4096)

theorem mod_apply (c : Fin 1024) : val_main_v26 (F := Ideal) X M G (ix3 b t c)
    = modulate (fun c => G (ix2 0 c)) (fun c => M (ix3 b 1 c)) (fun c => M (ix3 b 0 c)) (fun c => X (ix3 b t c)) c := by
  unfold modulate rms
  pointwise [val_main_v26, val_main_v25, val_main_v24, val_main_v23, val_main_v22, val_main_v21, val_main_cst_2, val_main_v20, val_main_v19,
    val_main_v18, val_main_v17, val_main_v16, val_main_v15, val_main_v14, val_main_v13, val_main_cst_1, val_main_v12, val_main_v11, val_main_cst_0,
    val_main_v10, val_main_v9, val_main_cst, val_main_v8, val_main_v7, val_main_v6, val_main_v1, val_main_v0]

theorem lat_apply (k : Fin 800) : val_main_v28 (F := Ideal) X M G W (ix3 b t k) = lat X M G W b t k := by
  have e : val_main_v28 (F := Ideal) X M G W (ix3 b t k) = ∑ d : Fin 1024, val_main_v26 (F := Ideal) X M G (ix3 b t d) * W (ix3 0 d k) := by
    unfold val_main_v28
    generalize val_main_v26 (F := Ideal) X M G = y
    pointwise [val_main_v27]
  rw [e]
  simp only [mod_apply]
  rfl

theorem qlat_apply (i : Fin 512) : val_main_v29 (F := Ideal) X M G W (ix3 b t i) = lat X M G W b t ⟨i.val, by omega⟩ := by
  rw [← lat_apply]
  unfold val_main_v29
  generalize val_main_v28 (F := Ideal) X M G W = y
  pointwise

theorem kvlat_apply (i : Fin 256) : val_main_v30 (F := Ideal) X M G W (ix3 b t i) = lat X M G W b t ⟨512 + i.val, by omega⟩ := by
  rw [← lat_apply]
  unfold val_main_v30
  generalize val_main_v28 (F := Ideal) X M G W = y
  pointwise

theorem krlat_apply (j : Fin 32) : val_main_v31 (F := Ideal) X M G W (ix3 b t j) = lat X M G W b t ⟨768 + j.val, by omega⟩ := by
  rw [← lat_apply]
  unfold val_main_v31
  generalize val_main_v28 (F := Ideal) X M G W = y
  pointwise

theorem qnorm_apply (i : Fin 512) : val_main_v45 (F := Ideal) X M G W QN (ix3 b t i)
    = rms (Ideal.ofBits .f32 0x44000000#32) (fun i => QN (ix2 0 i)) (fun i => lat X M G W b t ⟨i.val, by omega⟩) i := by
  simp only [← qlat_apply]
  unfold rms val_main_v45 val_main_v42 val_main_v41 val_main_v40 val_main_v39 val_main_v37 val_main_v35 val_main_v34 val_main_v33
  generalize val_main_v29 (F := Ideal) X M G W = y
  pointwise [val_main_v32, val_main_cst_3, val_main_cst_4, val_main_v36, val_main_cst_5, val_main_v38, val_main_v43, val_main_v44]

theorem kvnorm_apply (i : Fin 256) : val_main_v62 (F := Ideal) X M G W KN (ix3 b t i)
    = rms (Ideal.ofBits .f32 0x43800000#32) (fun i => KN (ix2 0 i)) (fun i => lat X M G W b t ⟨512 + i.val, by omega⟩) i := by
  simp only [← kvlat_apply]
  unfold rms val_main_v62 val_main_v59 val_main_v58 val_main_v57 val_main_v56 val_main_v54 val_main_v52 val_main_v51 val_main_v50
  generalize val_main_v30 (F := Ideal) X M G W = y
  pointwise [val_main_v49, val_main_cst_6, val_main_cst_7, val_main_v53, val_main_cst_8, val_main_v55, val_main_v60, val_main_v61]

theorem qcol_apply (n : Fin 16) (l : Fin 96) : val_main_v48 (F := Ideal) X M G W QN UQ (ix4 b t n l) = qcol X M G W QN UQ b t ⟨96 * n.val + l.val, by omega⟩ := by
  have e : ∀ k, val_main_v47 (F := Ideal) X M G W QN UQ (ix3 b t k) = ∑ i : Fin 512, val_main_v45 (F := Ideal) X M G W QN (ix3 b t i) * UQ (ix3 0 i k) := by
    intro k
    unfold val_main_v47
    generalize val_main_v45 (F := Ideal) X M G W QN = y
    pointwise [val_main_v46]
  have e' : val_main_v48 (F := Ideal) X M G W QN UQ (ix4 b t n l) = val_main_v47 (F := Ideal) X M G W QN UQ (ix3 b t ⟨96 * n.val + l.val, by omega⟩) := by
    unfold val_main_v48
    generalize val_main_v47 (F := Ideal) X M G W QN UQ = y
    pointwise
    exact congrArg y (congrArg (ix3 b t) (Fin.ext (by simp only; omega)))
  rw [e', e]
  simp only [qnorm_apply]
  rfl

theorem kvcol_apply (n : Fin 16) (l : Fin 128) : val_main_v65 (F := Ideal) X M G W KN UK (ix4 b t n l) = kvcol X M G W KN UK b t ⟨128 * n.val + l.val, by omega⟩ := by
  have e : ∀ k, val_main_v64 (F := Ideal) X M G W KN UK (ix3 b t k) = ∑ i : Fin 256, val_main_v62 (F := Ideal) X M G W KN (ix3 b t i) * UK (ix3 0 i k) := by
    intro k
    unfold val_main_v64
    generalize val_main_v62 (F := Ideal) X M G W KN = y
    pointwise [val_main_v63]
  have e' : val_main_v65 (F := Ideal) X M G W KN UK (ix4 b t n l) = val_main_v64 (F := Ideal) X M G W KN UK (ix3 b t ⟨128 * n.val + l.val, by omega⟩) := by
    unfold val_main_v65
    generalize val_main_v64 (F := Ideal) X M G W KN UK = y
    pointwise
    exact congrArg y (congrArg (ix3 b t) (Fin.ext (by simp only; omega)))
  rw [e', e]
  simp only [kvnorm_apply]
  rfl

theorem v_apply (k : Fin 1024) : val_main_v140 (F := Ideal) X M G W KN UK (ix3 b t k) = vcol X M G W KN UK b t k := by
  unfold vcol
  refine Eq.trans ?_ (kvcol_apply X M G W KN UK b t ⟨k.val / 64, by omega⟩ ⟨64 + k.val % 64, by omega⟩)
  unfold val_main_v140 val_main_v139 val_main_v67
  generalize val_main_v65 (F := Ideal) X M G W KN UK = y
  pointwise

end Cert.LatentQkvIdeal.Row

end
-- ==== Proof.QkvTurn.lean ====
/- The latent projection's plain form, read at an index: rotary positions, and the heads' queries and keys. -/
module

public import proofs.«01_k».proof.Proof.QkvRef

@[expose] public section

set_option maxRecDepth 16384

noncomputable section

namespace Cert.LatentQkvIdeal.Row

open Idealize.ShloMosaic Idealize.ShloMosaic.TcCoe Idealize.SL.Sem
open Cert.LatentQkvIdeal Cert.LatentQkvIdeal.Gen Cert.LatentQkvIdeal.Read Cert.RowMath
open Cert.MlaProjIdeal.Row (dot lat qcol kvcol qhead khead vcol turned sines freq partner lane_cases)

section Lanes

variable (y : Fin 32 → EReal) (T : S4096x16.Idx → EReal) (t : Fin 4096) (j p : Fin 32) (q : Fin 16) (hq : q.val = j.val / 16 * 8 + j.val % 8)
include hq

theorem lane_cos : y j * T (ix2 t q) = y j * T (ix2 t (freq j)) := by rw [show freq j = q from Fin.ext hq.symm]

theorem lane_first (h : j.val % 16 < 8) (hp : p.val = j.val + 8) : -(y p * T (ix2 t q)) = y (partner j) * sines T t j := by
  rw [show partner j = p from Fin.ext (by rw [hp]; exact if_pos h), sines, if_pos h, show freq j = q from Fin.ext hq.symm, mul_neg]

theorem lane_second (h : ¬ j.val % 16 < 8) (hp : p.val = j.val - 8) : y p * T (ix2 t q) = y (partner j) * sines T t j := by
  rw [show partner j = p from Fin.ext (by rw [hp]; exact if_neg h), sines, if_neg h, show freq j = q from Fin.ext hq.symm]

end Lanes

section Pieces

variable (b : Fin 4) (t : Fin 4096) (n : Fin 16) (j : Fin 32) (e : Fin 8)

section Queries
variable (a₁ a₂ a₃ a₄ : FVec Ideal S4x4096x16x8 .f32)

/-- The rotary lanes of all heads. -/
abbrev qcat : FVec Ideal S4x4096x16x32 .f32 := concatenate S4x4096x16x32 3 [⟨S4x4096x16x8, a₁⟩, ⟨S4x4096x16x8, a₂⟩, ⟨S4x4096x16x8, a₃⟩, ⟨S4x4096x16x8, a₄⟩]
  concatenates_S4x4096x16x8_S4x4096x16x8_S4x4096x16x8_S4x4096x16x8_S4x4096x16x32_d3

theorem qcat_1 : qcat a₁ a₂ a₃ a₄ (ix4 b t n ⟨e.val, by omega⟩) = a₁ (ix4 b t n e) := by
  unfold qcat; pointwise

theorem qcat_2 : qcat a₁ a₂ a₃ a₄ (ix4 b t n ⟨8 + e.val, by omega⟩) = a₂ (ix4 b t n e) := by
  unfold qcat; pointwise

theorem qcat_3 : qcat a₁ a₂ a₃ a₄ (ix4 b t n ⟨16 + e.val, by omega⟩) = a₃ (ix4 b t n e) := by
  unfold qcat; pointwise
  rw [dif_neg (by omega), dif_neg (by omega), dif_pos (by omega)]
  exact congrArg a₃ (congrArg (ix4 b t n) (Fin.ext (by simp only; omega)))

theorem qcat_4 : qcat a₁ a₂ a₃ a₄ (ix4 b t n ⟨24 + e.val, by omega⟩) = a₄ (ix4 b t n e) := by
  unfold qcat; pointwise
  rw [dif_neg (by omega), dif_neg (by omega), dif_neg (by omega)]
  exact congrArg a₄ (congrArg (ix4 b t n) (Fin.ext (by simp only; omega)))

end Queries

section Keys
variable (a₁ a₂ a₃ a₄ : FVec Ideal S4x4096x1x8 .f32)

/-- The rotary lanes of the keys, common to the heads. -/
abbrev kcat : FVec Ideal S4x4096x1x32 .f32 := concatenate S4x4096x1x32 3 [⟨S4x4096x1x8, a₁⟩, ⟨S4x4096x1x8, a₂⟩, ⟨S4x4096x1x8, a₃⟩, ⟨S4x4096x1x8, a₄⟩]
  concatenates_S4x4096x1x8_S4x4096x1x8_S4x4096x1x8_S4x4096x1x8_S4x4096x1x32_d3

theorem kcat_1 : kcat a₁ a₂ a₃ a₄ (ix4 b t 0 ⟨e.val, by omega⟩) = a₁ (ix4 b t 0 e) := by
  unfold kcat; pointwise

theorem kcat_2 : kcat a₁ a₂ a₃ a₄ (ix4 b t 0 ⟨8 + e.val, by omega⟩) = a₂ (ix4 b t 0 e) := by
  unfold kcat; pointwise

theorem kcat_3 : kcat a₁ a₂ a₃ a₄ (ix4 b t 0 ⟨16 + e.val, by omega⟩) = a₃ (ix4 b t 0 e) := by
  unfold kcat; pointwise
  rw [dif_neg (by omega), dif_neg (by omega), dif_pos (by omega)]
  exact congrArg a₃ (congrArg (ix4 b t 0) (Fin.ext (by simp only; omega)))

theorem kcat_4 : kcat a₁ a₂ a₃ a₄ (ix4 b t 0 ⟨24 + e.val, by omega⟩) = a₄ (ix4 b t 0 e) := by
  unfold kcat; pointwise
  rw [dif_neg (by omega), dif_neg (by omega), dif_neg (by omega)]
  exact congrArg a₄ (congrArg (ix4 b t 0) (Fin.ext (by simp only; omega)))

end Keys

section Heads
variable (a : FVec Ideal S4x4096x16x64 .f32) (u v : FVec Ideal S4x4096x16x32 .f32)

/-- The lanes of all heads: the plain ones, then two rotary blocks. -/
abbrev hcat : FVec Ideal S4x4096x16x128 .f32 := concatenate S4x4096x16x128 3 [⟨S4x4096x16x64, a⟩, ⟨S4x4096x16x32, u⟩, ⟨S4x4096x16x32, v⟩]
  concatenates_S4x4096x16x64_S4x4096x16x32_S4x4096x16x32_S4x4096x16x128_d3

theorem hcat_a (l : Fin 128) (h : l.val < 64) : hcat a u v (ix4 b t n l) = a (ix4 b t n ⟨l.val, h⟩) := by
  unfold hcat; pointwise
  rw [dif_pos h]

theorem hcat_u (l : Fin 128) (h : ¬ l.val < 64) (h' : l.val < 96) : hcat a u v (ix4 b t n l) = u (ix4 b t n ⟨l.val - 64, by omega⟩) := by
  unfold hcat; pointwise
  rw [dif_neg h, dif_pos (by omega)]

theorem hcat_v (l : Fin 128) (h : ¬ l.val < 64) (h' : ¬ l.val < 96) : hcat a u v (ix4 b t n l) = v (ix4 b t n ⟨l.val - 96, by omega⟩) := by
  unfold hcat; pointwise
  rw [dif_neg h, dif_neg (by omega)]
  exact congrArg v (congrArg (ix4 b t n) (Fin.ext (by simp only; omega)))

end Heads

end Pieces

variable (X : FVec Ideal S4x4096x1024 .f32) (M : FVec Ideal S4x6x1024 .f32) (G : FVec Ideal S2x1024 .f32) (W : FVec Ideal S1x1024x800 .f32)
  (QN : FVec Ideal S1x512 .f32) (UQ : FVec Ideal S1x512x1536 .f32) (KN : FVec Ideal S1x256 .f32) (UK : FVec Ideal S1x256x2048 .f32)
  (C S : FVec Ideal S4096x16 .f32) (b : Fin 4) (t : Fin 4096) (n : Fin 16) (j : Fin 32)

theorem qturned_apply : val_main_v98 (F := Ideal) X M G W QN UQ C (ix4 b t n j) = val_main_v69 (F := Ideal) X M G W QN UQ (ix4 b t n j) * C (ix2 t (freq j)) := by
  unfold val_main_v98
  revert j
  refine lane_cases (fun e => ?_) (fun e => ?_) (fun e => ?_) (fun e => ?_)
  · refine (qcat_1 b t n e _ _ _ _).trans ?_
    unfold val_main_v77 val_main_v72
    generalize val_main_v69 (F := Ideal) X M G W QN UQ = y
    pointwise [val_main_v76, val_main_v74, val_main_v70]
    exact lane_cos (fun q => y (ix4 b t n q)) C t _ _ (by simp only; omega)
  · refine (qcat_2 b t n e _ _ _ _).trans ?_
    unfold val_main_v79 val_main_v73
    generalize val_main_v69 (F := Ideal) X M G W QN UQ = y
    pointwise [val_main_v78, val_main_v74, val_main_v70]
    exact lane_cos (fun q => y (ix4 b t n q)) C t _ _ (by simp only; omega)
  · refine (qcat_3 b t n e _ _ _ _).trans ?_
    unfold val_main_v90 val_main_v85
    generalize val_main_v69 (F := Ideal) X M G W QN UQ = y
    pointwise [val_main_v89, val_main_v87, val_main_v70]
    exact lane_cos (fun q => y (ix4 b t n q)) C t _ _ (by simp only; omega)
  · refine (qcat_4 b t n e _ _ _ _).trans ?_
    unfold val_main_v92 val_main_v86
    generalize val_main_v69 (F := Ideal) X M G W QN UQ = y
    pointwise [val_main_v91, val_main_v87, val_main_v70]
    exact lane_cos (fun q => y (ix4 b t n q)) C t _ _ (by simp only; omega)

theorem qcrossed_apply : val_main_v99 (F := Ideal) X M G W QN UQ S (ix4 b t n j) = val_main_v69 (F := Ideal) X M G W QN UQ (ix4 b t n (partner j)) * sines S t j := by
  unfold val_main_v99
  revert j
  refine lane_cases (fun e => ?_) (fun e => ?_) (fun e => ?_) (fun e => ?_)
  · refine (qcat_1 b t n e _ _ _ _).trans ?_
    unfold val_main_v82 val_main_v81 val_main_v73
    generalize val_main_v69 (F := Ideal) X M G W QN UQ = y
    pointwise [val_main_v80, val_main_v75, val_main_v71]
    exact lane_first (fun q => y (ix4 b t n q)) S t _ _ _ (by simp only; omega) (by simp only; omega) (by simp only; omega)
  · refine (qcat_2 b t n e _ _ _ _).trans ?_
    unfold val_main_v84 val_main_v72
    generalize val_main_v69 (F := Ideal) X M G W QN UQ = y
    pointwise [val_main_v83, val_main_v75, val_main_v71]
    exact lane_second (fun q => y (ix4 b t n q)) S t _ _ _ (by simp only; omega) (by simp only; omega) (by simp only; omega)
  · refine (qcat_3 b t n e _ _ _ _).trans ?_
    unfold val_main_v95 val_main_v94 val_main_v86
    generalize val_main_v69 (F := Ideal) X M G W QN UQ = y
    pointwise [val_main_v93, val_main_v88, val_main_v71]
    exact lane_first (fun q => y (ix4 b t n q)) S t _ _ _ (by simp only; omega) (by simp only; omega) (by simp only; omega)
  · refine (qcat_4 b t n e _ _ _ _).trans ?_
    unfold val_main_v97 val_main_v85
    generalize val_main_v69 (F := Ideal) X M G W QN UQ = y
    pointwise [val_main_v96, val_main_v88, val_main_v71]
    exact lane_second (fun q => y (ix4 b t n q)) S t _ _ _ (by simp only; omega) (by simp only; omega) (by simp only; omega)

theorem kturned_apply : val_main_v129 (F := Ideal) X M G W C (ix4 b t 0 j) = val_main_v100 (F := Ideal) X M G W (ix4 b t 0 j) * C (ix2 t (freq j)) := by
  unfold val_main_v129
  revert j
  refine lane_cases (fun e => ?_) (fun e => ?_) (fun e => ?_) (fun e => ?_)
  · refine (kcat_1 b t e _ _ _ _).trans ?_
    unfold val_main_v108 val_main_v103
    generalize val_main_v100 (F := Ideal) X M G W = y
    pointwise [val_main_v107, val_main_v105, val_main_v101]
    exact lane_cos (fun q => y (ix4 b t 0 q)) C t _ _ (by simp only; omega)
  · refine (kcat_2 b t e _ _ _ _).trans ?_
    unfold val_main_v110 val_main_v104
    generalize val_main_v100 (F := Ideal) X M G W = y
    pointwise [val_main_v109, val_main_v105, val_main_v101]
    exact lane_cos (fun q => y (ix4 b t 0 q)) C t _ _ (by simp only; omega)
  · refine (kcat_3 b t e _ _ _ _).trans ?_
    unfold val_main_v121 val_main_v116
    generalize val_main_v100 (F := Ideal) X M G W = y
    pointwise [val_main_v120, val_main_v118, val_main_v101]
    exact lane_cos (fun q => y (ix4 b t 0 q)) C t _ _ (by simp only; omega)
  · refine (kcat_4 b t e _ _ _ _).trans ?_
    unfold val_main_v123 val_main_v117
    generalize val_main_v100 (F := Ideal) X M G W = y
    pointwise [val_main_v122, val_main_v118, val_main_v101]
    exact lane_cos (fun q => y (ix4 b t 0 q)) C t _ _ (by simp only; omega)

theorem kcrossed_apply : val_main_v130 (F := Ideal) X M G W S (ix4 b t 0 j) = val_main_v100 (F := Ideal) X M G W (ix4 b t 0 (partner j)) * sines S t j := by
  unfold val_main_v130
  revert j
  refine lane_cases (fun e => ?_) (fun e => ?_) (fun e => ?_) (fun e => ?_)
  · refine (kcat_1 b t e _ _ _ _).trans ?_
    unfold val_main_v113 val_main_v112 val_main_v104
    generalize val_main_v100 (F := Ideal) X M G W = y
    pointwise [val_main_v111, val_main_v106, val_main_v102]
    exact lane_first (fun q => y (ix4 b t 0 q)) S t _ _ _ (by simp only; omega) (by simp only; omega) (by simp only; omega)
  · refine (kcat_2 b t e _ _ _ _).trans ?_
    unfold val_main_v115 val_main_v103
    generalize val_main_v100 (F := Ideal) X M G W = y
    pointwise [val_main_v114, val_main_v106, val_main_v102]
    exact lane_second (fun q => y (ix4 b t 0 q)) S t _ _ _ (by simp only; omega) (by simp only; omega) (by simp only; omega)
  · refine (kcat_3 b t e _ _ _ _).trans ?_
    unfold val_main_v126 val_main_v125 val_main_v117
    generalize val_main_v100 (F := Ideal) X M G W = y
    pointwise [val_main_v124, val_main_v119, val_main_v102]
    exact lane_first (fun q => y (ix4 b t 0 q)) S t _ _ _ (by simp only; omega) (by simp only; omega) (by simp only; omega)
  · refine (kcat_4 b t e _ _ _ _).trans ?_
    unfold val_main_v128 val_main_v116
    generalize val_main_v100 (F := Ideal) X M G W = y
    pointwise [val_main_v127, val_main_v119, val_main_v102]
    exact lane_second (fun q => y (ix4 b t 0 q)) S t _ _ _ (by simp only; omega) (by simp only; omega) (by simp only; omega)

theorem qrope_apply : val_main_v69 (F := Ideal) X M G W QN UQ (ix4 b t n j) = qcol X M G W QN UQ b t ⟨96 * n.val + (64 + j.val), by omega⟩ := by
  refine Eq.trans ?_ (qcol_apply X M G W QN UQ b t n ⟨64 + j.val, by omega⟩)
  unfold val_main_v69
  generalize val_main_v48 (F := Ideal) X M G W QN UQ = y
  pointwise

theorem krope_apply : val_main_v100 (F := Ideal) X M G W (ix4 b t 0 j) = lat X M G W b t ⟨768 + j.val, by omega⟩ := by
  rw [← krlat_apply]
  unfold val_main_v100
  generalize val_main_v31 (F := Ideal) X M G W = y
  pointwise

theorem turned_apply : val_main_v132 (F := Ideal) X M G W C S (ix4 b t n j) = turned X M G W C S b t j := by
  have e : val_main_v132 (F := Ideal) X M G W C S (ix4 b t n j) = val_main_v129 (F := Ideal) X M G W C (ix4 b t 0 j) + val_main_v130 (F := Ideal) X M G W S (ix4 b t 0 j) := by
    unfold val_main_v132 val_main_v131
    generalize val_main_v129 (F := Ideal) X M G W C = y
    generalize val_main_v130 (F := Ideal) X M G W S = y'
    pointwise
  rw [e, kturned_apply, kcrossed_apply, krope_apply, krope_apply]
  rfl

theorem q_apply (l : Fin 128) : val_main_v137 (F := Ideal) X M G W QN UQ C S (ix4 b n t l) = qhead X M G W QN UQ C S b t n l := by
  have e : val_main_v137 (F := Ideal) X M G W QN UQ C S (ix4 b n t l) = val_main_v133 (F := Ideal) X M G W QN UQ C S (ix4 b t n l) := by
    unfold val_main_v137 val_main_v134
    generalize val_main_v133 (F := Ideal) X M G W QN UQ C S = y
    pointwise
  rw [e]
  unfold val_main_v133 qhead
  by_cases h : l.val < 64
  · rw [dif_pos h]
    refine (hcat_a b t n _ _ _ l h).trans (Eq.trans ?_ (qcol_apply X M G W QN UQ b t n ⟨l.val, by omega⟩))
    unfold val_main_v68
    generalize val_main_v48 (F := Ideal) X M G W QN UQ = y
    pointwise
  rw [dif_neg h]
  by_cases h' : l.val < 96
  · rw [dif_pos h']
    refine (hcat_u b t n _ _ _ l h h').trans ((qturned_apply X M G W QN UQ C b t n _).trans (congrArg (· * _) ((qrope_apply X M G W QN UQ b t n _).trans ?_)))
    exact congrArg (qcol X M G W QN UQ b t) (Fin.ext (by simp only; omega))
  · rw [dif_neg h']
    exact (hcat_v b t n _ _ _ l h h').trans ((qcrossed_apply X M G W QN UQ S b t n _).trans (congrArg (· * _) (qrope_apply X M G W QN UQ b t n _)))

theorem k_apply (l : Fin 128) : val_main_v138 (F := Ideal) X M G W KN UK C S (ix4 b n t l) = khead X M G W KN UK C S b t n l := by
  have e : val_main_v138 (F := Ideal) X M G W KN UK C S (ix4 b n t l) = val_main_v135 (F := Ideal) X M G W KN UK C S (ix4 b t n l) := by
    unfold val_main_v138 val_main_v136
    generalize val_main_v135 (F := Ideal) X M G W KN UK C S = y
    pointwise
  rw [e]
  unfold val_main_v135 khead
  by_cases h : l.val < 64
  · rw [dif_pos h]
    refine (hcat_a b t n _ _ _ l h).trans (Eq.trans ?_ (kvcol_apply X M G W KN UK b t n l))
    unfold val_main_v66
    generalize val_main_v65 (F := Ideal) X M G W KN UK = y
    pointwise
  rw [dif_neg h]
  by_cases h' : l.val < 96
  · refine (hcat_u b t n _ _ _ l h h').trans ((turned_apply X M G W C S b t n _).trans ?_)
    exact congrArg (turned X M G W C S b t) (Fin.ext (by simp only; omega))
  · refine (hcat_v b t n _ _ _ l h h').trans ((turned_apply X M G W C S b t n _).trans ?_)
    exact congrArg (turned X M G W C S b t) (Fin.ext (by simp only; omega))

end Cert.LatentQkvIdeal.Row

end
-- ==== Proof.QkvClaim.lean ====
/- The latent projection and its plain form end with the same three arrays. -/
module

public import proofs.«01_k».proof.Proof.QkvTurn
public import proofs.«01_k».proof.Proof.Gen.MlaProj
public import proofs.«01_k».proof.Proof.Gen.MlaProj.Frame
public import proofs.«01_k».proof.Proof.Gen.LatentQkvIdeal.Run
public import proofs.«01_k».proof.Defs
public import Idealize.ShloMosaic.Lib.Pointwise
public import Idealize.ShloMosaic.Lib.Claim

@[expose] public section

set_option maxRecDepth 16384

noncomputable section

namespace Cert.LatentQkvIdeal.Row

open Idealize.ShloMosaic Idealize.ShloMosaic.TcCoe Idealize.SL.Sem

theorem frame : Cert.quiescent_LatentQkvIdeal := by
  intro m g _
  run_from Cert.LatentQkvIdeal.Value.run m g
  · exact fun _ => by simp only [and_self]
  · exact sem_eq_zero_of_no_sems (sig := Cert.LatentQkvIdeal.sig) (by decide) _

end Cert.LatentQkvIdeal.Row

namespace Cert.MlaProjIdeal.Row

open Idealize.ShloMosaic Idealize.ShloMosaic.TcCoe Idealize.SL.Sem
open Cert.MlaProjIdeal Cert.MlaProjIdeal.Gen

theorem frame_bits : Cert.quiescent_MlaProj := fun m g _ => Cert.MlaProj.Gen.frame m g

theorem frame_ideal : Cert.quiescent_MlaProjIdeal := fun m g _ => Cert.MlaProjIdeal.Gen.frame m g

set_option maxHeartbeats 4000000 in
theorem algebraic : Cert.algebraic_MlaProjIdeal_LatentQkvIdeal := by
  pair_intro
  · run_from run_main m g
    all_goals first | exact V_main_arg2 m c | exact V_main_arg3 m c | exact V_main_arg4 m c | exact V_main_arg5 m c | exact V_main_arg6 m c | exact V_main_arg7 m c | exact V_main_arg8 m c | exact V_main_arg9 m c
  · run_from Cert.LatentQkvIdeal.Value.run m' g'
    · refine (Cert.LatentQkvIdeal.Read.val_main_v137_eq _ _).trans ?_
      rw [final_q m c]
      obtain ⟨a0, a1, a2, a3, a4, a5, _, _, a8, a9⟩ := hagree c
      rw [a0, a1, a2, a3, a4, a5, a8, a9]
      funext y
      idx_vars y
      exact Cert.LatentQkvIdeal.Row.q_apply _ _ _ _ _ _ _ _ y0 y2 y1 y3
    · refine (Cert.LatentQkvIdeal.Read.val_main_v138_eq _ _).trans ?_
      rw [final_k m c]
      obtain ⟨a0, a1, a2, a3, _, _, a6, a7, a8, a9⟩ := hagree c
      rw [a0, a1, a2, a3, a6, a7, a8, a9]
      funext y
      idx_vars y
      exact Cert.LatentQkvIdeal.Row.k_apply _ _ _ _ _ _ _ _ y0 y2 y1 y3
    · refine (Cert.LatentQkvIdeal.Read.val_main_v140_eq _ _).trans ?_
      rw [final_v m c]
      obtain ⟨a0, a1, a2, a3, _, _, a6, a7, _, _⟩ := hagree c
      rw [a0, a1, a2, a3, a6, a7]
      funext y
      idx_vars y
      exact Cert.LatentQkvIdeal.Row.v_apply _ _ _ _ _ _ y0 y1 y2

end Cert.MlaProjIdeal.Row

end
-- ==== Proof.lean ====
/- The proof of the claim: the frames, the values of the five kernels against their references, and the preservation
   claims, each from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.PostSsd
public import proofs.«01_k».proof.Proof.Gen.PostSsd.Skeleton
public import proofs.«01_k».proof.Proof.Gen.PostSsd.Launch
public import proofs.«01_k».proof.Proof.Gen.PostSsd.Points
public import proofs.«01_k».proof.Proof.Gen.PostSsd.Frame
public import proofs.«01_k».proof.Proof.Gen.PostSsdIdeal
public import proofs.«01_k».proof.Proof.Gen.PostSsdIdeal.Skeleton
public import proofs.«01_k».proof.Proof.Gen.PostSsdIdeal.Launch
public import proofs.«01_k».proof.Proof.Gen.PostSsdIdeal.Points
public import proofs.«01_k».proof.Proof.Gen.PostSsdIdeal.Frame
public import proofs.«01_k».proof.Proof.Gen.LayerEndIdeal
public import proofs.«01_k».proof.Proof.Gen.PostMla
public import proofs.«01_k».proof.Proof.Gen.PostMla.Skeleton
public import proofs.«01_k».proof.Proof.Gen.PostMla.Launch
public import proofs.«01_k».proof.Proof.Gen.PostMla.Points
public import proofs.«01_k».proof.Proof.Gen.PostMla.Frame
public import proofs.«01_k».proof.Proof.Gen.PostMlaIdeal
public import proofs.«01_k».proof.Proof.Gen.PostMlaIdeal.Skeleton
public import proofs.«01_k».proof.Proof.Gen.PostMlaIdeal.Launch
public import proofs.«01_k».proof.Proof.Gen.PostMlaIdeal.Points
public import proofs.«01_k».proof.Proof.Gen.PostMlaIdeal.Frame
public import proofs.«01_k».proof.Proof.Gen.LayerMidIdeal
public import proofs.«01_k».proof.Proof.Gen.PostSsdIdeal.Value
public import proofs.«01_k».proof.Proof.Gen.PostMlaIdeal.Value
public import proofs.«01_k».proof.Proof.Gen.ReferenceIdeal.Run
public import proofs.«01_k».proof.Proof.Gen.ReferenceIdeal.Read
public import proofs.«01_k».proof.Proof.Gen.LayerMidIdeal.Run
public import proofs.«01_k».proof.Proof.Gen.LayerMidIdeal.Read
public import proofs.«01_k».proof.Proof.Gen.Pre_scores_finite
public import proofs.«01_k».proof.Proof.Gen.SsdIn
public import proofs.«01_k».proof.Proof.Gen.SsdIn.Frame
public import proofs.«01_k».proof.Proof.Gen.SsdInIdeal
public import proofs.«01_k».proof.Proof.Gen.SsdInIdeal.Frame
public import proofs.«01_k».proof.Proof.Gen.SsdInIdeal.Value
public import proofs.«01_k».proof.Proof.Gen.SsdProjIdeal
public import proofs.«01_k».proof.Proof.Gen.SsdProjIdeal.Run
public import proofs.«01_k».proof.Proof.Gen.SsdProjIdeal.Read
public import proofs.«01_k».proof.Proof.Gen.MlaProj
public import proofs.«01_k».proof.Proof.Gen.MlaProj.Frame
public import proofs.«01_k».proof.Proof.Gen.MlaProjIdeal
public import proofs.«01_k».proof.Proof.Gen.MlaProjIdeal.Frame
public import proofs.«01_k».proof.Proof.Gen.MlaProjIdeal.Value
public import proofs.«01_k».proof.Proof.Gen.LatentQkvIdeal
public import proofs.«01_k».proof.Proof.Gen.LatentQkvIdeal.Run
public import proofs.«01_k».proof.Proof.Gen.LatentQkvIdeal.Read
public import proofs.«01_k».proof.Proof.AttnFrame
public import proofs.«01_k».proof.Proof.AttnClaim
public import proofs.«01_k».proof.Proof.PostFrame
public import proofs.«01_k».proof.Proof.SsdClaim
public import proofs.«01_k».proof.Proof.MlaClaim
public import proofs.«01_k».proof.Proof.InClaim
public import proofs.«01_k».proof.Proof.QkvClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.PostSsd.Gen.facts, Cert.PostSsdIdeal.Gen.facts,
  Cert.LayerEndIdeal.Gen.facts, Cert.PostMla.Gen.facts, Cert.PostMlaIdeal.Gen.facts, Cert.LayerMidIdeal.Gen.facts, Cert.SsdIn.Gen.facts, Cert.SsdInIdeal.Gen.facts,
  Cert.SsdProjIdeal.Gen.facts, Cert.MlaProj.Gen.facts, Cert.MlaProjIdeal.Gen.facts, Cert.LatentQkvIdeal.Gen.facts, Cert.Pre_scores_finite.Gen.facts,
  Cert.KernelIdeal.Attn.frame_bits, Cert.KernelIdeal.Attn.frame_ideal, Cert.KernelIdeal.Attn.frame_ideal_finite, Cert.KernelIdeal.Attn.frame_reference,
  Cert.KernelIdeal.Attn.frame_reference_finite, Cert.PostFrame.ssd, Cert.PostFrame.ssd_ideal, Cert.PostFrame.last, Cert.PostFrame.mla, Cert.PostFrame.mla_ideal,
  Cert.PostFrame.mid, Cert.SsdInIdeal.Row.frame_bits, Cert.SsdInIdeal.Row.frame_ideal, Cert.SsdProjIdeal.Row.frame,
  Cert.MlaProjIdeal.Row.frame_bits, Cert.MlaProjIdeal.Row.frame_ideal, Cert.LatentQkvIdeal.Row.frame, trivial, Cert.KernelIdeal.Attn.algebraic, trivial, Cert.PostSsdIdeal.Row.algebraic, trivial, Cert.PostMlaIdeal.Row.algebraic,
  trivial, Cert.SsdInIdeal.Row.algebraic, trivial, Cert.MlaProjIdeal.Row.algebraic⟩

end Cert.Proof

end
